-- ==== Defs.lean ====
def Pre_AttnP (m : (ℓ : Loc Cert.AttnP.nD Cert.AttnP.τ Cert.AttnP.sig) → Buf (Elt Bits) ℓ) : Prop :=
  True

def Pre_AttnPIdeal (m : (ℓ : Loc Cert.AttnPIdeal.nD Cert.AttnPIdeal.τ Cert.AttnPIdeal.sig) → Buf (Elt Ideal) ℓ) : Prop :=
  True

def Pre_AttnRIdeal (m : (ℓ : Loc Cert.AttnRIdeal.nD Cert.AttnRIdeal.τ Cert.AttnRIdeal.sig) → Buf (Elt Ideal) ℓ) : Prop :=
  True

def Pre_KvP (m : (ℓ : Loc Cert.KvP.nD Cert.KvP.τ Cert.KvP.sig) → Buf (Elt Bits) ℓ) : Prop :=
  True

def Pre_KvPIdeal (m : (ℓ : Loc Cert.KvPIdeal.nD Cert.KvPIdeal.τ Cert.KvPIdeal.sig) → Buf (Elt Ideal) ℓ) : Prop :=
  True

def Pre_KvRIdeal (m : (ℓ : Loc Cert.KvRIdeal.nD Cert.KvRIdeal.τ Cert.KvRIdeal.sig) → Buf (Elt Ideal) ℓ) : Prop :=
  True

def Pre_FfnP (m : (ℓ : Loc Cert.FfnP.nD Cert.FfnP.τ Cert.FfnP.sig) → Buf (Elt Bits) ℓ) : Prop :=
  True

def Pre_FfnPIdeal (m : (ℓ : Loc Cert.FfnPIdeal.nD Cert.FfnPIdeal.τ Cert.FfnPIdeal.sig) → Buf (Elt Ideal) ℓ) : Prop :=
  True

def Pre_FfnRIdeal (m : (ℓ : Loc Cert.FfnRIdeal.nD Cert.FfnRIdeal.τ Cert.FfnRIdeal.sig) → Buf (Elt Ideal) ℓ) : Prop :=
  True

def Pre_PostP (m : (ℓ : Loc Cert.PostP.nD Cert.PostP.τ Cert.PostP.sig) → Buf (Elt Bits) ℓ) : Prop :=
  True

def Pre_PostPIdeal (m : (ℓ : Loc Cert.PostPIdeal.nD Cert.PostPIdeal.τ Cert.PostPIdeal.sig) → Buf (Elt Ideal) ℓ) : Prop :=
  True

def Pre_PostRIdeal (m : (ℓ : Loc Cert.PostRIdeal.nD Cert.PostRIdeal.τ Cert.PostRIdeal.sig) → Buf (Elt Ideal) ℓ) : Prop :=
  True

def Pre_ProjP (m : (ℓ : Loc Cert.ProjP.nD Cert.ProjP.τ Cert.ProjP.sig) → Buf (Elt Bits) ℓ) : Prop :=
  True

def Pre_ProjPIdeal (m : (ℓ : Loc Cert.ProjPIdeal.nD Cert.ProjPIdeal.τ Cert.ProjPIdeal.sig) → Buf (Elt Ideal) ℓ) : Prop :=
  True

def Pre_ProjRIdeal (m : (ℓ : Loc Cert.ProjRIdeal.nD Cert.ProjRIdeal.τ Cert.ProjRIdeal.sig) → Buf (Elt Ideal) ℓ) : Prop :=
  True

def Pre_MixSP (m : (ℓ : Loc Cert.MixSP.nD Cert.MixSP.τ Cert.MixSP.sig) → Buf (Elt Bits) ℓ) : Prop :=
  True

def Pre_MixSPIdeal (m : (ℓ : Loc Cert.MixSPIdeal.nD Cert.MixSPIdeal.τ Cert.MixSPIdeal.sig) → Buf (Elt Ideal) ℓ) : Prop :=
  True

def Pre_MixSRIdeal (m : (ℓ : Loc Cert.MixSRIdeal.nD Cert.MixSRIdeal.τ Cert.MixSRIdeal.sig) → Buf (Elt Ideal) ℓ) : Prop :=
  True

def quiescent_AttnP [hAttnP : Cert.AttnP.Facts] : Prop :=
  ∀ (m : (ℓ : Loc Cert.AttnP.nD Cert.AttnP.τ Cert.AttnP.sig) → Buf (Elt Bits) ℓ) (g : Dev Cert.AttnP.nD → PrngReg), Pre_AttnP m →
    θ_run (Cert.AttnP.defs (F := Bits)) (onTc (τ := Cert.AttnP.τ) (Cert.AttnP.main (F := Bits))) ⟨m, fun _ => 0, g⟩ (fun r => (∀ c : Dev Cert.AttnP.nD,
      r.2.mem ((c.tc : Thread Cert.AttnP.nD Cert.AttnP.τ).loc Cert.AttnP.main_arg0) = m ((c.tc : Thread Cert.AttnP.nD Cert.AttnP.τ).loc Cert.AttnP.main_arg0)
      ∧ r.2.mem ((c.tc : Thread Cert.AttnP.nD Cert.AttnP.τ).loc Cert.AttnP.main_arg1) = m ((c.tc : Thread Cert.AttnP.nD Cert.AttnP.τ).loc Cert.AttnP.main_arg1)
      ∧ r.2.mem ((c.tc : Thread Cert.AttnP.nD Cert.AttnP.τ).loc Cert.AttnP.main_arg2) = m ((c.tc : Thread Cert.AttnP.nD Cert.AttnP.τ).loc Cert.AttnP.main_arg2)
      ∧ r.2.mem ((c.tc : Thread Cert.AttnP.nD Cert.AttnP.τ).loc Cert.AttnP.main_arg3) = m ((c.tc : Thread Cert.AttnP.nD Cert.AttnP.τ).loc Cert.AttnP.main_arg3)
      ∧ r.2.mem ((c.tc : Thread Cert.AttnP.nD Cert.AttnP.τ).loc Cert.AttnP.main_arg4) = m ((c.tc : Thread Cert.AttnP.nD Cert.AttnP.τ).loc Cert.AttnP.main_arg4)
      ∧ r.2.mem ((c.tc : Thread Cert.AttnP.nD Cert.AttnP.τ).loc Cert.AttnP.main_arg5) = m ((c.tc : Thread Cert.AttnP.nD Cert.AttnP.τ).loc Cert.AttnP.main_arg5)
      ∧ r.2.mem ((c.tc : Thread Cert.AttnP.nD Cert.AttnP.τ).loc Cert.AttnP.main_arg6) = m ((c.tc : Thread Cert.AttnP.nD Cert.AttnP.τ).loc Cert.AttnP.main_arg6)
      ∧ r.2.mem ((c.tc : Thread Cert.AttnP.nD Cert.AttnP.τ).loc Cert.AttnP.main_arg7) = m ((c.tc : Thread Cert.AttnP.nD Cert.AttnP.τ).loc Cert.AttnP.main_arg7)
      ∧ r.2.mem ((c.tc : Thread Cert.AttnP.nD Cert.AttnP.τ).loc Cert.AttnP.main_arg8) = m ((c.tc : Thread Cert.AttnP.nD Cert.AttnP.τ).loc Cert.AttnP.main_arg8)
      ∧ r.2.mem ((c.tc : Thread Cert.AttnP.nD Cert.AttnP.τ).loc Cert.AttnP.main_arg9) = m ((c.tc : Thread Cert.AttnP.nD Cert.AttnP.τ).loc Cert.AttnP.main_arg9)
      ∧ r.2.mem ((c.tc : Thread Cert.AttnP.nD Cert.AttnP.τ).loc Cert.AttnP.main_arg10) = m ((c.tc : Thread Cert.AttnP.nD Cert.AttnP.τ).loc Cert.AttnP.main_arg10)
      ∧ r.2.mem ((c.tc : Thread Cert.AttnP.nD Cert.AttnP.τ).loc Cert.AttnP.main_arg11) = m ((c.tc : Thread Cert.AttnP.nD Cert.AttnP.τ).loc Cert.AttnP.main_arg11))
      ∧ r.2.sem = fun _ => 0)

def quiescent_AttnPIdeal [hAttnPIdeal : Cert.AttnPIdeal.Facts] : Prop :=
  ∀ (m : (ℓ : Loc Cert.AttnPIdeal.nD Cert.AttnPIdeal.τ Cert.AttnPIdeal.sig) → Buf (Elt Ideal) ℓ) (g : Dev Cert.AttnPIdeal.nD → PrngReg), Pre_AttnPIdeal m →
    θ_run (Cert.AttnPIdeal.defs (F := Ideal)) (onTc (τ := Cert.AttnPIdeal.τ) (Cert.AttnPIdeal.main (F := Ideal))) ⟨m, fun _ => 0, g⟩ (fun r => (∀ c : Dev Cert.AttnPIdeal.nD,
      r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
      ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
      ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2)
      ∧ r.2.mem ((c.tc : Thread Cert.AttnPIdeal.nD Cert.AttnPIdeal.τ).loc Cert.AttnPIdeal.main_arg3) = m ((c.tc : Thread Cert.AttnPIdeal.nD Cert.AttnPIdeal.τ).loc Cert.AttnPIdeal.main_arg3)
      ∧ r.2.mem ((c.tc : Thread Cert.AttnPIdeal.nD Cert.AttnPIdeal.τ).loc Cert.AttnPIdeal.main_arg4) = m ((c.tc : Thread Cert.AttnPIdeal.nD Cert.AttnPIdeal.τ).loc Cert.AttnPIdeal.main_arg4)
      ∧ r.2.mem ((c.tc : Thread Cert.AttnPIdeal.nD Cert.AttnPIdeal.τ).loc Cert.AttnPIdeal.main_arg5) = m ((c.tc : Thread Cert.AttnPIdeal.nD Cert.AttnPIdeal.τ).loc Cert.AttnPIdeal.main_arg5)
      ∧ r.2.mem ((c.tc : Thread Cert.AttnPIdeal.nD Cert.AttnPIdeal.τ).loc Cert.AttnPIdeal.main_arg6) = m ((c.tc : Thread Cert.AttnPIdeal.nD Cert.AttnPIdeal.τ).loc Cert.AttnPIdeal.main_arg6)
      ∧ r.2.mem ((c.tc : Thread Cert.AttnPIdeal.nD Cert.AttnPIdeal.τ).loc Cert.AttnPIdeal.main_arg7) = m ((c.tc : Thread Cert.AttnPIdeal.nD Cert.AttnPIdeal.τ).loc Cert.AttnPIdeal.main_arg7)
      ∧ r.2.mem ((c.tc : Thread Cert.AttnPIdeal.nD Cert.AttnPIdeal.τ).loc Cert.AttnPIdeal.main_arg8) = m ((c.tc : Thread Cert.AttnPIdeal.nD Cert.AttnPIdeal.τ).loc Cert.AttnPIdeal.main_arg8)
      ∧ r.2.mem ((c.tc : Thread Cert.AttnPIdeal.nD Cert.AttnPIdeal.τ).loc Cert.AttnPIdeal.main_arg9) = m ((c.tc : Thread Cert.AttnPIdeal.nD Cert.AttnPIdeal.τ).loc Cert.AttnPIdeal.main_arg9)
      ∧ r.2.mem ((c.tc : Thread Cert.AttnPIdeal.nD Cert.AttnPIdeal.τ).loc Cert.AttnPIdeal.main_arg10) = m ((c.tc : Thread Cert.AttnPIdeal.nD Cert.AttnPIdeal.τ).loc Cert.AttnPIdeal.main_arg10)
      ∧ r.2.mem ((c.tc : Thread Cert.AttnPIdeal.nD Cert.AttnPIdeal.τ).loc Cert.AttnPIdeal.main_arg11) = m ((c.tc : Thread Cert.AttnPIdeal.nD Cert.AttnPIdeal.τ).loc Cert.AttnPIdeal.main_arg11))
      ∧ r.2.sem = fun _ => 0)

def quiescent_AttnRIdeal [hAttnRIdeal : Cert.AttnRIdeal.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2)
      ∧ r.2.mem ((c.tc : Thread Cert.AttnRIdeal.nD Cert.AttnRIdeal.τ).loc Cert.AttnRIdeal.main_arg3) = m ((c.tc : Thread Cert.AttnRIdeal.nD Cert.AttnRIdeal.τ).loc Cert.AttnRIdeal.main_arg3)
      ∧ r.2.mem ((c.tc : Thread Cert.AttnRIdeal.nD Cert.AttnRIdeal.τ).loc Cert.AttnRIdeal.main_arg4) = m ((c.tc : Thread Cert.AttnRIdeal.nD Cert.AttnRIdeal.τ).loc Cert.AttnRIdeal.main_arg4)
      ∧ r.2.mem ((c.tc : Thread Cert.AttnRIdeal.nD Cert.AttnRIdeal.τ).loc Cert.AttnRIdeal.main_arg5) = m ((c.tc : Thread Cert.AttnRIdeal.nD Cert.AttnRIdeal.τ).loc Cert.AttnRIdeal.main_arg5)
      ∧ r.2.mem ((c.tc : Thread Cert.AttnRIdeal.nD Cert.AttnRIdeal.τ).loc Cert.AttnRIdeal.main_arg6) = m ((c.tc : Thread Cert.AttnRIdeal.nD Cert.AttnRIdeal.τ).loc Cert.AttnRIdeal.main_arg6)
      ∧ r.2.mem ((c.tc : Thread Cert.AttnRIdeal.nD Cert.AttnRIdeal.τ).loc Cert.AttnRIdeal.main_arg7) = m ((c.tc : Thread Cert.AttnRIdeal.nD Cert.AttnRIdeal.τ).loc Cert.AttnRIdeal.main_arg7)
      ∧ r.2.mem ((c.tc : Thread Cert.AttnRIdeal.nD Cert.AttnRIdeal.τ).loc Cert.AttnRIdeal.main_arg8) = m ((c.tc : Thread Cert.AttnRIdeal.nD Cert.AttnRIdeal.τ).loc Cert.AttnRIdeal.main_arg8)
      ∧ r.2.mem ((c.tc : Thread Cert.AttnRIdeal.nD Cert.AttnRIdeal.τ).loc Cert.AttnRIdeal.main_arg9) = m ((c.tc : Thread Cert.AttnRIdeal.nD Cert.AttnRIdeal.τ).loc Cert.AttnRIdeal.main_arg9)
      ∧ r.2.mem ((c.tc : Thread Cert.AttnRIdeal.nD Cert.AttnRIdeal.τ).loc Cert.AttnRIdeal.main_arg10) = m ((c.tc : Thread Cert.AttnRIdeal.nD Cert.AttnRIdeal.τ).loc Cert.AttnRIdeal.main_arg10)
      ∧ r.2.mem ((c.tc : Thread Cert.AttnRIdeal.nD Cert.AttnRIdeal.τ).loc Cert.AttnRIdeal.main_arg11) = m ((c.tc : Thread Cert.AttnRIdeal.nD Cert.AttnRIdeal.τ).loc Cert.AttnRIdeal.main_arg11))
      ∧ r.2.sem = fun _ => 0)

def quiescent_KvP [hKvP : Cert.KvP.Facts] : Prop :=
  ∀ (m : (ℓ : Loc Cert.KvP.nD Cert.KvP.τ Cert.KvP.sig) → Buf (Elt Bits) ℓ) (g : Dev Cert.KvP.nD → PrngReg), Pre_KvP m →
    θ_run (Cert.KvP.defs (F := Bits)) (onTc (τ := Cert.KvP.τ) (Cert.KvP.main (F := Bits))) ⟨m, fun _ => 0, g⟩ (fun r => (∀ c : Dev Cert.KvP.nD,
      r.2.mem ((c.tc : Thread Cert.KvP.nD Cert.KvP.τ).loc Cert.KvP.main_arg0) = m ((c.tc : Thread Cert.KvP.nD Cert.KvP.τ).loc Cert.KvP.main_arg0)
      ∧ r.2.mem ((c.tc : Thread Cert.KvP.nD Cert.KvP.τ).loc Cert.KvP.main_arg1) = m ((c.tc : Thread Cert.KvP.nD Cert.KvP.τ).loc Cert.KvP.main_arg1)
      ∧ r.2.mem ((c.tc : Thread Cert.KvP.nD Cert.KvP.τ).loc Cert.KvP.main_arg2) = m ((c.tc : Thread Cert.KvP.nD Cert.KvP.τ).loc Cert.KvP.main_arg2)
      ∧ r.2.mem ((c.tc : Thread Cert.KvP.nD Cert.KvP.τ).loc Cert.KvP.main_arg3) = m ((c.tc : Thread Cert.KvP.nD Cert.KvP.τ).loc Cert.KvP.main_arg3))
      ∧ r.2.sem = fun _ => 0)

def quiescent_KvPIdeal [hKvPIdeal : Cert.KvPIdeal.Facts] : Prop :=
  ∀ (m : (ℓ : Loc Cert.KvPIdeal.nD Cert.KvPIdeal.τ Cert.KvPIdeal.sig) → Buf (Elt Ideal) ℓ) (g : Dev Cert.KvPIdeal.nD → PrngReg), Pre_KvPIdeal m →
    θ_run (Cert.KvPIdeal.defs (F := Ideal)) (onTc (τ := Cert.KvPIdeal.τ) (Cert.KvPIdeal.main (F := Ideal))) ⟨m, fun _ => 0, g⟩ (fun r => (∀ c : Dev Cert.KvPIdeal.nD,
      r.2.mem ((c.tc : Thread Cert.KvPIdeal.nD Cert.KvPIdeal.τ).loc Cert.KvPIdeal.main_arg0) = m ((c.tc : Thread Cert.KvPIdeal.nD Cert.KvPIdeal.τ).loc Cert.KvPIdeal.main_arg0)
      ∧ r.2.mem ((c.tc : Thread Cert.KvPIdeal.nD Cert.KvPIdeal.τ).loc Cert.KvPIdeal.main_arg1) = m ((c.tc : Thread Cert.KvPIdeal.nD Cert.KvPIdeal.τ).loc Cert.KvPIdeal.main_arg1)
      ∧ r.2.mem ((c.tc : Thread Cert.KvPIdeal.nD Cert.KvPIdeal.τ).loc Cert.KvPIdeal.main_arg2) = m ((c.tc : Thread Cert.KvPIdeal.nD Cert.KvPIdeal.τ).loc Cert.KvPIdeal.main_arg2)
      ∧ r.2.mem ((c.tc : Thread Cert.KvPIdeal.nD Cert.KvPIdeal.τ).loc Cert.KvPIdeal.main_arg3) = m ((c.tc : Thread Cert.KvPIdeal.nD Cert.KvPIdeal.τ).loc Cert.KvPIdeal.main_arg3))
      ∧ r.2.sem = fun _ => 0)

def quiescent_KvRIdeal [hKvRIdeal : Cert.KvRIdeal.Facts] : Prop :=
  ∀ (m : (ℓ : Loc Cert.KvRIdeal.nD Cert.KvRIdeal.τ Cert.KvRIdeal.sig) → Buf (Elt Ideal) ℓ) (g : Dev Cert.KvRIdeal.nD → PrngReg), Pre_KvRIdeal m →
    θ_run (Cert.KvRIdeal.defs (F := Ideal)) (onTc (τ := Cert.KvRIdeal.τ) (Cert.KvRIdeal.main (F := Ideal))) ⟨m, fun _ => 0, g⟩ (fun r => (∀ c : Dev Cert.KvRIdeal.nD,
      r.2.mem ((c.tc : Thread Cert.KvRIdeal.nD Cert.KvRIdeal.τ).loc Cert.KvRIdeal.main_arg0) = m ((c.tc : Thread Cert.KvRIdeal.nD Cert.KvRIdeal.τ).loc Cert.KvRIdeal.main_arg0)
      ∧ r.2.mem ((c.tc : Thread Cert.KvRIdeal.nD Cert.KvRIdeal.τ).loc Cert.KvRIdeal.main_arg1) = m ((c.tc : Thread Cert.KvRIdeal.nD Cert.KvRIdeal.τ).loc Cert.KvRIdeal.main_arg1)
      ∧ r.2.mem ((c.tc : Thread Cert.KvRIdeal.nD Cert.KvRIdeal.τ).loc Cert.KvRIdeal.main_arg2) = m ((c.tc : Thread Cert.KvRIdeal.nD Cert.KvRIdeal.τ).loc Cert.KvRIdeal.main_arg2)
      ∧ r.2.mem ((c.tc : Thread Cert.KvRIdeal.nD Cert.KvRIdeal.τ).loc Cert.KvRIdeal.main_arg3) = m ((c.tc : Thread Cert.KvRIdeal.nD Cert.KvRIdeal.τ).loc Cert.KvRIdeal.main_arg3))
      ∧ r.2.sem = fun _ => 0)

def quiescent_FfnP [hFfnP : Cert.FfnP.Facts] : Prop :=
  ∀ (m : (ℓ : Loc Cert.FfnP.nD Cert.FfnP.τ Cert.FfnP.sig) → Buf (Elt Bits) ℓ) (g : Dev Cert.FfnP.nD → PrngReg), Pre_FfnP m →
    θ_run (Cert.FfnP.defs (F := Bits)) (onTc (τ := Cert.FfnP.τ) (Cert.FfnP.main (F := Bits))) ⟨m, fun _ => 0, g⟩ (fun r => (∀ c : Dev Cert.FfnP.nD,
      r.2.mem ((c.tc : Thread Cert.FfnP.nD Cert.FfnP.τ).loc Cert.FfnP.main_arg0) = m ((c.tc : Thread Cert.FfnP.nD Cert.FfnP.τ).loc Cert.FfnP.main_arg0)
      ∧ r.2.mem ((c.tc : Thread Cert.FfnP.nD Cert.FfnP.τ).loc Cert.FfnP.main_arg1) = m ((c.tc : Thread Cert.FfnP.nD Cert.FfnP.τ).loc Cert.FfnP.main_arg1)
      ∧ r.2.mem ((c.tc : Thread Cert.FfnP.nD Cert.FfnP.τ).loc Cert.FfnP.main_arg2) = m ((c.tc : Thread Cert.FfnP.nD Cert.FfnP.τ).loc Cert.FfnP.main_arg2)
      ∧ r.2.mem ((c.tc : Thread Cert.FfnP.nD Cert.FfnP.τ).loc Cert.FfnP.main_arg3) = m ((c.tc : Thread Cert.FfnP.nD Cert.FfnP.τ).loc Cert.FfnP.main_arg3)
      ∧ r.2.mem ((c.tc : Thread Cert.FfnP.nD Cert.FfnP.τ).loc Cert.FfnP.main_arg4) = m ((c.tc : Thread Cert.FfnP.nD Cert.FfnP.τ).loc Cert.FfnP.main_arg4)
      ∧ r.2.mem ((c.tc : Thread Cert.FfnP.nD Cert.FfnP.τ).loc Cert.FfnP.main_arg5) = m ((c.tc : Thread Cert.FfnP.nD Cert.FfnP.τ).loc Cert.FfnP.main_arg5)
      ∧ r.2.mem ((c.tc : Thread Cert.FfnP.nD Cert.FfnP.τ).loc Cert.FfnP.main_arg6) = m ((c.tc : Thread Cert.FfnP.nD Cert.FfnP.τ).loc Cert.FfnP.main_arg6)
      ∧ r.2.mem ((c.tc : Thread Cert.FfnP.nD Cert.FfnP.τ).loc Cert.FfnP.main_arg7) = m ((c.tc : Thread Cert.FfnP.nD Cert.FfnP.τ).loc Cert.FfnP.main_arg7)
      ∧ r.2.mem ((c.tc : Thread Cert.FfnP.nD Cert.FfnP.τ).loc Cert.FfnP.main_arg8) = m ((c.tc : Thread Cert.FfnP.nD Cert.FfnP.τ).loc Cert.FfnP.main_arg8))
      ∧ r.2.sem = fun _ => 0)

def quiescent_FfnPIdeal [hFfnPIdeal : Cert.FfnPIdeal.Facts] : Prop :=
  ∀ (m : (ℓ : Loc Cert.FfnPIdeal.nD Cert.FfnPIdeal.τ Cert.FfnPIdeal.sig) → Buf (Elt Ideal) ℓ) (g : Dev Cert.FfnPIdeal.nD → PrngReg), Pre_FfnPIdeal m →
    θ_run (Cert.FfnPIdeal.defs (F := Ideal)) (onTc (τ := Cert.FfnPIdeal.τ) (Cert.FfnPIdeal.main (F := Ideal))) ⟨m, fun _ => 0, g⟩ (fun r => (∀ c : Dev Cert.FfnPIdeal.nD,
      r.2.mem ((c.tc : Thread Cert.FfnPIdeal.nD Cert.FfnPIdeal.τ).loc Cert.FfnPIdeal.main_arg0) = m ((c.tc : Thread Cert.FfnPIdeal.nD Cert.FfnPIdeal.τ).loc Cert.FfnPIdeal.main_arg0)
      ∧ r.2.mem ((c.tc : Thread Cert.FfnPIdeal.nD Cert.FfnPIdeal.τ).loc Cert.FfnPIdeal.main_arg1) = m ((c.tc : Thread Cert.FfnPIdeal.nD Cert.FfnPIdeal.τ).loc Cert.FfnPIdeal.main_arg1)
      ∧ r.2.mem ((c.tc : Thread Cert.FfnPIdeal.nD Cert.FfnPIdeal.τ).loc Cert.FfnPIdeal.main_arg2) = m ((c.tc : Thread Cert.FfnPIdeal.nD Cert.FfnPIdeal.τ).loc Cert.FfnPIdeal.main_arg2)
      ∧ r.2.mem ((c.tc : Thread Cert.FfnPIdeal.nD Cert.FfnPIdeal.τ).loc Cert.FfnPIdeal.main_arg3) = m ((c.tc : Thread Cert.FfnPIdeal.nD Cert.FfnPIdeal.τ).loc Cert.FfnPIdeal.main_arg3)
      ∧ r.2.mem ((c.tc : Thread Cert.FfnPIdeal.nD Cert.FfnPIdeal.τ).loc Cert.FfnPIdeal.main_arg4) = m ((c.tc : Thread Cert.FfnPIdeal.nD Cert.FfnPIdeal.τ).loc Cert.FfnPIdeal.main_arg4)
      ∧ r.2.mem ((c.tc : Thread Cert.FfnPIdeal.nD Cert.FfnPIdeal.τ).loc Cert.FfnPIdeal.main_arg5) = m ((c.tc : Thread Cert.FfnPIdeal.nD Cert.FfnPIdeal.τ).loc Cert.FfnPIdeal.main_arg5)
      ∧ r.2.mem ((c.tc : Thread Cert.FfnPIdeal.nD Cert.FfnPIdeal.τ).loc Cert.FfnPIdeal.main_arg6) = m ((c.tc : Thread Cert.FfnPIdeal.nD Cert.FfnPIdeal.τ).loc Cert.FfnPIdeal.main_arg6)
      ∧ r.2.mem ((c.tc : Thread Cert.FfnPIdeal.nD Cert.FfnPIdeal.τ).loc Cert.FfnPIdeal.main_arg7) = m ((c.tc : Thread Cert.FfnPIdeal.nD Cert.FfnPIdeal.τ).loc Cert.FfnPIdeal.main_arg7)
      ∧ r.2.mem ((c.tc : Thread Cert.FfnPIdeal.nD Cert.FfnPIdeal.τ).loc Cert.FfnPIdeal.main_arg8) = m ((c.tc : Thread Cert.FfnPIdeal.nD Cert.FfnPIdeal.τ).loc Cert.FfnPIdeal.main_arg8))
      ∧ r.2.sem = fun _ => 0)

def quiescent_FfnRIdeal [hFfnRIdeal : Cert.FfnRIdeal.Facts] : Prop :=
  ∀ (m : (ℓ : Loc Cert.FfnRIdeal.nD Cert.FfnRIdeal.τ Cert.FfnRIdeal.sig) → Buf (Elt Ideal) ℓ) (g : Dev Cert.FfnRIdeal.nD → PrngReg), Pre_FfnRIdeal m →
    θ_run (Cert.FfnRIdeal.defs (F := Ideal)) (onTc (τ := Cert.FfnRIdeal.τ) (Cert.FfnRIdeal.main (F := Ideal))) ⟨m, fun _ => 0, g⟩ (fun r => (∀ c : Dev Cert.FfnRIdeal.nD,
      r.2.mem ((c.tc : Thread Cert.FfnRIdeal.nD Cert.FfnRIdeal.τ).loc Cert.FfnRIdeal.main_arg0) = m ((c.tc : Thread Cert.FfnRIdeal.nD Cert.FfnRIdeal.τ).loc Cert.FfnRIdeal.main_arg0)
      ∧ r.2.mem ((c.tc : Thread Cert.FfnRIdeal.nD Cert.FfnRIdeal.τ).loc Cert.FfnRIdeal.main_arg1) = m ((c.tc : Thread Cert.FfnRIdeal.nD Cert.FfnRIdeal.τ).loc Cert.FfnRIdeal.main_arg1)
      ∧ r.2.mem ((c.tc : Thread Cert.FfnRIdeal.nD Cert.FfnRIdeal.τ).loc Cert.FfnRIdeal.main_arg2) = m ((c.tc : Thread Cert.FfnRIdeal.nD Cert.FfnRIdeal.τ).loc Cert.FfnRIdeal.main_arg2)
      ∧ r.2.mem ((c.tc : Thread Cert.FfnRIdeal.nD Cert.FfnRIdeal.τ).loc Cert.FfnRIdeal.main_arg3) = m ((c.tc : Thread Cert.FfnRIdeal.nD Cert.FfnRIdeal.τ).loc Cert.FfnRIdeal.main_arg3)
      ∧ r.2.mem ((c.tc : Thread Cert.FfnRIdeal.nD Cert.FfnRIdeal.τ).loc Cert.FfnRIdeal.main_arg4) = m ((c.tc : Thread Cert.FfnRIdeal.nD Cert.FfnRIdeal.τ).loc Cert.FfnRIdeal.main_arg4)
      ∧ r.2.mem ((c.tc : Thread Cert.FfnRIdeal.nD Cert.FfnRIdeal.τ).loc Cert.FfnRIdeal.main_arg5) = m ((c.tc : Thread Cert.FfnRIdeal.nD Cert.FfnRIdeal.τ).loc Cert.FfnRIdeal.main_arg5)
      ∧ r.2.mem ((c.tc : Thread Cert.FfnRIdeal.nD Cert.FfnRIdeal.τ).loc Cert.FfnRIdeal.main_arg6) = m ((c.tc : Thread Cert.FfnRIdeal.nD Cert.FfnRIdeal.τ).loc Cert.FfnRIdeal.main_arg6)
      ∧ r.2.mem ((c.tc : Thread Cert.FfnRIdeal.nD Cert.FfnRIdeal.τ).loc Cert.FfnRIdeal.main_arg7) = m ((c.tc : Thread Cert.FfnRIdeal.nD Cert.FfnRIdeal.τ).loc Cert.FfnRIdeal.main_arg7)
      ∧ r.2.mem ((c.tc : Thread Cert.FfnRIdeal.nD Cert.FfnRIdeal.τ).loc Cert.FfnRIdeal.main_arg8) = m ((c.tc : Thread Cert.FfnRIdeal.nD Cert.FfnRIdeal.τ).loc Cert.FfnRIdeal.main_arg8))
      ∧ r.2.sem = fun _ => 0)

def quiescent_PostP [hPostP : Cert.PostP.Facts] : Prop :=
  ∀ (m : (ℓ : Loc Cert.PostP.nD Cert.PostP.τ Cert.PostP.sig) → Buf (Elt Bits) ℓ) (g : Dev Cert.PostP.nD → PrngReg), Pre_PostP m →
    θ_run (Cert.PostP.defs (F := Bits)) (onTc (τ := Cert.PostP.τ) (Cert.PostP.main (F := Bits))) ⟨m, fun _ => 0, g⟩ (fun r => (∀ c : Dev Cert.PostP.nD,
      r.2.mem ((c.tc : Thread Cert.PostP.nD Cert.PostP.τ).loc Cert.PostP.main_arg0) = m ((c.tc : Thread Cert.PostP.nD Cert.PostP.τ).loc Cert.PostP.main_arg0)
      ∧ r.2.mem ((c.tc : Thread Cert.PostP.nD Cert.PostP.τ).loc Cert.PostP.main_arg1) = m ((c.tc : Thread Cert.PostP.nD Cert.PostP.τ).loc Cert.PostP.main_arg1)
      ∧ r.2.mem ((c.tc : Thread Cert.PostP.nD Cert.PostP.τ).loc Cert.PostP.main_arg2) = m ((c.tc : Thread Cert.PostP.nD Cert.PostP.τ).loc Cert.PostP.main_arg2)
      ∧ r.2.mem ((c.tc : Thread Cert.PostP.nD Cert.PostP.τ).loc Cert.PostP.main_arg3) = m ((c.tc : Thread Cert.PostP.nD Cert.PostP.τ).loc Cert.PostP.main_arg3)
      ∧ r.2.mem ((c.tc : Thread Cert.PostP.nD Cert.PostP.τ).loc Cert.PostP.main_arg4) = m ((c.tc : Thread Cert.PostP.nD Cert.PostP.τ).loc Cert.PostP.main_arg4)
      ∧ r.2.mem ((c.tc : Thread Cert.PostP.nD Cert.PostP.τ).loc Cert.PostP.main_arg5) = m ((c.tc : Thread Cert.PostP.nD Cert.PostP.τ).loc Cert.PostP.main_arg5))
      ∧ r.2.sem = fun _ => 0)

def quiescent_PostPIdeal [hPostPIdeal : Cert.PostPIdeal.Facts] : Prop :=
  ∀ (m : (ℓ : Loc Cert.PostPIdeal.nD Cert.PostPIdeal.τ Cert.PostPIdeal.sig) → Buf (Elt Ideal) ℓ) (g : Dev Cert.PostPIdeal.nD → PrngReg), Pre_PostPIdeal m →
    θ_run (Cert.PostPIdeal.defs (F := Ideal)) (onTc (τ := Cert.PostPIdeal.τ) (Cert.PostPIdeal.main (F := Ideal))) ⟨m, fun _ => 0, g⟩ (fun r => (∀ c : Dev Cert.PostPIdeal.nD,
      r.2.mem ((c.tc : Thread Cert.PostPIdeal.nD Cert.PostPIdeal.τ).loc Cert.PostPIdeal.main_arg0) = m ((c.tc : Thread Cert.PostPIdeal.nD Cert.PostPIdeal.τ).loc Cert.PostPIdeal.main_arg0)
      ∧ r.2.mem ((c.tc : Thread Cert.PostPIdeal.nD Cert.PostPIdeal.τ).loc Cert.PostPIdeal.main_arg1) = m ((c.tc : Thread Cert.PostPIdeal.nD Cert.PostPIdeal.τ).loc Cert.PostPIdeal.main_arg1)
      ∧ r.2.mem ((c.tc : Thread Cert.PostPIdeal.nD Cert.PostPIdeal.τ).loc Cert.PostPIdeal.main_arg2) = m ((c.tc : Thread Cert.PostPIdeal.nD Cert.PostPIdeal.τ).loc Cert.PostPIdeal.main_arg2)
      ∧ r.2.mem ((c.tc : Thread Cert.PostPIdeal.nD Cert.PostPIdeal.τ).loc Cert.PostPIdeal.main_arg3) = m ((c.tc : Thread Cert.PostPIdeal.nD Cert.PostPIdeal.τ).loc Cert.PostPIdeal.main_arg3)
      ∧ r.2.mem ((c.tc : Thread Cert.PostPIdeal.nD Cert.PostPIdeal.τ).loc Cert.PostPIdeal.main_arg4) = m ((c.tc : Thread Cert.PostPIdeal.nD Cert.PostPIdeal.τ).loc Cert.PostPIdeal.main_arg4)
      ∧ r.2.mem ((c.tc : Thread Cert.PostPIdeal.nD Cert.PostPIdeal.τ).loc Cert.PostPIdeal.main_arg5) = m ((c.tc : Thread Cert.PostPIdeal.nD Cert.PostPIdeal.τ).loc Cert.PostPIdeal.main_arg5))
      ∧ r.2.sem = fun _ => 0)

def quiescent_PostRIdeal [hPostRIdeal : Cert.PostRIdeal.Facts] : Prop :=
  ∀ (m : (ℓ : Loc Cert.PostRIdeal.nD Cert.PostRIdeal.τ Cert.PostRIdeal.sig) → Buf (Elt Ideal) ℓ) (g : Dev Cert.PostRIdeal.nD → PrngReg), Pre_PostRIdeal m →
    θ_run (Cert.PostRIdeal.defs (F := Ideal)) (onTc (τ := Cert.PostRIdeal.τ) (Cert.PostRIdeal.main (F := Ideal))) ⟨m, fun _ => 0, g⟩ (fun r => (∀ c : Dev Cert.PostRIdeal.nD,
      r.2.mem ((c.tc : Thread Cert.PostRIdeal.nD Cert.PostRIdeal.τ).loc Cert.PostRIdeal.main_arg0) = m ((c.tc : Thread Cert.PostRIdeal.nD Cert.PostRIdeal.τ).loc Cert.PostRIdeal.main_arg0)
      ∧ r.2.mem ((c.tc : Thread Cert.PostRIdeal.nD Cert.PostRIdeal.τ).loc Cert.PostRIdeal.main_arg1) = m ((c.tc : Thread Cert.PostRIdeal.nD Cert.PostRIdeal.τ).loc Cert.PostRIdeal.main_arg1)
      ∧ r.2.mem ((c.tc : Thread Cert.PostRIdeal.nD Cert.PostRIdeal.τ).loc Cert.PostRIdeal.main_arg2) = m ((c.tc : Thread Cert.PostRIdeal.nD Cert.PostRIdeal.τ).loc Cert.PostRIdeal.main_arg2)
      ∧ r.2.mem ((c.tc : Thread Cert.PostRIdeal.nD Cert.PostRIdeal.τ).loc Cert.PostRIdeal.main_arg3) = m ((c.tc : Thread Cert.PostRIdeal.nD Cert.PostRIdeal.τ).loc Cert.PostRIdeal.main_arg3)
      ∧ r.2.mem ((c.tc : Thread Cert.PostRIdeal.nD Cert.PostRIdeal.τ).loc Cert.PostRIdeal.main_arg4) = m ((c.tc : Thread Cert.PostRIdeal.nD Cert.PostRIdeal.τ).loc Cert.PostRIdeal.main_arg4)
      ∧ r.2.mem ((c.tc : Thread Cert.PostRIdeal.nD Cert.PostRIdeal.τ).loc Cert.PostRIdeal.main_arg5) = m ((c.tc : Thread Cert.PostRIdeal.nD Cert.PostRIdeal.τ).loc Cert.PostRIdeal.main_arg5))
      ∧ r.2.sem = fun _ => 0)

def quiescent_ProjP [hProjP : Cert.ProjP.Facts] : Prop :=
  ∀ (m : (ℓ : Loc Cert.ProjP.nD Cert.ProjP.τ Cert.ProjP.sig) → Buf (Elt Bits) ℓ) (g : Dev Cert.ProjP.nD → PrngReg), Pre_ProjP m →
    θ_run (Cert.ProjP.defs (F := Bits)) (onTc (τ := Cert.ProjP.τ) (Cert.ProjP.main (F := Bits))) ⟨m, fun _ => 0, g⟩ (fun r => (∀ c : Dev Cert.ProjP.nD,
      r.2.mem ((c.tc : Thread Cert.ProjP.nD Cert.ProjP.τ).loc Cert.ProjP.main_arg0) = m ((c.tc : Thread Cert.ProjP.nD Cert.ProjP.τ).loc Cert.ProjP.main_arg0)
      ∧ r.2.mem ((c.tc : Thread Cert.ProjP.nD Cert.ProjP.τ).loc Cert.ProjP.main_arg1) = m ((c.tc : Thread Cert.ProjP.nD Cert.ProjP.τ).loc Cert.ProjP.main_arg1)
      ∧ r.2.mem ((c.tc : Thread Cert.ProjP.nD Cert.ProjP.τ).loc Cert.ProjP.main_arg2) = m ((c.tc : Thread Cert.ProjP.nD Cert.ProjP.τ).loc Cert.ProjP.main_arg2)
      ∧ r.2.mem ((c.tc : Thread Cert.ProjP.nD Cert.ProjP.τ).loc Cert.ProjP.main_arg3) = m ((c.tc : Thread Cert.ProjP.nD Cert.ProjP.τ).loc Cert.ProjP.main_arg3))
      ∧ r.2.sem = fun _ => 0)

def quiescent_ProjPIdeal [hProjPIdeal : Cert.ProjPIdeal.Facts] : Prop :=
  ∀ (m : (ℓ : Loc Cert.ProjPIdeal.nD Cert.ProjPIdeal.τ Cert.ProjPIdeal.sig) → Buf (Elt Ideal) ℓ) (g : Dev Cert.ProjPIdeal.nD → PrngReg), Pre_ProjPIdeal m →
    θ_run (Cert.ProjPIdeal.defs (F := Ideal)) (onTc (τ := Cert.ProjPIdeal.τ) (Cert.ProjPIdeal.main (F := Ideal))) ⟨m, fun _ => 0, g⟩ (fun r => (∀ c : Dev Cert.ProjPIdeal.nD,
      r.2.mem ((c.tc : Thread Cert.ProjPIdeal.nD Cert.ProjPIdeal.τ).loc Cert.ProjPIdeal.main_arg0) = m ((c.tc : Thread Cert.ProjPIdeal.nD Cert.ProjPIdeal.τ).loc Cert.ProjPIdeal.main_arg0)
      ∧ r.2.mem ((c.tc : Thread Cert.ProjPIdeal.nD Cert.ProjPIdeal.τ).loc Cert.ProjPIdeal.main_arg1) = m ((c.tc : Thread Cert.ProjPIdeal.nD Cert.ProjPIdeal.τ).loc Cert.ProjPIdeal.main_arg1)
      ∧ r.2.mem ((c.tc : Thread Cert.ProjPIdeal.nD Cert.ProjPIdeal.τ).loc Cert.ProjPIdeal.main_arg2) = m ((c.tc : Thread Cert.ProjPIdeal.nD Cert.ProjPIdeal.τ).loc Cert.ProjPIdeal.main_arg2)
      ∧ r.2.mem ((c.tc : Thread Cert.ProjPIdeal.nD Cert.ProjPIdeal.τ).loc Cert.ProjPIdeal.main_arg3) = m ((c.tc : Thread Cert.ProjPIdeal.nD Cert.ProjPIdeal.τ).loc Cert.ProjPIdeal.main_arg3))
      ∧ r.2.sem = fun _ => 0)

def quiescent_ProjRIdeal [hProjRIdeal : Cert.ProjRIdeal.Facts] : Prop :=
  ∀ (m : (ℓ : Loc Cert.ProjRIdeal.nD Cert.ProjRIdeal.τ Cert.ProjRIdeal.sig) → Buf (Elt Ideal) ℓ) (g : Dev Cert.ProjRIdeal.nD → PrngReg), Pre_ProjRIdeal m →
    θ_run (Cert.ProjRIdeal.defs (F := Ideal)) (onTc (τ := Cert.ProjRIdeal.τ) (Cert.ProjRIdeal.main (F := Ideal))) ⟨m, fun _ => 0, g⟩ (fun r => (∀ c : Dev Cert.ProjRIdeal.nD,
      r.2.mem ((c.tc : Thread Cert.ProjRIdeal.nD Cert.ProjRIdeal.τ).loc Cert.ProjRIdeal.main_arg0) = m ((c.tc : Thread Cert.ProjRIdeal.nD Cert.ProjRIdeal.τ).loc Cert.ProjRIdeal.main_arg0)
      ∧ r.2.mem ((c.tc : Thread Cert.ProjRIdeal.nD Cert.ProjRIdeal.τ).loc Cert.ProjRIdeal.main_arg1) = m ((c.tc : Thread Cert.ProjRIdeal.nD Cert.ProjRIdeal.τ).loc Cert.ProjRIdeal.main_arg1)
      ∧ r.2.mem ((c.tc : Thread Cert.ProjRIdeal.nD Cert.ProjRIdeal.τ).loc Cert.ProjRIdeal.main_arg2) = m ((c.tc : Thread Cert.ProjRIdeal.nD Cert.ProjRIdeal.τ).loc Cert.ProjRIdeal.main_arg2)
      ∧ r.2.mem ((c.tc : Thread Cert.ProjRIdeal.nD Cert.ProjRIdeal.τ).loc Cert.ProjRIdeal.main_arg3) = m ((c.tc : Thread Cert.ProjRIdeal.nD Cert.ProjRIdeal.τ).loc Cert.ProjRIdeal.main_arg3))
      ∧ r.2.sem = fun _ => 0)

def quiescent_MixSP [hMixSP : Cert.MixSP.Facts] : Prop :=
  ∀ (m : (ℓ : Loc Cert.MixSP.nD Cert.MixSP.τ Cert.MixSP.sig) → Buf (Elt Bits) ℓ) (g : Dev Cert.MixSP.nD → PrngReg), Pre_MixSP m →
    θ_run (Cert.MixSP.defs (F := Bits)) (onTc (τ := Cert.MixSP.τ) (Cert.MixSP.main (F := Bits))) ⟨m, fun _ => 0, g⟩ (fun r => (∀ c : Dev Cert.MixSP.nD,
      r.2.mem ((c.tc : Thread Cert.MixSP.nD Cert.MixSP.τ).loc Cert.MixSP.main_arg0) = m ((c.tc : Thread Cert.MixSP.nD Cert.MixSP.τ).loc Cert.MixSP.main_arg0)
      ∧ r.2.mem ((c.tc : Thread Cert.MixSP.nD Cert.MixSP.τ).loc Cert.MixSP.main_arg1) = m ((c.tc : Thread Cert.MixSP.nD Cert.MixSP.τ).loc Cert.MixSP.main_arg1)
      ∧ r.2.mem ((c.tc : Thread Cert.MixSP.nD Cert.MixSP.τ).loc Cert.MixSP.main_arg2) = m ((c.tc : Thread Cert.MixSP.nD Cert.MixSP.τ).loc Cert.MixSP.main_arg2)
      ∧ r.2.mem ((c.tc : Thread Cert.MixSP.nD Cert.MixSP.τ).loc Cert.MixSP.main_arg3) = m ((c.tc : Thread Cert.MixSP.nD Cert.MixSP.τ).loc Cert.MixSP.main_arg3)
      ∧ r.2.mem ((c.tc : Thread Cert.MixSP.nD Cert.MixSP.τ).loc Cert.MixSP.main_arg4) = m ((c.tc : Thread Cert.MixSP.nD Cert.MixSP.τ).loc Cert.MixSP.main_arg4)
      ∧ r.2.mem ((c.tc : Thread Cert.MixSP.nD Cert.MixSP.τ).loc Cert.MixSP.main_arg5) = m ((c.tc : Thread Cert.MixSP.nD Cert.MixSP.τ).loc Cert.MixSP.main_arg5)
      ∧ r.2.mem ((c.tc : Thread Cert.MixSP.nD Cert.MixSP.τ).loc Cert.MixSP.main_arg6) = m ((c.tc : Thread Cert.MixSP.nD Cert.MixSP.τ).loc Cert.MixSP.main_arg6)
      ∧ r.2.mem ((c.tc : Thread Cert.MixSP.nD Cert.MixSP.τ).loc Cert.MixSP.main_arg7) = m ((c.tc : Thread Cert.MixSP.nD Cert.MixSP.τ).loc Cert.MixSP.main_arg7)
      ∧ r.2.mem ((c.tc : Thread Cert.MixSP.nD Cert.MixSP.τ).loc Cert.MixSP.main_arg8) = m ((c.tc : Thread Cert.MixSP.nD Cert.MixSP.τ).loc Cert.MixSP.main_arg8)
      ∧ r.2.mem ((c.tc : Thread Cert.MixSP.nD Cert.MixSP.τ).loc Cert.MixSP.main_arg9) = m ((c.tc : Thread Cert.MixSP.nD Cert.MixSP.τ).loc Cert.MixSP.main_arg9)
      ∧ r.2.mem ((c.tc : Thread Cert.MixSP.nD Cert.MixSP.τ).loc Cert.MixSP.main_arg10) = m ((c.tc : Thread Cert.MixSP.nD Cert.MixSP.τ).loc Cert.MixSP.main_arg10)
      ∧ r.2.mem ((c.tc : Thread Cert.MixSP.nD Cert.MixSP.τ).loc Cert.MixSP.main_arg11) = m ((c.tc : Thread Cert.MixSP.nD Cert.MixSP.τ).loc Cert.MixSP.main_arg11)
      ∧ r.2.mem ((c.tc : Thread Cert.MixSP.nD Cert.MixSP.τ).loc Cert.MixSP.main_arg12) = m ((c.tc : Thread Cert.MixSP.nD Cert.MixSP.τ).loc Cert.MixSP.main_arg12))
      ∧ r.2.sem = fun _ => 0)

def quiescent_MixSPIdeal [hMixSPIdeal : Cert.MixSPIdeal.Facts] : Prop :=
  ∀ (m : (ℓ : Loc Cert.MixSPIdeal.nD Cert.MixSPIdeal.τ Cert.MixSPIdeal.sig) → Buf (Elt Ideal) ℓ) (g : Dev Cert.MixSPIdeal.nD → PrngReg), Pre_MixSPIdeal m →
    θ_run (Cert.MixSPIdeal.defs (F := Ideal)) (onTc (τ := Cert.MixSPIdeal.τ) (Cert.MixSPIdeal.main (F := Ideal))) ⟨m, fun _ => 0, g⟩ (fun r => (∀ c : Dev Cert.MixSPIdeal.nD,
      r.2.mem ((c.tc : Thread Cert.MixSPIdeal.nD Cert.MixSPIdeal.τ).loc Cert.MixSPIdeal.main_arg0) = m ((c.tc : Thread Cert.MixSPIdeal.nD Cert.MixSPIdeal.τ).loc Cert.MixSPIdeal.main_arg0)
      ∧ r.2.mem ((c.tc : Thread Cert.MixSPIdeal.nD Cert.MixSPIdeal.τ).loc Cert.MixSPIdeal.main_arg1) = m ((c.tc : Thread Cert.MixSPIdeal.nD Cert.MixSPIdeal.τ).loc Cert.MixSPIdeal.main_arg1)
      ∧ r.2.mem ((c.tc : Thread Cert.MixSPIdeal.nD Cert.MixSPIdeal.τ).loc Cert.MixSPIdeal.main_arg2) = m ((c.tc : Thread Cert.MixSPIdeal.nD Cert.MixSPIdeal.τ).loc Cert.MixSPIdeal.main_arg2)
      ∧ r.2.mem ((c.tc : Thread Cert.MixSPIdeal.nD Cert.MixSPIdeal.τ).loc Cert.MixSPIdeal.main_arg3) = m ((c.tc : Thread Cert.MixSPIdeal.nD Cert.MixSPIdeal.τ).loc Cert.MixSPIdeal.main_arg3)
      ∧ r.2.mem ((c.tc : Thread Cert.MixSPIdeal.nD Cert.MixSPIdeal.τ).loc Cert.MixSPIdeal.main_arg4) = m ((c.tc : Thread Cert.MixSPIdeal.nD Cert.MixSPIdeal.τ).loc Cert.MixSPIdeal.main_arg4)
      ∧ r.2.mem ((c.tc : Thread Cert.MixSPIdeal.nD Cert.MixSPIdeal.τ).loc Cert.MixSPIdeal.main_arg5) = m ((c.tc : Thread Cert.MixSPIdeal.nD Cert.MixSPIdeal.τ).loc Cert.MixSPIdeal.main_arg5)
      ∧ r.2.mem ((c.tc : Thread Cert.MixSPIdeal.nD Cert.MixSPIdeal.τ).loc Cert.MixSPIdeal.main_arg6) = m ((c.tc : Thread Cert.MixSPIdeal.nD Cert.MixSPIdeal.τ).loc Cert.MixSPIdeal.main_arg6)
      ∧ r.2.mem ((c.tc : Thread Cert.MixSPIdeal.nD Cert.MixSPIdeal.τ).loc Cert.MixSPIdeal.main_arg7) = m ((c.tc : Thread Cert.MixSPIdeal.nD Cert.MixSPIdeal.τ).loc Cert.MixSPIdeal.main_arg7)
      ∧ r.2.mem ((c.tc : Thread Cert.MixSPIdeal.nD Cert.MixSPIdeal.τ).loc Cert.MixSPIdeal.main_arg8) = m ((c.tc : Thread Cert.MixSPIdeal.nD Cert.MixSPIdeal.τ).loc Cert.MixSPIdeal.main_arg8)
      ∧ r.2.mem ((c.tc : Thread Cert.MixSPIdeal.nD Cert.MixSPIdeal.τ).loc Cert.MixSPIdeal.main_arg9) = m ((c.tc : Thread Cert.MixSPIdeal.nD Cert.MixSPIdeal.τ).loc Cert.MixSPIdeal.main_arg9)
      ∧ r.2.mem ((c.tc : Thread Cert.MixSPIdeal.nD Cert.MixSPIdeal.τ).loc Cert.MixSPIdeal.main_arg10) = m ((c.tc : Thread Cert.MixSPIdeal.nD Cert.MixSPIdeal.τ).loc Cert.MixSPIdeal.main_arg10)
      ∧ r.2.mem ((c.tc : Thread Cert.MixSPIdeal.nD Cert.MixSPIdeal.τ).loc Cert.MixSPIdeal.main_arg11) = m ((c.tc : Thread Cert.MixSPIdeal.nD Cert.MixSPIdeal.τ).loc Cert.MixSPIdeal.main_arg11)
      ∧ r.2.mem ((c.tc : Thread Cert.MixSPIdeal.nD Cert.MixSPIdeal.τ).loc Cert.MixSPIdeal.main_arg12) = m ((c.tc : Thread Cert.MixSPIdeal.nD Cert.MixSPIdeal.τ).loc Cert.MixSPIdeal.main_arg12))
      ∧ r.2.sem = fun _ => 0)

def quiescent_MixSRIdeal [hMixSRIdeal : Cert.MixSRIdeal.Facts] : Prop :=
  ∀ (m : (ℓ : Loc Cert.MixSRIdeal.nD Cert.MixSRIdeal.τ Cert.MixSRIdeal.sig) → Buf (Elt Ideal) ℓ) (g : Dev Cert.MixSRIdeal.nD → PrngReg), Pre_MixSRIdeal m →
    θ_run (Cert.MixSRIdeal.defs (F := Ideal)) (onTc (τ := Cert.MixSRIdeal.τ) (Cert.MixSRIdeal.main (F := Ideal))) ⟨m, fun _ => 0, g⟩ (fun r => (∀ c : Dev Cert.MixSRIdeal.nD,
      r.2.mem ((c.tc : Thread Cert.MixSRIdeal.nD Cert.MixSRIdeal.τ).loc Cert.MixSRIdeal.main_arg0) = m ((c.tc : Thread Cert.MixSRIdeal.nD Cert.MixSRIdeal.τ).loc Cert.MixSRIdeal.main_arg0)
      ∧ r.2.mem ((c.tc : Thread Cert.MixSRIdeal.nD Cert.MixSRIdeal.τ).loc Cert.MixSRIdeal.main_arg1) = m ((c.tc : Thread Cert.MixSRIdeal.nD Cert.MixSRIdeal.τ).loc Cert.MixSRIdeal.main_arg1)
      ∧ r.2.mem ((c.tc : Thread Cert.MixSRIdeal.nD Cert.MixSRIdeal.τ).loc Cert.MixSRIdeal.main_arg2) = m ((c.tc : Thread Cert.MixSRIdeal.nD Cert.MixSRIdeal.τ).loc Cert.MixSRIdeal.main_arg2)
      ∧ r.2.mem ((c.tc : Thread Cert.MixSRIdeal.nD Cert.MixSRIdeal.τ).loc Cert.MixSRIdeal.main_arg3) = m ((c.tc : Thread Cert.MixSRIdeal.nD Cert.MixSRIdeal.τ).loc Cert.MixSRIdeal.main_arg3)
      ∧ r.2.mem ((c.tc : Thread Cert.MixSRIdeal.nD Cert.MixSRIdeal.τ).loc Cert.MixSRIdeal.main_arg4) = m ((c.tc : Thread Cert.MixSRIdeal.nD Cert.MixSRIdeal.τ).loc Cert.MixSRIdeal.main_arg4)
      ∧ r.2.mem ((c.tc : Thread Cert.MixSRIdeal.nD Cert.MixSRIdeal.τ).loc Cert.MixSRIdeal.main_arg5) = m ((c.tc : Thread Cert.MixSRIdeal.nD Cert.MixSRIdeal.τ).loc Cert.MixSRIdeal.main_arg5)
      ∧ r.2.mem ((c.tc : Thread Cert.MixSRIdeal.nD Cert.MixSRIdeal.τ).loc Cert.MixSRIdeal.main_arg6) = m ((c.tc : Thread Cert.MixSRIdeal.nD Cert.MixSRIdeal.τ).loc Cert.MixSRIdeal.main_arg6)
      ∧ r.2.mem ((c.tc : Thread Cert.MixSRIdeal.nD Cert.MixSRIdeal.τ).loc Cert.MixSRIdeal.main_arg7) = m ((c.tc : Thread Cert.MixSRIdeal.nD Cert.MixSRIdeal.τ).loc Cert.MixSRIdeal.main_arg7)
      ∧ r.2.mem ((c.tc : Thread Cert.MixSRIdeal.nD Cert.MixSRIdeal.τ).loc Cert.MixSRIdeal.main_arg8) = m ((c.tc : Thread Cert.MixSRIdeal.nD Cert.MixSRIdeal.τ).loc Cert.MixSRIdeal.main_arg8)
      ∧ r.2.mem ((c.tc : Thread Cert.MixSRIdeal.nD Cert.MixSRIdeal.τ).loc Cert.MixSRIdeal.main_arg9) = m ((c.tc : Thread Cert.MixSRIdeal.nD Cert.MixSRIdeal.τ).loc Cert.MixSRIdeal.main_arg9)
      ∧ r.2.mem ((c.tc : Thread Cert.MixSRIdeal.nD Cert.MixSRIdeal.τ).loc Cert.MixSRIdeal.main_arg10) = m ((c.tc : Thread Cert.MixSRIdeal.nD Cert.MixSRIdeal.τ).loc Cert.MixSRIdeal.main_arg10)
      ∧ r.2.mem ((c.tc : Thread Cert.MixSRIdeal.nD Cert.MixSRIdeal.τ).loc Cert.MixSRIdeal.main_arg11) = m ((c.tc : Thread Cert.MixSRIdeal.nD Cert.MixSRIdeal.τ).loc Cert.MixSRIdeal.main_arg11)
      ∧ r.2.mem ((c.tc : Thread Cert.MixSRIdeal.nD Cert.MixSRIdeal.τ).loc Cert.MixSRIdeal.main_arg12) = m ((c.tc : Thread Cert.MixSRIdeal.nD Cert.MixSRIdeal.τ).loc Cert.MixSRIdeal.main_arg12))
      ∧ r.2.sem = fun _ => 0)

def preserves_AttnP_AttnPIdeal : Prop :=
  True

def algebraic_AttnPIdeal_AttnRIdeal [hAttnPIdeal : Cert.AttnPIdeal.Facts] [hAttnRIdeal : Cert.AttnRIdeal.Facts] : Prop :=
  ∀ (m : (ℓ : Loc Cert.AttnPIdeal.nD Cert.AttnPIdeal.τ Cert.AttnPIdeal.sig) → Buf (Elt Ideal) ℓ) (g : Dev Cert.AttnPIdeal.nD → PrngReg)
    (m' : (ℓ : Loc Cert.AttnRIdeal.nD Cert.AttnRIdeal.τ Cert.AttnRIdeal.sig) → Buf (Elt Ideal) ℓ) (g' : Dev Cert.AttnRIdeal.nD → PrngReg), Pre_AttnPIdeal m →
    (∀ c : Dev Cert.AttnPIdeal.nD,
      m' ((c.tc : Thread Cert.AttnRIdeal.nD Cert.AttnRIdeal.τ).loc Cert.AttnRIdeal.main_arg0) = m ((c.tc : Thread Cert.AttnPIdeal.nD Cert.AttnPIdeal.τ).loc Cert.AttnPIdeal.main_arg0)
      ∧ m' ((c.tc : Thread Cert.AttnRIdeal.nD Cert.AttnRIdeal.τ).loc Cert.AttnRIdeal.main_arg1) = m ((c.tc : Thread Cert.AttnPIdeal.nD Cert.AttnPIdeal.τ).loc Cert.AttnPIdeal.main_arg1)
      ∧ m' ((c.tc : Thread Cert.AttnRIdeal.nD Cert.AttnRIdeal.τ).loc Cert.AttnRIdeal.main_arg2) = m ((c.tc : Thread Cert.AttnPIdeal.nD Cert.AttnPIdeal.τ).loc Cert.AttnPIdeal.main_arg2)
      ∧ m' ((c.tc : Thread Cert.AttnRIdeal.nD Cert.AttnRIdeal.τ).loc Cert.AttnRIdeal.main_arg3) = m ((c.tc : Thread Cert.AttnPIdeal.nD Cert.AttnPIdeal.τ).loc Cert.AttnPIdeal.main_arg3)
      ∧ m' ((c.tc : Thread Cert.AttnRIdeal.nD Cert.AttnRIdeal.τ).loc Cert.AttnRIdeal.main_arg4) = m ((c.tc : Thread Cert.AttnPIdeal.nD Cert.AttnPIdeal.τ).loc Cert.AttnPIdeal.main_arg4)
      ∧ m' ((c.tc : Thread Cert.AttnRIdeal.nD Cert.AttnRIdeal.τ).loc Cert.AttnRIdeal.main_arg5) = m ((c.tc : Thread Cert.AttnPIdeal.nD Cert.AttnPIdeal.τ).loc Cert.AttnPIdeal.main_arg5)
      ∧ m' ((c.tc : Thread Cert.AttnRIdeal.nD Cert.AttnRIdeal.τ).loc Cert.AttnRIdeal.main_arg6) = m ((c.tc : Thread Cert.AttnPIdeal.nD Cert.AttnPIdeal.τ).loc Cert.AttnPIdeal.main_arg6)
      ∧ m' ((c.tc : Thread Cert.AttnRIdeal.nD Cert.AttnRIdeal.τ).loc Cert.AttnRIdeal.main_arg7) = m ((c.tc : Thread Cert.AttnPIdeal.nD Cert.AttnPIdeal.τ).loc Cert.AttnPIdeal.main_arg7)
      ∧ m' ((c.tc : Thread Cert.AttnRIdeal.nD Cert.AttnRIdeal.τ).loc Cert.AttnRIdeal.main_arg8) = m ((c.tc : Thread Cert.AttnPIdeal.nD Cert.AttnPIdeal.τ).loc Cert.AttnPIdeal.main_arg8)
      ∧ m' ((c.tc : Thread Cert.AttnRIdeal.nD Cert.AttnRIdeal.τ).loc Cert.AttnRIdeal.main_arg9) = m ((c.tc : Thread Cert.AttnPIdeal.nD Cert.AttnPIdeal.τ).loc Cert.AttnPIdeal.main_arg9)
      ∧ m' ((c.tc : Thread Cert.AttnRIdeal.nD Cert.AttnRIdeal.τ).loc Cert.AttnRIdeal.main_arg10) = m ((c.tc : Thread Cert.AttnPIdeal.nD Cert.AttnPIdeal.τ).loc Cert.AttnPIdeal.main_arg10)
      ∧ m' ((c.tc : Thread Cert.AttnRIdeal.nD Cert.AttnRIdeal.τ).loc Cert.AttnRIdeal.main_arg11) = m ((c.tc : Thread Cert.AttnPIdeal.nD Cert.AttnPIdeal.τ).loc Cert.AttnPIdeal.main_arg11)) →
    ∃ (v0 : (c : Dev Cert.AttnPIdeal.nD) → Buf (Elt Ideal) ((c.tc : Thread Cert.AttnPIdeal.nD Cert.AttnPIdeal.τ).loc Cert.AttnPIdeal.main_v24)),
      θ_run (Cert.AttnPIdeal.defs (F := Ideal)) (onTc (τ := Cert.AttnPIdeal.τ) (Cert.AttnPIdeal.main (F := Ideal))) ⟨m, fun _ => 0, g⟩ (fun r => ∀ c : Dev Cert.AttnPIdeal.nD,
          r.2.mem ((c.tc : Thread Cert.AttnPIdeal.nD Cert.AttnPIdeal.τ).loc Cert.AttnPIdeal.main_v24) = v0 c
          ∧ r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
          ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
          ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2)
          ∧ r.2.mem ((c.tc : Thread Cert.AttnPIdeal.nD Cert.AttnPIdeal.τ).loc Cert.AttnPIdeal.main_arg3) = m ((c.tc : Thread Cert.AttnPIdeal.nD Cert.AttnPIdeal.τ).loc Cert.AttnPIdeal.main_arg3)
          ∧ r.2.mem ((c.tc : Thread Cert.AttnPIdeal.nD Cert.AttnPIdeal.τ).loc Cert.AttnPIdeal.main_arg4) = m ((c.tc : Thread Cert.AttnPIdeal.nD Cert.AttnPIdeal.τ).loc Cert.AttnPIdeal.main_arg4)
          ∧ r.2.mem ((c.tc : Thread Cert.AttnPIdeal.nD Cert.AttnPIdeal.τ).loc Cert.AttnPIdeal.main_arg5) = m ((c.tc : Thread Cert.AttnPIdeal.nD Cert.AttnPIdeal.τ).loc Cert.AttnPIdeal.main_arg5)
          ∧ r.2.mem ((c.tc : Thread Cert.AttnPIdeal.nD Cert.AttnPIdeal.τ).loc Cert.AttnPIdeal.main_arg6) = m ((c.tc : Thread Cert.AttnPIdeal.nD Cert.AttnPIdeal.τ).loc Cert.AttnPIdeal.main_arg6)
          ∧ r.2.mem ((c.tc : Thread Cert.AttnPIdeal.nD Cert.AttnPIdeal.τ).loc Cert.AttnPIdeal.main_arg7) = m ((c.tc : Thread Cert.AttnPIdeal.nD Cert.AttnPIdeal.τ).loc Cert.AttnPIdeal.main_arg7)
          ∧ r.2.mem ((c.tc : Thread Cert.AttnPIdeal.nD Cert.AttnPIdeal.τ).loc Cert.AttnPIdeal.main_arg8) = m ((c.tc : Thread Cert.AttnPIdeal.nD Cert.AttnPIdeal.τ).loc Cert.AttnPIdeal.main_arg8)
          ∧ r.2.mem ((c.tc : Thread Cert.AttnPIdeal.nD Cert.AttnPIdeal.τ).loc Cert.AttnPIdeal.main_arg9) = m ((c.tc : Thread Cert.AttnPIdeal.nD Cert.AttnPIdeal.τ).loc Cert.AttnPIdeal.main_arg9)
          ∧ r.2.mem ((c.tc : Thread Cert.AttnPIdeal.nD Cert.AttnPIdeal.τ).loc Cert.AttnPIdeal.main_arg10) = m ((c.tc : Thread Cert.AttnPIdeal.nD Cert.AttnPIdeal.τ).loc Cert.AttnPIdeal.main_arg10)
          ∧ r.2.mem ((c.tc : Thread Cert.AttnPIdeal.nD Cert.AttnPIdeal.τ).loc Cert.AttnPIdeal.main_arg11) = m ((c.tc : Thread Cert.AttnPIdeal.nD Cert.AttnPIdeal.τ).loc Cert.AttnPIdeal.main_arg11))
      ∧ θ_run (Cert.AttnRIdeal.defs (F := Ideal)) (onTc (τ := Cert.AttnRIdeal.τ) (Cert.AttnRIdeal.main (F := Ideal))) ⟨m', fun _ => 0, g'⟩ (fun r => ∀ c : Dev Cert.AttnRIdeal.nD,
          r.2.mem ((c.tc : Thread Cert.AttnRIdeal.nD Cert.AttnRIdeal.τ).loc Cert.AttnRIdeal.main_v87) = v0 c
          ∧ r.2.mem ((c.tc : Thread Cert.AttnRIdeal.nD Cert.AttnRIdeal.τ).loc Cert.AttnRIdeal.main_arg0) = m' ((c.tc : Thread Cert.AttnRIdeal.nD Cert.AttnRIdeal.τ).loc Cert.AttnRIdeal.main_arg0)
          ∧ r.2.mem ((c.tc : Thread Cert.AttnRIdeal.nD Cert.AttnRIdeal.τ).loc Cert.AttnRIdeal.main_arg1) = m' ((c.tc : Thread Cert.AttnRIdeal.nD Cert.AttnRIdeal.τ).loc Cert.AttnRIdeal.main_arg1)
          ∧ r.2.mem ((c.tc : Thread Cert.AttnRIdeal.nD Cert.AttnRIdeal.τ).loc Cert.AttnRIdeal.main_arg2) = m' ((c.tc : Thread Cert.AttnRIdeal.nD Cert.AttnRIdeal.τ).loc Cert.AttnRIdeal.main_arg2)
          ∧ r.2.mem ((c.tc : Thread Cert.AttnRIdeal.nD Cert.AttnRIdeal.τ).loc Cert.AttnRIdeal.main_arg3) = m' ((c.tc : Thread Cert.AttnRIdeal.nD Cert.AttnRIdeal.τ).loc Cert.AttnRIdeal.main_arg3)
          ∧ r.2.mem ((c.tc : Thread Cert.AttnRIdeal.nD Cert.AttnRIdeal.τ).loc Cert.AttnRIdeal.main_arg4) = m' ((c.tc : Thread Cert.AttnRIdeal.nD Cert.AttnRIdeal.τ).loc Cert.AttnRIdeal.main_arg4)
          ∧ r.2.mem ((c.tc : Thread Cert.AttnRIdeal.nD Cert.AttnRIdeal.τ).loc Cert.AttnRIdeal.main_arg5) = m' ((c.tc : Thread Cert.AttnRIdeal.nD Cert.AttnRIdeal.τ).loc Cert.AttnRIdeal.main_arg5)
          ∧ r.2.mem ((c.tc : Thread Cert.AttnRIdeal.nD Cert.AttnRIdeal.τ).loc Cert.AttnRIdeal.main_arg6) = m' ((c.tc : Thread Cert.AttnRIdeal.nD Cert.AttnRIdeal.τ).loc Cert.AttnRIdeal.main_arg6)
          ∧ r.2.mem ((c.tc : Thread Cert.AttnRIdeal.nD Cert.AttnRIdeal.τ).loc Cert.AttnRIdeal.main_arg7) = m' ((c.tc : Thread Cert.AttnRIdeal.nD Cert.AttnRIdeal.τ).loc Cert.AttnRIdeal.main_arg7)
          ∧ r.2.mem ((c.tc : Thread Cert.AttnRIdeal.nD Cert.AttnRIdeal.τ).loc Cert.AttnRIdeal.main_arg8) = m' ((c.tc : Thread Cert.AttnRIdeal.nD Cert.AttnRIdeal.τ).loc Cert.AttnRIdeal.main_arg8)
          ∧ r.2.mem ((c.tc : Thread Cert.AttnRIdeal.nD Cert.AttnRIdeal.τ).loc Cert.AttnRIdeal.main_arg9) = m' ((c.tc : Thread Cert.AttnRIdeal.nD Cert.AttnRIdeal.τ).loc Cert.AttnRIdeal.main_arg9)
          ∧ r.2.mem ((c.tc : Thread Cert.AttnRIdeal.nD Cert.AttnRIdeal.τ).loc Cert.AttnRIdeal.main_arg10) = m' ((c.tc : Thread Cert.AttnRIdeal.nD Cert.AttnRIdeal.τ).loc Cert.AttnRIdeal.main_arg10)
          ∧ r.2.mem ((c.tc : Thread Cert.AttnRIdeal.nD Cert.AttnRIdeal.τ).loc Cert.AttnRIdeal.main_arg11) = m' ((c.tc : Thread Cert.AttnRIdeal.nD Cert.AttnRIdeal.τ).loc Cert.AttnRIdeal.main_arg11))

def preserves_KvP_KvPIdeal : Prop :=
  True

def algebraic_KvPIdeal_KvRIdeal [hKvPIdeal : Cert.KvPIdeal.Facts] [hKvRIdeal : Cert.KvRIdeal.Facts] : Prop :=
  ∀ (m : (ℓ : Loc Cert.KvPIdeal.nD Cert.KvPIdeal.τ Cert.KvPIdeal.sig) → Buf (Elt Ideal) ℓ) (g : Dev Cert.KvPIdeal.nD → PrngReg)
    (m' : (ℓ : Loc Cert.KvRIdeal.nD Cert.KvRIdeal.τ Cert.KvRIdeal.sig) → Buf (Elt Ideal) ℓ) (g' : Dev Cert.KvRIdeal.nD → PrngReg), Pre_KvPIdeal m →
    (∀ c : Dev Cert.KvPIdeal.nD,
      m' ((c.tc : Thread Cert.KvRIdeal.nD Cert.KvRIdeal.τ).loc Cert.KvRIdeal.main_arg0) = m ((c.tc : Thread Cert.KvPIdeal.nD Cert.KvPIdeal.τ).loc Cert.KvPIdeal.main_arg0)
      ∧ m' ((c.tc : Thread Cert.KvRIdeal.nD Cert.KvRIdeal.τ).loc Cert.KvRIdeal.main_arg1) = m ((c.tc : Thread Cert.KvPIdeal.nD Cert.KvPIdeal.τ).loc Cert.KvPIdeal.main_arg1)
      ∧ m' ((c.tc : Thread Cert.KvRIdeal.nD Cert.KvRIdeal.τ).loc Cert.KvRIdeal.main_arg2) = m ((c.tc : Thread Cert.KvPIdeal.nD Cert.KvPIdeal.τ).loc Cert.KvPIdeal.main_arg2)
      ∧ m' ((c.tc : Thread Cert.KvRIdeal.nD Cert.KvRIdeal.τ).loc Cert.KvRIdeal.main_arg3) = m ((c.tc : Thread Cert.KvPIdeal.nD Cert.KvPIdeal.τ).loc Cert.KvPIdeal.main_arg3)) →
    ∃ (v0 : (c : Dev Cert.KvPIdeal.nD) → Buf (Elt Ideal) ((c.tc : Thread Cert.KvPIdeal.nD Cert.KvPIdeal.τ).loc Cert.KvPIdeal.main_v6_0)) (v1 : (c : Dev Cert.KvPIdeal.nD) → Buf (Elt Ideal) ((c.tc : Thread Cert.KvPIdeal.nD Cert.KvPIdeal.τ).loc Cert.KvPIdeal.main_v6_1)),
      θ_run (Cert.KvPIdeal.defs (F := Ideal)) (onTc (τ := Cert.KvPIdeal.τ) (Cert.KvPIdeal.main (F := Ideal))) ⟨m, fun _ => 0, g⟩ (fun r => ∀ c : Dev Cert.KvPIdeal.nD,
          r.2.mem ((c.tc : Thread Cert.KvPIdeal.nD Cert.KvPIdeal.τ).loc Cert.KvPIdeal.main_v6_0) = v0 c
          ∧ r.2.mem ((c.tc : Thread Cert.KvPIdeal.nD Cert.KvPIdeal.τ).loc Cert.KvPIdeal.main_v6_1) = v1 c
          ∧ r.2.mem ((c.tc : Thread Cert.KvPIdeal.nD Cert.KvPIdeal.τ).loc Cert.KvPIdeal.main_arg0) = m ((c.tc : Thread Cert.KvPIdeal.nD Cert.KvPIdeal.τ).loc Cert.KvPIdeal.main_arg0)
          ∧ r.2.mem ((c.tc : Thread Cert.KvPIdeal.nD Cert.KvPIdeal.τ).loc Cert.KvPIdeal.main_arg1) = m ((c.tc : Thread Cert.KvPIdeal.nD Cert.KvPIdeal.τ).loc Cert.KvPIdeal.main_arg1)
          ∧ r.2.mem ((c.tc : Thread Cert.KvPIdeal.nD Cert.KvPIdeal.τ).loc Cert.KvPIdeal.main_arg2) = m ((c.tc : Thread Cert.KvPIdeal.nD Cert.KvPIdeal.τ).loc Cert.KvPIdeal.main_arg2)
          ∧ r.2.mem ((c.tc : Thread Cert.KvPIdeal.nD Cert.KvPIdeal.τ).loc Cert.KvPIdeal.main_arg3) = m ((c.tc : Thread Cert.KvPIdeal.nD Cert.KvPIdeal.τ).loc Cert.KvPIdeal.main_arg3))
      ∧ θ_run (Cert.KvRIdeal.defs (F := Ideal)) (onTc (τ := Cert.KvRIdeal.τ) (Cert.KvRIdeal.main (F := Ideal))) ⟨m', fun _ => 0, g'⟩ (fun r => ∀ c : Dev Cert.KvRIdeal.nD,
          r.2.mem ((c.tc : Thread Cert.KvRIdeal.nD Cert.KvRIdeal.τ).loc Cert.KvRIdeal.main_v20) = v0 c
          ∧ r.2.mem ((c.tc : Thread Cert.KvRIdeal.nD Cert.KvRIdeal.τ).loc Cert.KvRIdeal.main_v21) = v1 c
          ∧ r.2.mem ((c.tc : Thread Cert.KvRIdeal.nD Cert.KvRIdeal.τ).loc Cert.KvRIdeal.main_arg0) = m' ((c.tc : Thread Cert.KvRIdeal.nD Cert.KvRIdeal.τ).loc Cert.KvRIdeal.main_arg0)
          ∧ r.2.mem ((c.tc : Thread Cert.KvRIdeal.nD Cert.KvRIdeal.τ).loc Cert.KvRIdeal.main_arg1) = m' ((c.tc : Thread Cert.KvRIdeal.nD Cert.KvRIdeal.τ).loc Cert.KvRIdeal.main_arg1)
          ∧ r.2.mem ((c.tc : Thread Cert.KvRIdeal.nD Cert.KvRIdeal.τ).loc Cert.KvRIdeal.main_arg2) = m' ((c.tc : Thread Cert.KvRIdeal.nD Cert.KvRIdeal.τ).loc Cert.KvRIdeal.main_arg2)
          ∧ r.2.mem ((c.tc : Thread Cert.KvRIdeal.nD Cert.KvRIdeal.τ).loc Cert.KvRIdeal.main_arg3) = m' ((c.tc : Thread Cert.KvRIdeal.nD Cert.KvRIdeal.τ).loc Cert.KvRIdeal.main_arg3))

def preserves_FfnP_FfnPIdeal : Prop :=
  True

def algebraic_FfnPIdeal_FfnRIdeal [hFfnPIdeal : Cert.FfnPIdeal.Facts] [hFfnRIdeal : Cert.FfnRIdeal.Facts] : Prop :=
  ∀ (m : (ℓ : Loc Cert.FfnPIdeal.nD Cert.FfnPIdeal.τ Cert.FfnPIdeal.sig) → Buf (Elt Ideal) ℓ) (g : Dev Cert.FfnPIdeal.nD → PrngReg)
    (m' : (ℓ : Loc Cert.FfnRIdeal.nD Cert.FfnRIdeal.τ Cert.FfnRIdeal.sig) → Buf (Elt Ideal) ℓ) (g' : Dev Cert.FfnRIdeal.nD → PrngReg), Pre_FfnPIdeal m →
    (∀ c : Dev Cert.FfnPIdeal.nD,
      m' ((c.tc : Thread Cert.FfnRIdeal.nD Cert.FfnRIdeal.τ).loc Cert.FfnRIdeal.main_arg0) = m ((c.tc : Thread Cert.FfnPIdeal.nD Cert.FfnPIdeal.τ).loc Cert.FfnPIdeal.main_arg0)
      ∧ m' ((c.tc : Thread Cert.FfnRIdeal.nD Cert.FfnRIdeal.τ).loc Cert.FfnRIdeal.main_arg1) = m ((c.tc : Thread Cert.FfnPIdeal.nD Cert.FfnPIdeal.τ).loc Cert.FfnPIdeal.main_arg1)
      ∧ m' ((c.tc : Thread Cert.FfnRIdeal.nD Cert.FfnRIdeal.τ).loc Cert.FfnRIdeal.main_arg2) = m ((c.tc : Thread Cert.FfnPIdeal.nD Cert.FfnPIdeal.τ).loc Cert.FfnPIdeal.main_arg2)
      ∧ m' ((c.tc : Thread Cert.FfnRIdeal.nD Cert.FfnRIdeal.τ).loc Cert.FfnRIdeal.main_arg3) = m ((c.tc : Thread Cert.FfnPIdeal.nD Cert.FfnPIdeal.τ).loc Cert.FfnPIdeal.main_arg3)
      ∧ m' ((c.tc : Thread Cert.FfnRIdeal.nD Cert.FfnRIdeal.τ).loc Cert.FfnRIdeal.main_arg4) = m ((c.tc : Thread Cert.FfnPIdeal.nD Cert.FfnPIdeal.τ).loc Cert.FfnPIdeal.main_arg4)
      ∧ m' ((c.tc : Thread Cert.FfnRIdeal.nD Cert.FfnRIdeal.τ).loc Cert.FfnRIdeal.main_arg5) = m ((c.tc : Thread Cert.FfnPIdeal.nD Cert.FfnPIdeal.τ).loc Cert.FfnPIdeal.main_arg5)
      ∧ m' ((c.tc : Thread Cert.FfnRIdeal.nD Cert.FfnRIdeal.τ).loc Cert.FfnRIdeal.main_arg6) = m ((c.tc : Thread Cert.FfnPIdeal.nD Cert.FfnPIdeal.τ).loc Cert.FfnPIdeal.main_arg6)
      ∧ m' ((c.tc : Thread Cert.FfnRIdeal.nD Cert.FfnRIdeal.τ).loc Cert.FfnRIdeal.main_arg7) = m ((c.tc : Thread Cert.FfnPIdeal.nD Cert.FfnPIdeal.τ).loc Cert.FfnPIdeal.main_arg7)
      ∧ m' ((c.tc : Thread Cert.FfnRIdeal.nD Cert.FfnRIdeal.τ).loc Cert.FfnRIdeal.main_arg8) = m ((c.tc : Thread Cert.FfnPIdeal.nD Cert.FfnPIdeal.τ).loc Cert.FfnPIdeal.main_arg8)) →
    ∃ (v0 : (c : Dev Cert.FfnPIdeal.nD) → Buf (Elt Ideal) ((c.tc : Thread Cert.FfnPIdeal.nD Cert.FfnPIdeal.τ).loc Cert.FfnPIdeal.main_v14)),
      θ_run (Cert.FfnPIdeal.defs (F := Ideal)) (onTc (τ := Cert.FfnPIdeal.τ) (Cert.FfnPIdeal.main (F := Ideal))) ⟨m, fun _ => 0, g⟩ (fun r => ∀ c : Dev Cert.FfnPIdeal.nD,
          r.2.mem ((c.tc : Thread Cert.FfnPIdeal.nD Cert.FfnPIdeal.τ).loc Cert.FfnPIdeal.main_v14) = v0 c
          ∧ r.2.mem ((c.tc : Thread Cert.FfnPIdeal.nD Cert.FfnPIdeal.τ).loc Cert.FfnPIdeal.main_arg0) = m ((c.tc : Thread Cert.FfnPIdeal.nD Cert.FfnPIdeal.τ).loc Cert.FfnPIdeal.main_arg0)
          ∧ r.2.mem ((c.tc : Thread Cert.FfnPIdeal.nD Cert.FfnPIdeal.τ).loc Cert.FfnPIdeal.main_arg1) = m ((c.tc : Thread Cert.FfnPIdeal.nD Cert.FfnPIdeal.τ).loc Cert.FfnPIdeal.main_arg1)
          ∧ r.2.mem ((c.tc : Thread Cert.FfnPIdeal.nD Cert.FfnPIdeal.τ).loc Cert.FfnPIdeal.main_arg2) = m ((c.tc : Thread Cert.FfnPIdeal.nD Cert.FfnPIdeal.τ).loc Cert.FfnPIdeal.main_arg2)
          ∧ r.2.mem ((c.tc : Thread Cert.FfnPIdeal.nD Cert.FfnPIdeal.τ).loc Cert.FfnPIdeal.main_arg3) = m ((c.tc : Thread Cert.FfnPIdeal.nD Cert.FfnPIdeal.τ).loc Cert.FfnPIdeal.main_arg3)
          ∧ r.2.mem ((c.tc : Thread Cert.FfnPIdeal.nD Cert.FfnPIdeal.τ).loc Cert.FfnPIdeal.main_arg4) = m ((c.tc : Thread Cert.FfnPIdeal.nD Cert.FfnPIdeal.τ).loc Cert.FfnPIdeal.main_arg4)
          ∧ r.2.mem ((c.tc : Thread Cert.FfnPIdeal.nD Cert.FfnPIdeal.τ).loc Cert.FfnPIdeal.main_arg5) = m ((c.tc : Thread Cert.FfnPIdeal.nD Cert.FfnPIdeal.τ).loc Cert.FfnPIdeal.main_arg5)
          ∧ r.2.mem ((c.tc : Thread Cert.FfnPIdeal.nD Cert.FfnPIdeal.τ).loc Cert.FfnPIdeal.main_arg6) = m ((c.tc : Thread Cert.FfnPIdeal.nD Cert.FfnPIdeal.τ).loc Cert.FfnPIdeal.main_arg6)
          ∧ r.2.mem ((c.tc : Thread Cert.FfnPIdeal.nD Cert.FfnPIdeal.τ).loc Cert.FfnPIdeal.main_arg7) = m ((c.tc : Thread Cert.FfnPIdeal.nD Cert.FfnPIdeal.τ).loc Cert.FfnPIdeal.main_arg7)
          ∧ r.2.mem ((c.tc : Thread Cert.FfnPIdeal.nD Cert.FfnPIdeal.τ).loc Cert.FfnPIdeal.main_arg8) = m ((c.tc : Thread Cert.FfnPIdeal.nD Cert.FfnPIdeal.τ).loc Cert.FfnPIdeal.main_arg8))
      ∧ θ_run (Cert.FfnRIdeal.defs (F := Ideal)) (onTc (τ := Cert.FfnRIdeal.τ) (Cert.FfnRIdeal.main (F := Ideal))) ⟨m', fun _ => 0, g'⟩ (fun r => ∀ c : Dev Cert.FfnRIdeal.nD,
          r.2.mem ((c.tc : Thread Cert.FfnRIdeal.nD Cert.FfnRIdeal.τ).loc Cert.FfnRIdeal.main_v53) = v0 c
          ∧ r.2.mem ((c.tc : Thread Cert.FfnRIdeal.nD Cert.FfnRIdeal.τ).loc Cert.FfnRIdeal.main_arg0) = m' ((c.tc : Thread Cert.FfnRIdeal.nD Cert.FfnRIdeal.τ).loc Cert.FfnRIdeal.main_arg0)
          ∧ r.2.mem ((c.tc : Thread Cert.FfnRIdeal.nD Cert.FfnRIdeal.τ).loc Cert.FfnRIdeal.main_arg1) = m' ((c.tc : Thread Cert.FfnRIdeal.nD Cert.FfnRIdeal.τ).loc Cert.FfnRIdeal.main_arg1)
          ∧ r.2.mem ((c.tc : Thread Cert.FfnRIdeal.nD Cert.FfnRIdeal.τ).loc Cert.FfnRIdeal.main_arg2) = m' ((c.tc : Thread Cert.FfnRIdeal.nD Cert.FfnRIdeal.τ).loc Cert.FfnRIdeal.main_arg2)
          ∧ r.2.mem ((c.tc : Thread Cert.FfnRIdeal.nD Cert.FfnRIdeal.τ).loc Cert.FfnRIdeal.main_arg3) = m' ((c.tc : Thread Cert.FfnRIdeal.nD Cert.FfnRIdeal.τ).loc Cert.FfnRIdeal.main_arg3)
          ∧ r.2.mem ((c.tc : Thread Cert.FfnRIdeal.nD Cert.FfnRIdeal.τ).loc Cert.FfnRIdeal.main_arg4) = m' ((c.tc : Thread Cert.FfnRIdeal.nD Cert.FfnRIdeal.τ).loc Cert.FfnRIdeal.main_arg4)
          ∧ r.2.mem ((c.tc : Thread Cert.FfnRIdeal.nD Cert.FfnRIdeal.τ).loc Cert.FfnRIdeal.main_arg5) = m' ((c.tc : Thread Cert.FfnRIdeal.nD Cert.FfnRIdeal.τ).loc Cert.FfnRIdeal.main_arg5)
          ∧ r.2.mem ((c.tc : Thread Cert.FfnRIdeal.nD Cert.FfnRIdeal.τ).loc Cert.FfnRIdeal.main_arg6) = m' ((c.tc : Thread Cert.FfnRIdeal.nD Cert.FfnRIdeal.τ).loc Cert.FfnRIdeal.main_arg6)
          ∧ r.2.mem ((c.tc : Thread Cert.FfnRIdeal.nD Cert.FfnRIdeal.τ).loc Cert.FfnRIdeal.main_arg7) = m' ((c.tc : Thread Cert.FfnRIdeal.nD Cert.FfnRIdeal.τ).loc Cert.FfnRIdeal.main_arg7)
          ∧ r.2.mem ((c.tc : Thread Cert.FfnRIdeal.nD Cert.FfnRIdeal.τ).loc Cert.FfnRIdeal.main_arg8) = m' ((c.tc : Thread Cert.FfnRIdeal.nD Cert.FfnRIdeal.τ).loc Cert.FfnRIdeal.main_arg8))

def preserves_PostP_PostPIdeal : Prop :=
  True

def algebraic_PostPIdeal_PostRIdeal [hPostPIdeal : Cert.PostPIdeal.Facts] [hPostRIdeal : Cert.PostRIdeal.Facts] : Prop :=
  ∀ (m : (ℓ : Loc Cert.PostPIdeal.nD Cert.PostPIdeal.τ Cert.PostPIdeal.sig) → Buf (Elt Ideal) ℓ) (g : Dev Cert.PostPIdeal.nD → PrngReg)
    (m' : (ℓ : Loc Cert.PostRIdeal.nD Cert.PostRIdeal.τ Cert.PostRIdeal.sig) → Buf (Elt Ideal) ℓ) (g' : Dev Cert.PostRIdeal.nD → PrngReg), Pre_PostPIdeal m →
    (∀ c : Dev Cert.PostPIdeal.nD,
      m' ((c.tc : Thread Cert.PostRIdeal.nD Cert.PostRIdeal.τ).loc Cert.PostRIdeal.main_arg0) = m ((c.tc : Thread Cert.PostPIdeal.nD Cert.PostPIdeal.τ).loc Cert.PostPIdeal.main_arg0)
      ∧ m' ((c.tc : Thread Cert.PostRIdeal.nD Cert.PostRIdeal.τ).loc Cert.PostRIdeal.main_arg1) = m ((c.tc : Thread Cert.PostPIdeal.nD Cert.PostPIdeal.τ).loc Cert.PostPIdeal.main_arg1)
      ∧ m' ((c.tc : Thread Cert.PostRIdeal.nD Cert.PostRIdeal.τ).loc Cert.PostRIdeal.main_arg2) = m ((c.tc : Thread Cert.PostPIdeal.nD Cert.PostPIdeal.τ).loc Cert.PostPIdeal.main_arg2)
      ∧ m' ((c.tc : Thread Cert.PostRIdeal.nD Cert.PostRIdeal.τ).loc Cert.PostRIdeal.main_arg3) = m ((c.tc : Thread Cert.PostPIdeal.nD Cert.PostPIdeal.τ).loc Cert.PostPIdeal.main_arg3)
      ∧ m' ((c.tc : Thread Cert.PostRIdeal.nD Cert.PostRIdeal.τ).loc Cert.PostRIdeal.main_arg4) = m ((c.tc : Thread Cert.PostPIdeal.nD Cert.PostPIdeal.τ).loc Cert.PostPIdeal.main_arg4)
      ∧ m' ((c.tc : Thread Cert.PostRIdeal.nD Cert.PostRIdeal.τ).loc Cert.PostRIdeal.main_arg5) = m ((c.tc : Thread Cert.PostPIdeal.nD Cert.PostPIdeal.τ).loc Cert.PostPIdeal.main_arg5)) →
    ∃ (v0 : (c : Dev Cert.PostPIdeal.nD) → Buf (Elt Ideal) ((c.tc : Thread Cert.PostPIdeal.nD Cert.PostPIdeal.τ).loc Cert.PostPIdeal.main_v11_0)) (v1 : (c : Dev Cert.PostPIdeal.nD) → Buf (Elt Ideal) ((c.tc : Thread Cert.PostPIdeal.nD Cert.PostPIdeal.τ).loc Cert.PostPIdeal.main_v11_1)),
      θ_run (Cert.PostPIdeal.defs (F := Ideal)) (onTc (τ := Cert.PostPIdeal.τ) (Cert.PostPIdeal.main (F := Ideal))) ⟨m, fun _ => 0, g⟩ (fun r => ∀ c : Dev Cert.PostPIdeal.nD,
          r.2.mem ((c.tc : Thread Cert.PostPIdeal.nD Cert.PostPIdeal.τ).loc Cert.PostPIdeal.main_v11_0) = v0 c
          ∧ r.2.mem ((c.tc : Thread Cert.PostPIdeal.nD Cert.PostPIdeal.τ).loc Cert.PostPIdeal.main_v11_1) = v1 c
          ∧ r.2.mem ((c.tc : Thread Cert.PostPIdeal.nD Cert.PostPIdeal.τ).loc Cert.PostPIdeal.main_arg0) = m ((c.tc : Thread Cert.PostPIdeal.nD Cert.PostPIdeal.τ).loc Cert.PostPIdeal.main_arg0)
          ∧ r.2.mem ((c.tc : Thread Cert.PostPIdeal.nD Cert.PostPIdeal.τ).loc Cert.PostPIdeal.main_arg1) = m ((c.tc : Thread Cert.PostPIdeal.nD Cert.PostPIdeal.τ).loc Cert.PostPIdeal.main_arg1)
          ∧ r.2.mem ((c.tc : Thread Cert.PostPIdeal.nD Cert.PostPIdeal.τ).loc Cert.PostPIdeal.main_arg2) = m ((c.tc : Thread Cert.PostPIdeal.nD Cert.PostPIdeal.τ).loc Cert.PostPIdeal.main_arg2)
          ∧ r.2.mem ((c.tc : Thread Cert.PostPIdeal.nD Cert.PostPIdeal.τ).loc Cert.PostPIdeal.main_arg3) = m ((c.tc : Thread Cert.PostPIdeal.nD Cert.PostPIdeal.τ).loc Cert.PostPIdeal.main_arg3)
          ∧ r.2.mem ((c.tc : Thread Cert.PostPIdeal.nD Cert.PostPIdeal.τ).loc Cert.PostPIdeal.main_arg4) = m ((c.tc : Thread Cert.PostPIdeal.nD Cert.PostPIdeal.τ).loc Cert.PostPIdeal.main_arg4)
          ∧ r.2.mem ((c.tc : Thread Cert.PostPIdeal.nD Cert.PostPIdeal.τ).loc Cert.PostPIdeal.main_arg5) = m ((c.tc : Thread Cert.PostPIdeal.nD Cert.PostPIdeal.τ).loc Cert.PostPIdeal.main_arg5))
      ∧ θ_run (Cert.PostRIdeal.defs (F := Ideal)) (onTc (τ := Cert.PostRIdeal.τ) (Cert.PostRIdeal.main (F := Ideal))) ⟨m', fun _ => 0, g'⟩ (fun r => ∀ c : Dev Cert.PostRIdeal.nD,
          r.2.mem ((c.tc : Thread Cert.PostRIdeal.nD Cert.PostRIdeal.τ).loc Cert.PostRIdeal.main_v17) = v0 c
          ∧ r.2.mem ((c.tc : Thread Cert.PostRIdeal.nD Cert.PostRIdeal.τ).loc Cert.PostRIdeal.main_v36) = v1 c
          ∧ r.2.mem ((c.tc : Thread Cert.PostRIdeal.nD Cert.PostRIdeal.τ).loc Cert.PostRIdeal.main_arg0) = m' ((c.tc : Thread Cert.PostRIdeal.nD Cert.PostRIdeal.τ).loc Cert.PostRIdeal.main_arg0)
          ∧ r.2.mem ((c.tc : Thread Cert.PostRIdeal.nD Cert.PostRIdeal.τ).loc Cert.PostRIdeal.main_arg1) = m' ((c.tc : Thread Cert.PostRIdeal.nD Cert.PostRIdeal.τ).loc Cert.PostRIdeal.main_arg1)
          ∧ r.2.mem ((c.tc : Thread Cert.PostRIdeal.nD Cert.PostRIdeal.τ).loc Cert.PostRIdeal.main_arg2) = m' ((c.tc : Thread Cert.PostRIdeal.nD Cert.PostRIdeal.τ).loc Cert.PostRIdeal.main_arg2)
          ∧ r.2.mem ((c.tc : Thread Cert.PostRIdeal.nD Cert.PostRIdeal.τ).loc Cert.PostRIdeal.main_arg3) = m' ((c.tc : Thread Cert.PostRIdeal.nD Cert.PostRIdeal.τ).loc Cert.PostRIdeal.main_arg3)
          ∧ r.2.mem ((c.tc : Thread Cert.PostRIdeal.nD Cert.PostRIdeal.τ).loc Cert.PostRIdeal.main_arg4) = m' ((c.tc : Thread Cert.PostRIdeal.nD Cert.PostRIdeal.τ).loc Cert.PostRIdeal.main_arg4)
          ∧ r.2.mem ((c.tc : Thread Cert.PostRIdeal.nD Cert.PostRIdeal.τ).loc Cert.PostRIdeal.main_arg5) = m' ((c.tc : Thread Cert.PostRIdeal.nD Cert.PostRIdeal.τ).loc Cert.PostRIdeal.main_arg5))

def preserves_ProjP_ProjPIdeal : Prop :=
  True

def algebraic_ProjPIdeal_ProjRIdeal [hProjPIdeal : Cert.ProjPIdeal.Facts] [hProjRIdeal : Cert.ProjRIdeal.Facts] : Prop :=
  ∀ (m : (ℓ : Loc Cert.ProjPIdeal.nD Cert.ProjPIdeal.τ Cert.ProjPIdeal.sig) → Buf (Elt Ideal) ℓ) (g : Dev Cert.ProjPIdeal.nD → PrngReg)
    (m' : (ℓ : Loc Cert.ProjRIdeal.nD Cert.ProjRIdeal.τ Cert.ProjRIdeal.sig) → Buf (Elt Ideal) ℓ) (g' : Dev Cert.ProjRIdeal.nD → PrngReg), Pre_ProjPIdeal m →
    (∀ c : Dev Cert.ProjPIdeal.nD,
      m' ((c.tc : Thread Cert.ProjRIdeal.nD Cert.ProjRIdeal.τ).loc Cert.ProjRIdeal.main_arg0) = m ((c.tc : Thread Cert.ProjPIdeal.nD Cert.ProjPIdeal.τ).loc Cert.ProjPIdeal.main_arg0)
      ∧ m' ((c.tc : Thread Cert.ProjRIdeal.nD Cert.ProjRIdeal.τ).loc Cert.ProjRIdeal.main_arg1) = m ((c.tc : Thread Cert.ProjPIdeal.nD Cert.ProjPIdeal.τ).loc Cert.ProjPIdeal.main_arg1)
      ∧ m' ((c.tc : Thread Cert.ProjRIdeal.nD Cert.ProjRIdeal.τ).loc Cert.ProjRIdeal.main_arg2) = m ((c.tc : Thread Cert.ProjPIdeal.nD Cert.ProjPIdeal.τ).loc Cert.ProjPIdeal.main_arg2)
      ∧ m' ((c.tc : Thread Cert.ProjRIdeal.nD Cert.ProjRIdeal.τ).loc Cert.ProjRIdeal.main_arg3) = m ((c.tc : Thread Cert.ProjPIdeal.nD Cert.ProjPIdeal.τ).loc Cert.ProjPIdeal.main_arg3)) →
    ∃ (v0 : (c : Dev Cert.ProjPIdeal.nD) → Buf (Elt Ideal) ((c.tc : Thread Cert.ProjPIdeal.nD Cert.ProjPIdeal.τ).loc Cert.ProjPIdeal.main_v4)) (v1 : (c : Dev Cert.ProjPIdeal.nD) → Buf (Elt Ideal) ((c.tc : Thread Cert.ProjPIdeal.nD Cert.ProjPIdeal.τ).loc Cert.ProjPIdeal.main_v8)),
      θ_run (Cert.ProjPIdeal.defs (F := Ideal)) (onTc (τ := Cert.ProjPIdeal.τ) (Cert.ProjPIdeal.main (F := Ideal))) ⟨m, fun _ => 0, g⟩ (fun r => ∀ c : Dev Cert.ProjPIdeal.nD,
          r.2.mem ((c.tc : Thread Cert.ProjPIdeal.nD Cert.ProjPIdeal.τ).loc Cert.ProjPIdeal.main_v4) = v0 c
          ∧ r.2.mem ((c.tc : Thread Cert.ProjPIdeal.nD Cert.ProjPIdeal.τ).loc Cert.ProjPIdeal.main_v8) = v1 c
          ∧ r.2.mem ((c.tc : Thread Cert.ProjPIdeal.nD Cert.ProjPIdeal.τ).loc Cert.ProjPIdeal.main_arg0) = m ((c.tc : Thread Cert.ProjPIdeal.nD Cert.ProjPIdeal.τ).loc Cert.ProjPIdeal.main_arg0)
          ∧ r.2.mem ((c.tc : Thread Cert.ProjPIdeal.nD Cert.ProjPIdeal.τ).loc Cert.ProjPIdeal.main_arg1) = m ((c.tc : Thread Cert.ProjPIdeal.nD Cert.ProjPIdeal.τ).loc Cert.ProjPIdeal.main_arg1)
          ∧ r.2.mem ((c.tc : Thread Cert.ProjPIdeal.nD Cert.ProjPIdeal.τ).loc Cert.ProjPIdeal.main_arg2) = m ((c.tc : Thread Cert.ProjPIdeal.nD Cert.ProjPIdeal.τ).loc Cert.ProjPIdeal.main_arg2)
          ∧ r.2.mem ((c.tc : Thread Cert.ProjPIdeal.nD Cert.ProjPIdeal.τ).loc Cert.ProjPIdeal.main_arg3) = m ((c.tc : Thread Cert.ProjPIdeal.nD Cert.ProjPIdeal.τ).loc Cert.ProjPIdeal.main_arg3))
      ∧ θ_run (Cert.ProjRIdeal.defs (F := Ideal)) (onTc (τ := Cert.ProjRIdeal.τ) (Cert.ProjRIdeal.main (F := Ideal))) ⟨m', fun _ => 0, g'⟩ (fun r => ∀ c : Dev Cert.ProjRIdeal.nD,
          r.2.mem ((c.tc : Thread Cert.ProjRIdeal.nD Cert.ProjRIdeal.τ).loc Cert.ProjRIdeal.main_v19) = v0 c
          ∧ r.2.mem ((c.tc : Thread Cert.ProjRIdeal.nD Cert.ProjRIdeal.τ).loc Cert.ProjRIdeal.main_v20) = v1 c
          ∧ r.2.mem ((c.tc : Thread Cert.ProjRIdeal.nD Cert.ProjRIdeal.τ).loc Cert.ProjRIdeal.main_arg0) = m' ((c.tc : Thread Cert.ProjRIdeal.nD Cert.ProjRIdeal.τ).loc Cert.ProjRIdeal.main_arg0)
          ∧ r.2.mem ((c.tc : Thread Cert.ProjRIdeal.nD Cert.ProjRIdeal.τ).loc Cert.ProjRIdeal.main_arg1) = m' ((c.tc : Thread Cert.ProjRIdeal.nD Cert.ProjRIdeal.τ).loc Cert.ProjRIdeal.main_arg1)
          ∧ r.2.mem ((c.tc : Thread Cert.ProjRIdeal.nD Cert.ProjRIdeal.τ).loc Cert.ProjRIdeal.main_arg2) = m' ((c.tc : Thread Cert.ProjRIdeal.nD Cert.ProjRIdeal.τ).loc Cert.ProjRIdeal.main_arg2)
          ∧ r.2.mem ((c.tc : Thread Cert.ProjRIdeal.nD Cert.ProjRIdeal.τ).loc Cert.ProjRIdeal.main_arg3) = m' ((c.tc : Thread Cert.ProjRIdeal.nD Cert.ProjRIdeal.τ).loc Cert.ProjRIdeal.main_arg3))

def preserves_MixSP_MixSPIdeal : Prop :=
  True

def algebraic_MixSPIdeal_MixSRIdeal [hMixSPIdeal : Cert.MixSPIdeal.Facts] [hMixSRIdeal : Cert.MixSRIdeal.Facts] : Prop :=
  ∀ (m : (ℓ : Loc Cert.MixSPIdeal.nD Cert.MixSPIdeal.τ Cert.MixSPIdeal.sig) → Buf (Elt Ideal) ℓ) (g : Dev Cert.MixSPIdeal.nD → PrngReg)
    (m' : (ℓ : Loc Cert.MixSRIdeal.nD Cert.MixSRIdeal.τ Cert.MixSRIdeal.sig) → Buf (Elt Ideal) ℓ) (g' : Dev Cert.MixSRIdeal.nD → PrngReg), Pre_MixSPIdeal m →
    (∀ c : Dev Cert.MixSPIdeal.nD,
      m' ((c.tc : Thread Cert.MixSRIdeal.nD Cert.MixSRIdeal.τ).loc Cert.MixSRIdeal.main_arg0) = m ((c.tc : Thread Cert.MixSPIdeal.nD Cert.MixSPIdeal.τ).loc Cert.MixSPIdeal.main_arg0)
      ∧ m' ((c.tc : Thread Cert.MixSRIdeal.nD Cert.MixSRIdeal.τ).loc Cert.MixSRIdeal.main_arg1) = m ((c.tc : Thread Cert.MixSPIdeal.nD Cert.MixSPIdeal.τ).loc Cert.MixSPIdeal.main_arg1)
      ∧ m' ((c.tc : Thread Cert.MixSRIdeal.nD Cert.MixSRIdeal.τ).loc Cert.MixSRIdeal.main_arg2) = m ((c.tc : Thread Cert.MixSPIdeal.nD Cert.MixSPIdeal.τ).loc Cert.MixSPIdeal.main_arg2)
      ∧ m' ((c.tc : Thread Cert.MixSRIdeal.nD Cert.MixSRIdeal.τ).loc Cert.MixSRIdeal.main_arg3) = m ((c.tc : Thread Cert.MixSPIdeal.nD Cert.MixSPIdeal.τ).loc Cert.MixSPIdeal.main_arg3)
      ∧ m' ((c.tc : Thread Cert.MixSRIdeal.nD Cert.MixSRIdeal.τ).loc Cert.MixSRIdeal.main_arg4) = m ((c.tc : Thread Cert.MixSPIdeal.nD Cert.MixSPIdeal.τ).loc Cert.MixSPIdeal.main_arg4)
      ∧ m' ((c.tc : Thread Cert.MixSRIdeal.nD Cert.MixSRIdeal.τ).loc Cert.MixSRIdeal.main_arg5) = m ((c.tc : Thread Cert.MixSPIdeal.nD Cert.MixSPIdeal.τ).loc Cert.MixSPIdeal.main_arg5)
      ∧ m' ((c.tc : Thread Cert.MixSRIdeal.nD Cert.MixSRIdeal.τ).loc Cert.MixSRIdeal.main_arg6) = m ((c.tc : Thread Cert.MixSPIdeal.nD Cert.MixSPIdeal.τ).loc Cert.MixSPIdeal.main_arg6)
      ∧ m' ((c.tc : Thread Cert.MixSRIdeal.nD Cert.MixSRIdeal.τ).loc Cert.MixSRIdeal.main_arg7) = m ((c.tc : Thread Cert.MixSPIdeal.nD Cert.MixSPIdeal.τ).loc Cert.MixSPIdeal.main_arg7)
      ∧ m' ((c.tc : Thread Cert.MixSRIdeal.nD Cert.MixSRIdeal.τ).loc Cert.MixSRIdeal.main_arg8) = m ((c.tc : Thread Cert.MixSPIdeal.nD Cert.MixSPIdeal.τ).loc Cert.MixSPIdeal.main_arg8)
      ∧ m' ((c.tc : Thread Cert.MixSRIdeal.nD Cert.MixSRIdeal.τ).loc Cert.MixSRIdeal.main_arg9) = m ((c.tc : Thread Cert.MixSPIdeal.nD Cert.MixSPIdeal.τ).loc Cert.MixSPIdeal.main_arg9)
      ∧ m' ((c.tc : Thread Cert.MixSRIdeal.nD Cert.MixSRIdeal.τ).loc Cert.MixSRIdeal.main_arg10) = m ((c.tc : Thread Cert.MixSPIdeal.nD Cert.MixSPIdeal.τ).loc Cert.MixSPIdeal.main_arg10)
      ∧ m' ((c.tc : Thread Cert.MixSRIdeal.nD Cert.MixSRIdeal.τ).loc Cert.MixSRIdeal.main_arg11) = m ((c.tc : Thread Cert.MixSPIdeal.nD Cert.MixSPIdeal.τ).loc Cert.MixSPIdeal.main_arg11)
      ∧ m' ((c.tc : Thread Cert.MixSRIdeal.nD Cert.MixSRIdeal.τ).loc Cert.MixSRIdeal.main_arg12) = m ((c.tc : Thread Cert.MixSPIdeal.nD Cert.MixSPIdeal.τ).loc Cert.MixSPIdeal.main_arg12)) →
    ∃ (v0 : (c : Dev Cert.MixSPIdeal.nD) → Buf (Elt Ideal) ((c.tc : Thread Cert.MixSPIdeal.nD Cert.MixSPIdeal.τ).loc Cert.MixSPIdeal.main_v37_1)) (v1 : (c : Dev Cert.MixSPIdeal.nD) → Buf (Elt Ideal) ((c.tc : Thread Cert.MixSPIdeal.nD Cert.MixSPIdeal.τ).loc Cert.MixSPIdeal.main_v37_2)),
      θ_run (Cert.MixSPIdeal.defs (F := Ideal)) (onTc (τ := Cert.MixSPIdeal.τ) (Cert.MixSPIdeal.main (F := Ideal))) ⟨m, fun _ => 0, g⟩ (fun r => ∀ c : Dev Cert.MixSPIdeal.nD,
          r.2.mem ((c.tc : Thread Cert.MixSPIdeal.nD Cert.MixSPIdeal.τ).loc Cert.MixSPIdeal.main_v37_1) = v0 c
          ∧ r.2.mem ((c.tc : Thread Cert.MixSPIdeal.nD Cert.MixSPIdeal.τ).loc Cert.MixSPIdeal.main_v37_2) = v1 c
          ∧ r.2.mem ((c.tc : Thread Cert.MixSPIdeal.nD Cert.MixSPIdeal.τ).loc Cert.MixSPIdeal.main_arg0) = m ((c.tc : Thread Cert.MixSPIdeal.nD Cert.MixSPIdeal.τ).loc Cert.MixSPIdeal.main_arg0)
          ∧ r.2.mem ((c.tc : Thread Cert.MixSPIdeal.nD Cert.MixSPIdeal.τ).loc Cert.MixSPIdeal.main_arg1) = m ((c.tc : Thread Cert.MixSPIdeal.nD Cert.MixSPIdeal.τ).loc Cert.MixSPIdeal.main_arg1)
          ∧ r.2.mem ((c.tc : Thread Cert.MixSPIdeal.nD Cert.MixSPIdeal.τ).loc Cert.MixSPIdeal.main_arg2) = m ((c.tc : Thread Cert.MixSPIdeal.nD Cert.MixSPIdeal.τ).loc Cert.MixSPIdeal.main_arg2)
          ∧ r.2.mem ((c.tc : Thread Cert.MixSPIdeal.nD Cert.MixSPIdeal.τ).loc Cert.MixSPIdeal.main_arg3) = m ((c.tc : Thread Cert.MixSPIdeal.nD Cert.MixSPIdeal.τ).loc Cert.MixSPIdeal.main_arg3)
          ∧ r.2.mem ((c.tc : Thread Cert.MixSPIdeal.nD Cert.MixSPIdeal.τ).loc Cert.MixSPIdeal.main_arg4) = m ((c.tc : Thread Cert.MixSPIdeal.nD Cert.MixSPIdeal.τ).loc Cert.MixSPIdeal.main_arg4)
          ∧ r.2.mem ((c.tc : Thread Cert.MixSPIdeal.nD Cert.MixSPIdeal.τ).loc Cert.MixSPIdeal.main_arg5) = m ((c.tc : Thread Cert.MixSPIdeal.nD Cert.MixSPIdeal.τ).loc Cert.MixSPIdeal.main_arg5)
          ∧ r.2.mem ((c.tc : Thread Cert.MixSPIdeal.nD Cert.MixSPIdeal.τ).loc Cert.MixSPIdeal.main_arg6) = m ((c.tc : Thread Cert.MixSPIdeal.nD Cert.MixSPIdeal.τ).loc Cert.MixSPIdeal.main_arg6)
          ∧ r.2.mem ((c.tc : Thread Cert.MixSPIdeal.nD Cert.MixSPIdeal.τ).loc Cert.MixSPIdeal.main_arg7) = m ((c.tc : Thread Cert.MixSPIdeal.nD Cert.MixSPIdeal.τ).loc Cert.MixSPIdeal.main_arg7)
          ∧ r.2.mem ((c.tc : Thread Cert.MixSPIdeal.nD Cert.MixSPIdeal.τ).loc Cert.MixSPIdeal.main_arg8) = m ((c.tc : Thread Cert.MixSPIdeal.nD Cert.MixSPIdeal.τ).loc Cert.MixSPIdeal.main_arg8)
          ∧ r.2.mem ((c.tc : Thread Cert.MixSPIdeal.nD Cert.MixSPIdeal.τ).loc Cert.MixSPIdeal.main_arg9) = m ((c.tc : Thread Cert.MixSPIdeal.nD Cert.MixSPIdeal.τ).loc Cert.MixSPIdeal.main_arg9)
          ∧ r.2.mem ((c.tc : Thread Cert.MixSPIdeal.nD Cert.MixSPIdeal.τ).loc Cert.MixSPIdeal.main_arg10) = m ((c.tc : Thread Cert.MixSPIdeal.nD Cert.MixSPIdeal.τ).loc Cert.MixSPIdeal.main_arg10)
          ∧ r.2.mem ((c.tc : Thread Cert.MixSPIdeal.nD Cert.MixSPIdeal.τ).loc Cert.MixSPIdeal.main_arg11) = m ((c.tc : Thread Cert.MixSPIdeal.nD Cert.MixSPIdeal.τ).loc Cert.MixSPIdeal.main_arg11)
          ∧ r.2.mem ((c.tc : Thread Cert.MixSPIdeal.nD Cert.MixSPIdeal.τ).loc Cert.MixSPIdeal.main_arg12) = m ((c.tc : Thread Cert.MixSPIdeal.nD Cert.MixSPIdeal.τ).loc Cert.MixSPIdeal.main_arg12))
      ∧ θ_run (Cert.MixSRIdeal.defs (F := Ideal)) (onTc (τ := Cert.MixSRIdeal.τ) (Cert.MixSRIdeal.main (F := Ideal))) ⟨m', fun _ => 0, g'⟩ (fun r => ∀ c : Dev Cert.MixSRIdeal.nD,
          r.2.mem ((c.tc : Thread Cert.MixSRIdeal.nD Cert.MixSRIdeal.τ).loc Cert.MixSRIdeal.main_v32) = v0 c
          ∧ r.2.mem ((c.tc : Thread Cert.MixSRIdeal.nD Cert.MixSRIdeal.τ).loc Cert.MixSRIdeal.main_v105) = v1 c
          ∧ r.2.mem ((c.tc : Thread Cert.MixSRIdeal.nD Cert.MixSRIdeal.τ).loc Cert.MixSRIdeal.main_arg0) = m' ((c.tc : Thread Cert.MixSRIdeal.nD Cert.MixSRIdeal.τ).loc Cert.MixSRIdeal.main_arg0)
          ∧ r.2.mem ((c.tc : Thread Cert.MixSRIdeal.nD Cert.MixSRIdeal.τ).loc Cert.MixSRIdeal.main_arg1) = m' ((c.tc : Thread Cert.MixSRIdeal.nD Cert.MixSRIdeal.τ).loc Cert.MixSRIdeal.main_arg1)
          ∧ r.2.mem ((c.tc : Thread Cert.MixSRIdeal.nD Cert.MixSRIdeal.τ).loc Cert.MixSRIdeal.main_arg2) = m' ((c.tc : Thread Cert.MixSRIdeal.nD Cert.MixSRIdeal.τ).loc Cert.MixSRIdeal.main_arg2)
          ∧ r.2.mem ((c.tc : Thread Cert.MixSRIdeal.nD Cert.MixSRIdeal.τ).loc Cert.MixSRIdeal.main_arg3) = m' ((c.tc : Thread Cert.MixSRIdeal.nD Cert.MixSRIdeal.τ).loc Cert.MixSRIdeal.main_arg3)
          ∧ r.2.mem ((c.tc : Thread Cert.MixSRIdeal.nD Cert.MixSRIdeal.τ).loc Cert.MixSRIdeal.main_arg4) = m' ((c.tc : Thread Cert.MixSRIdeal.nD Cert.MixSRIdeal.τ).loc Cert.MixSRIdeal.main_arg4)
          ∧ r.2.mem ((c.tc : Thread Cert.MixSRIdeal.nD Cert.MixSRIdeal.τ).loc Cert.MixSRIdeal.main_arg5) = m' ((c.tc : Thread Cert.MixSRIdeal.nD Cert.MixSRIdeal.τ).loc Cert.MixSRIdeal.main_arg5)
          ∧ r.2.mem ((c.tc : Thread Cert.MixSRIdeal.nD Cert.MixSRIdeal.τ).loc Cert.MixSRIdeal.main_arg6) = m' ((c.tc : Thread Cert.MixSRIdeal.nD Cert.MixSRIdeal.τ).loc Cert.MixSRIdeal.main_arg6)
          ∧ r.2.mem ((c.tc : Thread Cert.MixSRIdeal.nD Cert.MixSRIdeal.τ).loc Cert.MixSRIdeal.main_arg7) = m' ((c.tc : Thread Cert.MixSRIdeal.nD Cert.MixSRIdeal.τ).loc Cert.MixSRIdeal.main_arg7)
          ∧ r.2.mem ((c.tc : Thread Cert.MixSRIdeal.nD Cert.MixSRIdeal.τ).loc Cert.MixSRIdeal.main_arg8) = m' ((c.tc : Thread Cert.MixSRIdeal.nD Cert.MixSRIdeal.τ).loc Cert.MixSRIdeal.main_arg8)
          ∧ r.2.mem ((c.tc : Thread Cert.MixSRIdeal.nD Cert.MixSRIdeal.τ).loc Cert.MixSRIdeal.main_arg9) = m' ((c.tc : Thread Cert.MixSRIdeal.nD Cert.MixSRIdeal.τ).loc Cert.MixSRIdeal.main_arg9)
          ∧ r.2.mem ((c.tc : Thread Cert.MixSRIdeal.nD Cert.MixSRIdeal.τ).loc Cert.MixSRIdeal.main_arg10) = m' ((c.tc : Thread Cert.MixSRIdeal.nD Cert.MixSRIdeal.τ).loc Cert.MixSRIdeal.main_arg10)
          ∧ r.2.mem ((c.tc : Thread Cert.MixSRIdeal.nD Cert.MixSRIdeal.τ).loc Cert.MixSRIdeal.main_arg11) = m' ((c.tc : Thread Cert.MixSRIdeal.nD Cert.MixSRIdeal.τ).loc Cert.MixSRIdeal.main_arg11)
          ∧ r.2.mem ((c.tc : Thread Cert.MixSRIdeal.nD Cert.MixSRIdeal.τ).loc Cert.MixSRIdeal.main_arg12) = m' ((c.tc : Thread Cert.MixSRIdeal.nD Cert.MixSRIdeal.τ).loc Cert.MixSRIdeal.main_arg12))

def Claim : Prop :=
  ∃ (hAttnP : Cert.AttnP.Facts) (hAttnPIdeal : Cert.AttnPIdeal.Facts) (hAttnRIdeal : Cert.AttnRIdeal.Facts) (hKvP : Cert.KvP.Facts) (hKvPIdeal : Cert.KvPIdeal.Facts) (hKvRIdeal : Cert.KvRIdeal.Facts) (hFfnP : Cert.FfnP.Facts) (hFfnPIdeal : Cert.FfnPIdeal.Facts) (hFfnRIdeal : Cert.FfnRIdeal.Facts) (hPostP : Cert.PostP.Facts) (hPostPIdeal : Cert.PostPIdeal.Facts) (hPostRIdeal : Cert.PostRIdeal.Facts) (hProjP : Cert.ProjP.Facts) (hProjPIdeal : Cert.ProjPIdeal.Facts) (hProjRIdeal : Cert.ProjRIdeal.Facts) (hMixSP : Cert.MixSP.Facts) (hMixSPIdeal : Cert.MixSPIdeal.Facts) (hMixSRIdeal : Cert.MixSRIdeal.Facts),
    quiescent_AttnP (hAttnP := hAttnP)
    ∧ quiescent_AttnPIdeal (hAttnPIdeal := hAttnPIdeal)
    ∧ quiescent_AttnRIdeal (hAttnRIdeal := hAttnRIdeal)
    ∧ quiescent_KvP (hKvP := hKvP)
    ∧ quiescent_KvPIdeal (hKvPIdeal := hKvPIdeal)
    ∧ quiescent_KvRIdeal (hKvRIdeal := hKvRIdeal)
    ∧ quiescent_FfnP (hFfnP := hFfnP)
    ∧ quiescent_FfnPIdeal (hFfnPIdeal := hFfnPIdeal)
    ∧ quiescent_FfnRIdeal (hFfnRIdeal := hFfnRIdeal)
    ∧ quiescent_PostP (hPostP := hPostP)
    ∧ quiescent_PostPIdeal (hPostPIdeal := hPostPIdeal)
    ∧ quiescent_PostRIdeal (hPostRIdeal := hPostRIdeal)
    ∧ quiescent_ProjP (hProjP := hProjP)
    ∧ quiescent_ProjPIdeal (hProjPIdeal := hProjPIdeal)
    ∧ quiescent_ProjRIdeal (hProjRIdeal := hProjRIdeal)
    ∧ quiescent_MixSP (hMixSP := hMixSP)
    ∧ quiescent_MixSPIdeal (hMixSPIdeal := hMixSPIdeal)
    ∧ quiescent_MixSRIdeal (hMixSRIdeal := hMixSRIdeal)
    ∧ preserves_AttnP_AttnPIdeal
    ∧ algebraic_AttnPIdeal_AttnRIdeal (hAttnPIdeal := hAttnPIdeal) (hAttnRIdeal := hAttnRIdeal)
    ∧ preserves_KvP_KvPIdeal
    ∧ algebraic_KvPIdeal_KvRIdeal (hKvPIdeal := hKvPIdeal) (hKvRIdeal := hKvRIdeal)
    ∧ preserves_FfnP_FfnPIdeal
    ∧ algebraic_FfnPIdeal_FfnRIdeal (hFfnPIdeal := hFfnPIdeal) (hFfnRIdeal := hFfnRIdeal)
    ∧ preserves_PostP_PostPIdeal
    ∧ algebraic_PostPIdeal_PostRIdeal (hPostPIdeal := hPostPIdeal) (hPostRIdeal := hPostRIdeal)
    ∧ preserves_ProjP_ProjPIdeal
    ∧ algebraic_ProjPIdeal_ProjRIdeal (hProjPIdeal := hProjPIdeal) (hProjRIdeal := hProjRIdeal)
    ∧ preserves_MixSP_MixSPIdeal
    ∧ algebraic_MixSPIdeal_MixSRIdeal (hMixSPIdeal := hMixSPIdeal) (hMixSRIdeal := hMixSRIdeal)
-- ==== AttnP.lean ====
abbrev S8x2048x1024 : Shape := ⟨3, ![8, 2048, 1024]⟩
abbrev S8x256x4x256 : Shape := ⟨4, ![8, 256, 4, 256]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S8x256x1024 : Shape := ⟨3, ![8, 256, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x256 : Shape := ⟨2, ![256, 256]⟩
abbrev S1x256x256 : Shape := ⟨3, ![1, 256, 256]⟩
abbrev S1024x256 : Shape := ⟨2, ![1024, 256]⟩
abbrev S256x2816 : Shape := ⟨2, ![256, 2816]⟩
abbrev S2816x512 : Shape := ⟨2, ![2816, 512]⟩

abbrev nBuf : Space → Nat
  | .hbm => 38
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x256x4x256, .f32⟩
  | .hbm, ⟨2, _⟩ => ⟨S8x256x4x256, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024, .f32⟩
  | .hbm, ⟨17, _⟩ => ⟨S1024, .f32⟩
  | .hbm, ⟨18, _⟩ => ⟨S1024x2816, .f32⟩
  | .hbm, ⟨19, _⟩ => ⟨S1024x2816, .f32⟩
  | .hbm, ⟨20, _⟩ => ⟨S2816x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .bf16⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S1024x2816, .bf16⟩
  | .hbm, ⟨31, _⟩ => ⟨S1024x2816, .bf16⟩
  | .hbm, ⟨32, _⟩ => ⟨S2816x1024, .bf16⟩
  | .hbm, ⟨33, _⟩ => ⟨S8x256x1024, .f32⟩
  | .hbm, ⟨34, _⟩ => ⟨S8x256x1024, .bf16⟩
  | .hbm, ⟨35, _⟩ => ⟨S8x256x1024, .f32⟩
  | .hbm, ⟨36, _⟩ => ⟨S8x256x1024, .bf16⟩
  | .hbm, ⟨37, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024x1024, .f32⟩
  | .local _ .vmem, ⟨16, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttnRIdeal.lean ====
abbrev S8x2048x1024 : Shape := ⟨3, ![8, 2048, 1024]⟩
abbrev S8x256x4x256 : Shape := ⟨4, ![8, 256, 4, 256]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x1024 : Shape := ⟨2, ![1024, 1024]⟩
abbrev S8x2048x4x256 : Shape := ⟨4, ![8, 2048, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S1024x2816 : Shape := ⟨2, ![1024, 2816]⟩
abbrev S8x2048x2816 : Shape := ⟨3, ![8, 2048, 2816]⟩
abbrev S2816x1024 : Shape := ⟨2, ![2816, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x4x256, .f32⟩
  | .hbm, ⟨2, _⟩ => ⟨S8x256x4x256, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S1024x1024, .f32⟩
  | .hbm, ⟨30, _⟩ => ⟨S8x2048x1024, .f32⟩
  | .hbm, ⟨31, _⟩ => ⟨S8x2048x4x256, .f32⟩
  | .hbm, ⟨32, _⟩ => ⟨S8x4x2048x256, .f32⟩
  | .hbm, ⟨33, _⟩ => ⟨S_, .f32⟩
  | .hbm, ⟨34, _⟩ => ⟨S8x4x2048x256, .f32⟩
  | .hbm, ⟨35, _⟩ => ⟨S8x4x2048x256, .f32⟩
  | .hbm, ⟨36, _⟩ => ⟨S_, .f32⟩
  | .hbm, ⟨37, _⟩ => ⟨S8x4x2048, .f32⟩
  | .hbm, ⟨38, _⟩ => ⟨S_, .f32⟩
  | .hbm, ⟨39, _⟩ => ⟨S8x4x2048, .f32⟩
  | .hbm, ⟨40, _⟩ => ⟨S8x4x2048, .f32⟩
  | .hbm, ⟨41, _⟩ => ⟨S8x4x2048x1, .f32⟩
  | .hbm, ⟨42, _⟩ => ⟨S8x4x2048x256, .f32⟩
  | .hbm, ⟨43, _⟩ => ⟨S8x4x2048x256, .f32⟩
  | .hbm, ⟨44, _⟩ => ⟨S8x4x2048x256, .f32⟩
  | .hbm, ⟨45, _⟩ => ⟨S_, .f32⟩
  | .hbm, ⟨46, _⟩ => ⟨S8x4x2048, .f32⟩
  | .hbm, ⟨47, _⟩ => ⟨S8x4x2048x1, .f32⟩
  | .hbm, ⟨48, _⟩ => ⟨S8x4x2048x256, .f32⟩
  | .hbm, ⟨49, _⟩ => ⟨S8x4x2048x256, .f32⟩
  | .hbm, ⟨50, _⟩ => ⟨S8x4x256x2048, .f32⟩
  | .hbm, ⟨51, _⟩ => ⟨S8x2048x4x256, .f32⟩
  | .hbm, ⟨52, _⟩ => ⟨S8x2048x1024, .f32⟩
  | .hbm, ⟨53, _⟩ => ⟨S1024x1024, .f32⟩
  | .hbm, ⟨54, _⟩ => ⟨S8x2048x1024, .f32⟩
  | .hbm, ⟨55, _⟩ => ⟨S1024, .f32⟩
  | .hbm, ⟨56, _⟩ => ⟨S8x2048x1024, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1, .f32⟩
  | .hbm, ⟨67, _⟩ => ⟨S8x2048x1024, .f32⟩
  | .hbm, ⟨68, _⟩ => ⟨S8x2048x1024, .f32⟩
  | .hbm, ⟨69, _⟩ => ⟨S1x1x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S1024, .f32⟩
  | .hbm, ⟨74, _⟩ => ⟨S8x2048x1024, .f32⟩
  | .hbm, ⟨75, _⟩ => ⟨S_, .f32⟩
  | .hbm, ⟨76, _⟩ => ⟨S8x2048, .f32⟩
  | .hbm, ⟨77, _⟩ => ⟨S8x2048x1, .f32⟩
  | .hbm, ⟨78, _⟩ => ⟨S_, .f32⟩
  | .hbm, ⟨79, _⟩ => ⟨S8x2048x1, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S8x2048x1, .f32⟩
  | .hbm, ⟨85, _⟩ => ⟨S8x2048x1024, .f32⟩
  | .hbm, ⟨86, _⟩ => ⟨S8x2048x1024, .f32⟩
  | .hbm, ⟨87, _⟩ => ⟨S1x1x1024, .f32⟩
  | .hbm, ⟨88, _⟩ => ⟨S8x2048x1024, .f32⟩
  | .hbm, ⟨89, _⟩ => ⟨S8x2048x1024, .f32⟩
  | .hbm, ⟨90, _⟩ => ⟨S1024x2816, .f32⟩
  | .hbm, ⟨91, _⟩ => ⟨S8x2048x2816, .f32⟩
  | .hbm, ⟨92, _⟩ => ⟨S8x2048x2816, .f32⟩
  | .hbm, ⟨93, _⟩ => ⟨S8x2048x2816, .f32⟩
  | .hbm, ⟨94, _⟩ => ⟨S_, .f32⟩
  | .hbm, ⟨95, _⟩ => ⟨S8x2048x2816, .f32⟩
  | .hbm, ⟨96, _⟩ => ⟨S8x2048x2816, .f32⟩
  | .hbm, ⟨97, _⟩ => ⟨S_, .f32⟩
  | .hbm, ⟨98, _⟩ => ⟨S8x2048x2816, .f32⟩
  | .hbm, ⟨99, _⟩ => ⟨S8x2048x2816, .f32⟩
  | .hbm, ⟨100, _⟩ => ⟨S8x2048x2816, .f32⟩
  | .hbm, ⟨101, _⟩ => ⟨S1024x2816, .f32⟩
  | .hbm, ⟨102, _⟩ => ⟨S8x2048x2816, .f32⟩
  | .hbm, ⟨103, _⟩ => ⟨S8x2048x2816, .f32⟩
  | .hbm, ⟨104, _⟩ => ⟨S2816x1024, .f32⟩
  | .hbm, ⟨105, _⟩ => ⟨S8x2048x1024, .f32⟩
  | .hbm, ⟨106, _⟩ => ⟨S1024, .f32⟩
  | .hbm, ⟨107, _⟩ => ⟨S8x2048x1024, .f32⟩
  | .hbm, ⟨108, _⟩ => ⟨S_, .f32⟩
  | .hbm, ⟨109, _⟩ => ⟨S8x2048, .f32⟩
  | .hbm, ⟨110, _⟩ => ⟨S8x2048x1, .f32⟩
  | .hbm, ⟨111, _⟩ => ⟨S_, .f32⟩
  | .hbm, ⟨112, _⟩ => ⟨S8x2048x1, .f32⟩
  | .hbm, ⟨113, _⟩ => ⟨S8x2048x1, .f32⟩
  | .hbm, ⟨114, _⟩ => ⟨S_, .f32⟩
  | .hbm, ⟨115, _⟩ => ⟨S8x2048x1, .f32⟩
  | .hbm, ⟨116, _⟩ => ⟨S8x2048x1, .f32⟩
  | .hbm, ⟨117, _⟩ => ⟨S8x2048x1, .f32⟩
  | .hbm, ⟨118, _⟩ => ⟨S8x2048x1024, .f32⟩
  | .hbm, ⟨119, _⟩ => ⟨S8x2048x1024, .f32⟩
  | .hbm, ⟨120, _⟩ => ⟨S1x1x1024, .f32⟩
  | .hbm, ⟨121, _⟩ => ⟨S8x2048x1024, .f32⟩
  | .hbm, ⟨122, _⟩ => ⟨S8x2048x1024, .f32⟩
  | .hbm, ⟨123, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call0_v0 : Ref sig .tc := ⟨.hbm, 92, rfl⟩
abbrev main_call0_v1 : Ref sig .tc := ⟨.hbm, 93, rfl⟩
abbrev main_call0_cst : Ref sig .tc := ⟨.hbm, 94, rfl⟩
abbrev main_call0_v2 : Ref sig .tc := ⟨.hbm, 95, rfl⟩
abbrev main_call0_v3 : Ref sig .tc := ⟨.hbm, 96, rfl⟩
abbrev main_call0_cst_0 : Ref sig .tc := ⟨.hbm, 97, rfl⟩
abbrev main_call0_v4 : Ref sig .tc := ⟨.hbm, 98, rfl⟩
abbrev main_call0_v5 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_12 : Ref sig .tc := ⟨.hbm, 108, rfl⟩
abbrev main_v75 : Ref sig .tc := ⟨.hbm, 109, rfl⟩
abbrev main_v76 : Ref sig .tc := ⟨.hbm, 110, rfl⟩
abbrev main_cst_13 : Ref sig .tc := ⟨.hbm, 111, rfl⟩
abbrev main_v77 : Ref sig .tc := ⟨.hbm, 112, rfl⟩
abbrev main_v78 : Ref sig .tc := ⟨.hbm, 113, rfl⟩
abbrev main_cst_14 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩

abbrev nD : Nat := 1
abbrev τ : Topo := Topo.v7x

variable {F : FTy → Type} [FloatOps F]
-- ==== KvP.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S1x8x256x4x256 : Shape := ⟨5, ![1, 8, 256, 4, 256]⟩
abbrev S1x256x1024 : Shape := ⟨3, ![1, 256, 1024]⟩
abbrev S1x1x256x4x256 : Shape := ⟨5, ![1, 1, 256, 4, 256]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S1x1x256x1x256 : Shape := ⟨5, ![1, 1, 256, 1, 256]⟩

abbrev nBuf : Space → Nat
  | .hbm => 14
  | .vmem => 13
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1x8x256x4x256, .f32⟩
  | .hbm, ⟨11, _⟩ => ⟨S1x8x256x4x256, .f32⟩
  | .hbm, ⟨12, _⟩ => ⟨S8x256x1024, .bf16⟩
  | .hbm, ⟨13, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1x256x4x256, .f32⟩
  | .local _ .vmem, ⟨6, _⟩ => ⟨S1x1x256x4x256, .f32⟩
  | .local _ .vmem, ⟨7, _⟩ => ⟨S1x1x256x4x256, .f32⟩
  | .local _ .vmem, ⟨8, _⟩ => ⟨S1x1x256x4x256, .f32⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KvRIdeal.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S8x256x4x256 : Shape := ⟨4, ![8, 256, 4, 256]⟩
abbrev S1x8x256x4x256 : Shape := ⟨5, ![1, 8, 256, 4, 256]⟩

abbrev nBuf : Space → Nat
  | .hbm => 29
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1024x1024, .f32⟩
  | .hbm, ⟨22, _⟩ => ⟨S8x256x1024, .f32⟩
  | .hbm, ⟨23, _⟩ => ⟨S8x256x4x256, .f32⟩
  | .hbm, ⟨24, _⟩ => ⟨S1024x1024, .f32⟩
  | .hbm, ⟨25, _⟩ => ⟨S8x256x1024, .f32⟩
  | .hbm, ⟨26, _⟩ => ⟨S8x256x4x256, .f32⟩
  | .hbm, ⟨27, _⟩ => ⟨S1x8x256x4x256, .f32⟩
  | .hbm, ⟨28, _⟩ => ⟨S1x8x256x4x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== FfnP.lean ====
abbrev S512x1024 : Shape := ⟨2, ![512, 1024]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩
abbrev S2816x512 : Shape := ⟨2, ![2816, 512]⟩

abbrev nBuf : Space → Nat
  | .hbm => 24
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x2816, .f32⟩
  | .hbm, ⟨18, _⟩ => ⟨S1024x2816, .bf16⟩
  | .hbm, ⟨19, _⟩ => ⟨S1024x2816, .f32⟩
  | .hbm, ⟨20, _⟩ => ⟨S1024x2816, .bf16⟩
  | .hbm, ⟨21, _⟩ => ⟨S2816x1024, .f32⟩
  | .hbm, ⟨22, _⟩ => ⟨S2816x1024, .bf16⟩
  | .hbm, ⟨23, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnRIdeal.lean ====
abbrev S512x1024 : Shape := ⟨2, ![512, 1024]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 80
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1024x1024, .f32⟩
  | .hbm, ⟨10, _⟩ => ⟨S512x1024, .f32⟩
  | .hbm, ⟨11, _⟩ => ⟨S1024, .f32⟩
  | .hbm, ⟨12, _⟩ => ⟨S512x1024, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S512x1, .f32⟩
  | .hbm, ⟨23, _⟩ => ⟨S512x1024, .f32⟩
  | .hbm, ⟨24, _⟩ => ⟨S512x1024, .f32⟩
  | .hbm, ⟨25, _⟩ => ⟨S1x1024, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S1024, .f32⟩
  | .hbm, ⟨30, _⟩ => ⟨S512x1024, .f32⟩
  | .hbm, ⟨31, _⟩ => ⟨S_, .f32⟩
  | .hbm, ⟨32, _⟩ => ⟨S512, .f32⟩
  | .hbm, ⟨33, _⟩ => ⟨S512x1, .f32⟩
  | .hbm, ⟨34, _⟩ => ⟨S_, .f32⟩
  | .hbm, ⟨35, _⟩ => ⟨S512x1, .f32⟩
  | .hbm, ⟨36, _⟩ => ⟨S512x1, .f32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S512x1, .f32⟩
  | .hbm, ⟨41, _⟩ => ⟨S512x1024, .f32⟩
  | .hbm, ⟨42, _⟩ => ⟨S512x1024, .f32⟩
  | .hbm, ⟨43, _⟩ => ⟨S1x1024, .f32⟩
  | .hbm, ⟨44, _⟩ => ⟨S512x1024, .f32⟩
  | .hbm, ⟨45, _⟩ => ⟨S512x1024, .f32⟩
  | .hbm, ⟨46, _⟩ => ⟨S1024x2816, .f32⟩
  | .hbm, ⟨47, _⟩ => ⟨S512x2816, .f32⟩
  | .hbm, ⟨48, _⟩ => ⟨S512x2816, .f32⟩
  | .hbm, ⟨49, _⟩ => ⟨S512x2816, .f32⟩
  | .hbm, ⟨50, _⟩ => ⟨S_, .f32⟩
  | .hbm, ⟨51, _⟩ => ⟨S512x2816, .f32⟩
  | .hbm, ⟨52, _⟩ => ⟨S512x2816, .f32⟩
  | .hbm, ⟨53, _⟩ => ⟨S_, .f32⟩
  | .hbm, ⟨54, _⟩ => ⟨S512x2816, .f32⟩
  | .hbm, ⟨55, _⟩ => ⟨S512x2816, .f32⟩
  | .hbm, ⟨56, _⟩ => ⟨S512x2816, .f32⟩
  | .hbm, ⟨57, _⟩ => ⟨S1024x2816, .f32⟩
  | .hbm, ⟨58, _⟩ => ⟨S512x2816, .f32⟩
  | .hbm, ⟨59, _⟩ => ⟨S512x2816, .f32⟩
  | .hbm, ⟨60, _⟩ => ⟨S2816x1024, .f32⟩
  | .hbm, ⟨61, _⟩ => ⟨S512x1024, .f32⟩
  | .hbm, ⟨62, _⟩ => ⟨S1024, .f32⟩
  | .hbm, ⟨63, _⟩ => ⟨S512x1024, .f32⟩
  | .hbm, ⟨64, _⟩ => ⟨S_, .f32⟩
  | .hbm, ⟨65, _⟩ => ⟨S512, .f32⟩
  | .hbm, ⟨66, _⟩ => ⟨S512x1, .f32⟩
  | .hbm, ⟨67, _⟩ => ⟨S_, .f32⟩
  | .hbm, ⟨68, _⟩ => ⟨S512x1, .f32⟩
  | .hbm, ⟨69, _⟩ => ⟨S512x1, .f32⟩
  | .hbm, ⟨70, _⟩ => ⟨S_, .f32⟩
  | .hbm, ⟨71, _⟩ => ⟨S512x1, .f32⟩
  | .hbm, ⟨72, _⟩ => ⟨S512x1, .f32⟩
  | .hbm, ⟨73, _⟩ => ⟨S512x1, .f32⟩
  | .hbm, ⟨74, _⟩ => ⟨S512x1024, .f32⟩
  | .hbm, ⟨75, _⟩ => ⟨S512x1024, .f32⟩
  | .hbm, ⟨76, _⟩ => ⟨S1x1024, .f32⟩
  | .hbm, ⟨77, _⟩ => ⟨S512x1024, .f32⟩
  | .hbm, ⟨78, _⟩ => ⟨S512x1024, .f32⟩
  | .hbm, ⟨79, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]
-- ==== PostP.lean ====
abbrev S128x4x1024 : Shape := ⟨3, ![128, 4, 1024]⟩
abbrev S512x1024 : Shape := ⟨2, ![512, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S512 : Shape := ⟨1, ![512]⟩
abbrev S512x1 : Shape := ⟨2, ![512, 1]⟩

abbrev nBuf : Space → Nat
  | .hbm => 20
  | .vmem => 8
  | .smem => 0
  | _ => 0

abbrev bufTy : (tb : Table) → Fin (tcTables nBuf tb) → BufTy
  | .hbm, ⟨0, _⟩ => ⟨S128x4x1024, .f32⟩
  | .hbm, ⟨1, _⟩ => ⟨S512x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S512x1024, .f32⟩
  | .hbm, ⟨18, _⟩ => ⟨S512x1024, .f32⟩
  | .hbm, ⟨19, _⟩ => ⟨S512x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PostRIdeal.lean ====
abbrev S128x4x1024 : Shape := ⟨3, ![128, 4, 1024]⟩
abbrev S512x1024 : Shape := ⟨2, ![512, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S512 : Shape := ⟨1, ![512]⟩
abbrev S512x1 : Shape := ⟨2, ![512, 1]⟩

abbrev nBuf : Space → Nat
  | .hbm => 50
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S512x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S512x1024, .f32⟩
  | .hbm, ⟨7, _⟩ => ⟨S1024x1024, .f32⟩
  | .hbm, ⟨8, _⟩ => ⟨S512x1024, .f32⟩
  | .hbm, ⟨9, _⟩ => ⟨S1024, .f32⟩
  | .hbm, ⟨10, _⟩ => ⟨S512x1024, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S512x1, .f32⟩
  | .hbm, ⟨21, _⟩ => ⟨S512x1024, .f32⟩
  | .hbm, ⟨22, _⟩ => ⟨S512x1024, .f32⟩
  | .hbm, ⟨23, _⟩ => ⟨S1x1024, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S1024, .f32⟩
  | .hbm, ⟨28, _⟩ => ⟨S512x1024, .f32⟩
  | .hbm, ⟨29, _⟩ => ⟨S_, .f32⟩
  | .hbm, ⟨30, _⟩ => ⟨S512, .f32⟩
  | .hbm, ⟨31, _⟩ => ⟨S512x1, .f32⟩
  | .hbm, ⟨32, _⟩ => ⟨S_, .f32⟩
  | .hbm, ⟨33, _⟩ => ⟨S512x1, .f32⟩
  | .hbm, ⟨34, _⟩ => ⟨S512x1, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S512x1, .f32⟩
  | .hbm, ⟨39, _⟩ => ⟨S512x1024, .f32⟩
  | .hbm, ⟨40, _⟩ => ⟨S512x1024, .f32⟩
  | .hbm, ⟨41, _⟩ => ⟨S1x1024, .f32⟩
  | .hbm, ⟨42, _⟩ => ⟨S512x1024, .f32⟩
  | .hbm, ⟨43, _⟩ => ⟨S512x1024, .f32⟩
  | .hbm, ⟨44, _⟩ => ⟨S1024x1024, .f32⟩
  | .hbm, ⟨45, _⟩ => ⟨S512x1024, .f32⟩
  | .hbm, ⟨46, _⟩ => ⟨S_, .f32⟩
  | .hbm, ⟨47, _⟩ => ⟨S512x1024, .f32⟩
  | .hbm, ⟨48, _⟩ => ⟨S512x1024, .f32⟩
  | .hbm, ⟨49, _⟩ => ⟨S512x1024, .bf16⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== ProjP.lean ====
abbrev S128x4x1024 : Shape := ⟨3, ![128, 4, 1024]⟩
abbrev S1x128x3x1024 : Shape := ⟨4, ![1, 128, 3, 1024]⟩
abbrev S1x1024 : Shape := ⟨2, ![1, 1024]⟩
abbrev S1024x3200 : Shape := ⟨2, ![1024, 3200]⟩
abbrev S1024 : Shape := ⟨1, ![1024]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩
abbrev S128x3x1024 : Shape := ⟨3, ![128, 3, 1024]⟩

abbrev nBuf : Space → Nat
  | .hbm => 13
  | .vmem => 4
  | .smem => 0
  | _ => 0

abbrev bufTy : (tb : Table) → Fin (tcTables nBuf tb) → BufTy
  | .hbm, ⟨0, _⟩ => ⟨S128x4x1024, .f32⟩
  | .hbm, ⟨1, _⟩ => ⟨S1x128x3x1024, .f32⟩
  | .hbm, ⟨2, _⟩ => ⟨S1x1024, .f32⟩
  | .hbm, ⟨3, _⟩ => ⟨S1024x3200, .f32⟩
  | .hbm, ⟨4, _⟩ => ⟨S1024, .f32⟩
  | .hbm, ⟨5, _⟩ => ⟨S1x1024, .f32⟩
  | .hbm, ⟨6, _⟩ => ⟨S1024x3200, .bf16⟩
  | .hbm, ⟨7, _⟩ => ⟨S512x1024, .f32⟩
  | .hbm, ⟨8, _⟩ => ⟨S512x3200, .f32⟩
  | .hbm, ⟨9, _⟩ => ⟨S512x1024, .f32⟩
  | .hbm, ⟨10, _⟩ => ⟨S128x4x1024, .f32⟩
  | .hbm, ⟨11, _⟩ => ⟨S128x3x1024, .f32⟩
  | .hbm, ⟨12, _⟩ => ⟨S1x128x3x1024, .f32⟩
  | .local _ .vmem, ⟨0, _⟩ => ⟨S512x1024, .f32⟩
  | .local _ .vmem, ⟨1, _⟩ => ⟨S1x1024, .f32⟩
  | .local _ .vmem, ⟨2, _⟩ => ⟨S1024x3200, .bf16⟩
  | .local _ .vmem, ⟨3, _⟩ => ⟨S512x3200, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x3200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ProjRIdeal.lean ====
abbrev S128x4x1024 : Shape := ⟨3, ![128, 4, 1024]⟩
abbrev S1x128x3x1024 : Shape := ⟨4, ![1, 128, 3, 1024]⟩
abbrev S1x1024 : Shape := ⟨2, ![1, 1024]⟩
abbrev S1024x3200 : Shape := ⟨2, ![1024, 3200]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x3200 : Shape := ⟨3, ![128, 4, 3200]⟩
abbrev S128x3x1024 : Shape := ⟨3, ![128, 3, 1024]⟩
abbrev S128x7x1024 : Shape := ⟨3, ![128, 7, 1024]⟩
abbrev S512x3200 : Shape := ⟨2, ![512, 3200]⟩

abbrev nBuf : Space → Nat
  | .hbm => 28
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x128x3x1024, .f32⟩
  | .hbm, ⟨2, _⟩ => ⟨S1x1024, .f32⟩
  | .hbm, ⟨3, _⟩ => ⟨S1024x3200, .f32⟩
  | .hbm, ⟨4, _⟩ => ⟨S1024, .f32⟩
  | .hbm, ⟨5, _⟩ => ⟨S128x4x1024, .f32⟩
  | .hbm, ⟨6, _⟩ => ⟨S_, .f32⟩
  | .hbm, ⟨7, _⟩ => ⟨S128x4, .f32⟩
  | .hbm, ⟨8, _⟩ => ⟨S128x4x1, .f32⟩
  | .hbm, ⟨9, _⟩ => ⟨S_, .f32⟩
  | .hbm, ⟨10, _⟩ => ⟨S128x4x1, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S128x4x1, .f32⟩
  | .hbm, ⟨16, _⟩ => ⟨S128x4x1024, .f32⟩
  | .hbm, ⟨17, _⟩ => ⟨S128x4x1024, .f32⟩
  | .hbm, ⟨18, _⟩ => ⟨S1x1x1024, .f32⟩
  | .hbm, ⟨19, _⟩ => ⟨S128x4x1024, .f32⟩
  | .hbm, ⟨20, _⟩ => ⟨S128x4x1024, .f32⟩
  | .hbm, ⟨21, _⟩ => ⟨S128x4x3200, .f32⟩
  | .hbm, ⟨22, _⟩ => ⟨S128x4x1024, .f32⟩
  | .hbm, ⟨23, _⟩ => ⟨S128x3x1024, .f32⟩
  | .hbm, ⟨24, _⟩ => ⟨S128x7x1024, .f32⟩
  | .hbm, ⟨25, _⟩ => ⟨S128x3x1024, .f32⟩
  | .hbm, ⟨26, _⟩ => ⟨S512x3200, .f32⟩
  | .hbm, ⟨27, _⟩ => ⟨S1x128x3x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== MixSP.lean ====
abbrev S512x3200 : Shape := ⟨2, ![512, 3200]⟩
abbrev S1x128x3x1024 : Shape := ⟨4, ![1, 128, 3, 1024]⟩
abbrev S1x128x4x64x128 : Shape := ⟨5, ![1, 128, 4, 64, 128]⟩
abbrev S1x128x8x64x128 : Shape := ⟨5, ![1, 128, 8, 64, 128]⟩
abbrev S1x16x256 : Shape := ⟨3, ![1, 16, 256]⟩
abbrev S1x256 : Shape := ⟨2, ![1, 256]⟩
abbrev S1x128 : Shape := ⟨2, ![1, 128]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S16x256 : Shape := ⟨2, ![16, 256]⟩
abbrev S256 : Shape := ⟨1, ![256]⟩
abbrev S128 : Shape := ⟨1, ![128]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩
abbrev S128x256 : Shape := ⟨2, ![128, 256]⟩
abbrev S1 : Shape := ⟨1, ![1]⟩
abbrev S2 : Shape := ⟨1, ![2]⟩
abbrev S8x64 : Shape := ⟨2, ![8, 64]⟩
abbrev S128x3x1024 : Shape := ⟨3, ![128, 3, 1024]⟩
abbrev S128x4x1024 : Shape := ⟨3, ![128, 4, 1024]⟩
abbrev S512x1024 : Shape := ⟨2, ![512, 1024]⟩
abbrev S128x4x64x128 : Shape := ⟨4, ![128, 4, 64, 128]⟩
abbrev S128x8x64x128 : Shape := ⟨4, ![128, 8, 64, 128]⟩
abbrev S64x3200 : Shape := ⟨2, ![64, 3200]⟩
abbrev S64x1024 : Shape := ⟨2, ![64, 1024]⟩
abbrev S16x4x64x128 : Shape := ⟨4, ![16, 4, 64, 128]⟩
abbrev S16x8x64x128 : Shape := ⟨4, ![16, 8, 64, 128]⟩
abbrev S72x1024 : Shape := ⟨2, ![72, 1024]⟩
abbrev S64x128 : Shape := ⟨2, ![64, 128]⟩
abbrev S64x256 : Shape := ⟨2, ![64, 256]⟩
abbrev S8x1024 : Shape := ⟨2, ![8, 1024]⟩
abbrev S64x512 : Shape := ⟨2, ![64, 512]⟩
abbrev S64x64 : Shape := ⟨2, ![64, 64]⟩
abbrev S128x128 : Shape := ⟨2, ![128, 128]⟩
abbrev S128x64 : Shape := ⟨2, ![128, 64]⟩
abbrev S256x128 : Shape := ⟨2, ![256, 128]⟩
abbrev S256x256 : Shape := ⟨2, ![256, 256]⟩
abbrev S256x64 : Shape := ⟨2, ![256, 64]⟩
abbrev S64x1 : Shape := ⟨2, ![64, 1]⟩
abbrev S1x64 : Shape := ⟨2, ![1, 64]⟩
abbrev S1x4x64x128 : Shape := ⟨4, ![1, 4, 64, 128]⟩
abbrev S4x64x128 : Shape := ⟨3, ![4, 64, 128]⟩
abbrev S256x1 : Shape := ⟨2, ![256, 1]⟩
abbrev S1x2x64x128 : Shape := ⟨4, ![1, 2, 64, 128]⟩
abbrev S2x64x128 : Shape := ⟨3, ![2, 64, 128]⟩
abbrev S1x1 : Shape := ⟨2, ![1, 1]⟩
abbrev S64 : Shape := ⟨1, ![64]⟩

abbrev nBuf : Space → Nat
  | .hbm => 63
  | .vmem => 25
  | .smem => 0
  | _ => 0

abbrev bufTy : (tb : Table) → Fin (tcTables nBuf tb) → BufTy
  | .hbm, ⟨0, _⟩ => ⟨S512x3200, .f32⟩
  | .hbm, ⟨1, _⟩ => ⟨S1x128x3x1024, .f32⟩
  | .hbm, ⟨2, _⟩ => ⟨S1x128x4x64x128, .f32⟩
  | .hbm, ⟨3, _⟩ => ⟨S1x128x8x64x128, .f32⟩
  | .hbm, ⟨4, _⟩ => ⟨S1x16x256, .f32⟩
  | .hbm, ⟨5, _⟩ => ⟨S1x256, .f32⟩
  | .hbm, ⟨6, _⟩ => ⟨S1x128, .f32⟩
  | .hbm, ⟨7, _⟩ => ⟨S1x4x1024, .f32⟩
  | .hbm, ⟨8, _⟩ => ⟨S1x1024, .f32⟩
  | .hbm, ⟨9, _⟩ => ⟨S1x8, .f32⟩
  | .hbm, ⟨10, _⟩ => ⟨S1x8, .f32⟩
  | .hbm, ⟨11, _⟩ => ⟨S1x8, .f32⟩
  | .hbm, ⟨12, _⟩ => ⟨S1x512, .f32⟩
  | .hbm, ⟨13, _⟩ => ⟨S16x256, .f32⟩
  | .hbm, ⟨14, _⟩ => ⟨S256, .f32⟩
  | .hbm, ⟨15, _⟩ => ⟨S128, .f32⟩
  | .hbm, ⟨16, _⟩ => ⟨S4x1024, .f32⟩
  | .hbm, ⟨17, _⟩ => ⟨S1024, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S512, .f32⟩
  | .hbm, ⟨22, _⟩ => ⟨S_, .f32⟩
  | .hbm, ⟨23, _⟩ => ⟨S128x256, .f32⟩
  | .hbm, ⟨24, _⟩ => ⟨S_, .i32⟩
  | .hbm, ⟨25, _⟩ => ⟨S1, .i32⟩
  | .hbm, ⟨26, _⟩ => ⟨S128x256, .f32⟩
  | .hbm, ⟨27, _⟩ => ⟨S128x256, .bf16⟩
  | .hbm, ⟨28, _⟩ => ⟨S1x256, .f32⟩
  | .hbm, ⟨29, _⟩ => ⟨S1x128, .f32⟩
  | .hbm, ⟨30, _⟩ => ⟨S1x1024, .f32⟩
  | .hbm, ⟨31, _⟩ => ⟨S_, .f32⟩
  | .hbm, ⟨32, _⟩ => ⟨S1x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1x128, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S1x128, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S1x128, .f32⟩
  | .hbm, ⟨49, _⟩ => ⟨S8x64, .f32⟩
  | .hbm, ⟨50, _⟩ => ⟨S512, .f32⟩
  | .hbm, ⟨51, _⟩ => ⟨S1x512, .f32⟩
  | .hbm, ⟨52, _⟩ => ⟨S1x512, .f32⟩
  | .hbm, ⟨53, _⟩ => ⟨S128x3x1024, .f32⟩
  | .hbm, ⟨54, _⟩ => ⟨S_, .i32⟩
  | .hbm, ⟨55, _⟩ => ⟨S_, .f32⟩
  | .hbm, ⟨56, _⟩ => ⟨S128x4x1024, .f32⟩
  | .hbm, ⟨57, _⟩ => ⟨S512x1024, .f32⟩
  | .hbm, ⟨58, _⟩ => ⟨S128x4x64x128, .f32⟩
  | .hbm, ⟨59, _⟩ => ⟨S128x8x64x128, .f32⟩
  | .hbm, ⟨60, _⟩ => ⟨S512x1024, .f32⟩
  | .hbm, ⟨61, _⟩ => ⟨S128x4x64x128, .f32⟩
  | .hbm, ⟨62, _⟩ => ⟨S128x8x64x128, .f32⟩
  | .local _ .vmem, ⟨0, _⟩ => ⟨S64x3200, .f32⟩
  | .local _ .vmem, ⟨1, _⟩ => ⟨S64x3200, .f32⟩
  | .local _ .vmem, ⟨2, _⟩ => ⟨S64x1024, .f32⟩
  | .local _ .vmem, ⟨3, _⟩ => ⟨S64x1024, .f32⟩
  | .local _ .vmem, ⟨4, _⟩ => ⟨S16x4x64x128, .f32⟩
  | .local _ .vmem, ⟨5, _⟩ => ⟨S16x4x64x128, .f32⟩
  | .local _ .vmem, ⟨6, _⟩ => ⟨S16x8x64x128, .f32⟩
  | .local _ .vmem, ⟨7, _⟩ => ⟨S16x8x64x128, .f32⟩
  | .local _ .vmem, ⟨8, _⟩ => ⟨S128x256, .bf16⟩
  | .local _ .vmem, ⟨9, _⟩ => ⟨S1x256, .f32⟩
  | .local _ .vmem, ⟨10, _⟩ => ⟨S1x128, .f32⟩
  | .local _ .vmem, ⟨11, _⟩ => ⟨S4x1024, .f32⟩
  | .local _ .vmem, ⟨12, _⟩ => ⟨S1x1024, .f32⟩
  | .local _ .vmem, ⟨13, _⟩ => ⟨S1x128, .f32⟩
  | .local _ .vmem, ⟨14, _⟩ => ⟨S1x128, .f32⟩
  | .local _ .vmem, ⟨15, _⟩ => ⟨S1x512, .f32⟩
  | .local _ .vmem, ⟨16, _⟩ => ⟨S1x512, .f32⟩
  | .local _ .vmem, ⟨17, _⟩ => ⟨S64x1024, .f32⟩
  | .local _ .vmem, ⟨18, _⟩ => ⟨S64x1024, .f32⟩
  | .local _ .vmem, ⟨19, _⟩ => ⟨S16x4x64x128, .f32⟩
  | .local _ .vmem, ⟨20, _⟩ => ⟨S16x4x64x128, .f32⟩
  | .local _ .vmem, ⟨21, _⟩ => ⟨S16x8x64x128, .f32⟩
  | .local _ .vmem, ⟨22, _⟩ => ⟨S16x8x64x128, .f32⟩
  | .local _ .vmem, ⟨23, _⟩ => ⟨S72x1024, .f32⟩
  | .local _ .vmem, ⟨24, _⟩ => ⟨S72x1024, .f32⟩
  | _, _ => ⟨S512x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_call0_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37_0 : Ref sig .tc := ⟨.hbm, 60, rfl⟩
abbrev main_v37_1 : Ref sig .tc := ⟨.hbm, 61, rfl⟩
abbrev main_v37_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x4x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x8x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixSRIdeal.lean ====
abbrev S512x3200 : Shape := ⟨2, ![512, 3200]⟩
abbrev S1x128x3x1024 : Shape := ⟨4, ![1, 128, 3, 1024]⟩
abbrev S1x128x4x64x128 : Shape := ⟨5, ![1, 128, 4, 64, 128]⟩
abbrev S1x128x8x64x128 : Shape := ⟨5, ![1, 128, 8, 64, 128]⟩
abbrev S1x16x256 : Shape := ⟨3, ![1, 16, 256]⟩
abbrev S1x256 : Shape := ⟨2, ![1, 256]⟩
abbrev S1x128 : Shape := ⟨2, ![1, 128]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S128x4x3200 : Shape := ⟨3, ![128, 4, 3200]⟩
abbrev S128x4x256 : Shape := ⟨3, ![128, 4, 256]⟩
abbrev S128x4x4x64 : Shape := ⟨4, ![128, 4, 4, 64]⟩
abbrev S128x4x512 : Shape := ⟨3, ![128, 4, 512]⟩
abbrev S128x4x4x128 : Shape := ⟨4, ![128, 4, 4, 128]⟩
abbrev S128x4x1024 : Shape := ⟨3, ![128, 4, 1024]⟩
abbrev S128x4x16 : Shape := ⟨3, ![128, 4, 16]⟩
abbrev S128x4x8 : Shape := ⟨3, ![128, 4, 8]⟩
abbrev S16x256 : Shape := ⟨2, ![16, 256]⟩
abbrev S256 : Shape := ⟨1, ![256]⟩
abbrev S1x1x256 : Shape := ⟨3, ![1, 1, 256]⟩
abbrev S_ : Shape := ⟨0, ![]⟩
abbrev S128x1x4x64 : Shape := ⟨4, ![128, 1, 4, 64]⟩
abbrev S128x4x64 : Shape := ⟨3, ![128, 4, 64]⟩
abbrev S128x4x64x1 : Shape := ⟨4, ![128, 4, 64, 1]⟩
abbrev S128x4x64x128 : Shape := ⟨4, ![128, 4, 64, 128]⟩
abbrev S128x3x1024 : Shape := ⟨3, ![128, 3, 1024]⟩
abbrev S128x7x1024 : Shape := ⟨3, ![128, 7, 1024]⟩
abbrev S1024 : Shape := ⟨1, ![1024]⟩
abbrev S4x1024 : Shape := ⟨2, ![4, 1024]⟩
abbrev S1x1x1024 : Shape := ⟨3, ![1, 1, 1024]⟩
abbrev S128x4x8x64 : Shape := ⟨4, ![128, 4, 8, 64]⟩
abbrev S128x4x2x128 : Shape := ⟨4, ![128, 4, 2, 128]⟩
abbrev S128x4x2x4x128 : Shape := ⟨5, ![128, 4, 2, 4, 128]⟩
abbrev S128x4x8x128 : Shape := ⟨4, ![128, 4, 8, 128]⟩
abbrev S8 : Shape := ⟨1, ![8]⟩
abbrev S1x1x8 : Shape := ⟨3, ![1, 1, 8]⟩
abbrev S128x1x8 : Shape := ⟨3, ![128, 1, 8]⟩
abbrev S128x8 : Shape := ⟨2, ![128, 8]⟩
abbrev S128x8x1x1 : Shape := ⟨4, ![128, 8, 1, 1]⟩
abbrev S128x8x64x128 : Shape := ⟨4, ![128, 8, 64, 128]⟩
abbrev S128x4x8x1 : Shape := ⟨4, ![128, 4, 8, 1]⟩

abbrev nBuf : Space → Nat
  | .hbm => 160
  | .vmem => 0
  | .smem => 0
  | _ => 0

abbrev hbmTy0_0 (i : Nat) : BufTy := match i % 128 with
  | 0 => ⟨S512x3200, .f32⟩
  | 1 => ⟨S1x128x3x1024, .f32⟩
  | 2 => ⟨S1x128x4x64x128, .f32⟩
  | 3 => ⟨S1x128x8x64x128, .f32⟩
  | 4 => ⟨S1x16x256, .f32⟩
  | 5 => ⟨S1x256, .f32⟩
  | 6 => ⟨S1x128, .f32⟩
  | 7 => ⟨S1x4x1024, .f32⟩
  | 8 => ⟨S1x1024, .f32⟩
  | 9 => ⟨S1x8, .f32⟩
  | 10 => ⟨S1x8, .f32⟩
  | 11 => ⟨S1x8, .f32⟩
  | 12 => ⟨S1x512, .f32⟩
  | 13 => ⟨S128x4x3200, .f32⟩
  | 14 => ⟨S128x4x256, .f32⟩
  | 15 => ⟨S128x4x4x64, .f32⟩
  | 16 => ⟨S128x4x512, .f32⟩
  | 17 => ⟨S128x4x4x128, .f32⟩
  | 18 => ⟨S128x4x1024, .f32⟩
  | 19 => ⟨S128x4x16, .f32⟩
  | 20 => ⟨S128x4x8, .f32⟩
  | 21 => ⟨S16x256, .f32⟩
  | 22 => ⟨S128x4x256, .f32⟩
  | 23 => ⟨S256, .f32⟩
  | 24 => ⟨S1x1x256, .f32⟩
  | 25 => ⟨S128x4x256, .f32⟩
  | 26 => ⟨S128x4x256, .f32⟩
  | 27 => ⟨S128x4x256, .f32⟩
  | 28 => ⟨S_, .f32⟩
  | 29 => ⟨S128x4x256, .f32⟩
  | 30 => ⟨S128x4x256, .f32⟩
  | 31 => ⟨S128x4x256, .f32⟩
  | 32 => ⟨S128x4x256, .f32⟩
  | 33 => ⟨S128x4x256, .i1⟩
  | 34 => ⟨S128x4x256, .f32⟩
  | 35 => ⟨S128x4x256, .f32⟩
  | 36 => ⟨S128x4x256, .f32⟩
  | 37 => ⟨S128x4x256, .f32⟩
  | 38 => ⟨S128x4x256, .f32⟩
  | 39 => ⟨S128x4x256, .f32⟩
  | 40 => ⟨S128x4x256, .f32⟩
  | 41 => ⟨S128x4x256, .f32⟩
  | 42 => ⟨S128x4x256, .f32⟩
  | 43 => ⟨S_, .f32⟩
  | 44 => ⟨S128x4x256, .f32⟩
  | 45 => ⟨S128x4x256, .f32⟩
  | 46 => ⟨S128x4x4x64, .f32⟩
  | 47 => ⟨S_, .f32⟩
  | 48 => ⟨S_, .f32⟩
  | 49 => ⟨S128x4x4x64, .f32⟩
  | 50 => ⟨S128x1x4x64, .f32⟩
  | 51 => ⟨S128x4x64, .f32⟩
  | 52 => ⟨S128x4x64, .f32⟩
  | 53 => ⟨S128x4x64x1, .f32⟩
  | 54 => ⟨S128x4x64x128, .f32⟩
  | 55 => ⟨S128x4x64x128, .f32⟩
  | 56 => ⟨S128x4x64x128, .f32⟩
  | 57 => ⟨S128x1x4x64, .f32⟩
  | 58 => ⟨S128x4x4x64, .f32⟩
  | 59 => ⟨S128x4x4x64, .f32⟩
  | 60 => ⟨S128x4x4x64, .f32⟩
  | 61 => ⟨S128x4x4x64, .f32⟩
  | 62 => ⟨S128x4x64x128, .f32⟩
  | 63 => ⟨S128x4x64x128, .f32⟩
  | 64 => ⟨S128x3x1024, .f32⟩
  | 65 => ⟨S128x7x1024, .f32⟩
  | 66 => ⟨S1024, .f32⟩
  | 67 => ⟨S128x4x1024, .f32⟩
  | 68 => ⟨S4x1024, .f32⟩
  | 69 => ⟨S1x1024, .f32⟩
  | 70 => ⟨S1024, .f32⟩
  | 71 => ⟨S1x1x1024, .f32⟩
  | 72 => ⟨S128x4x1024, .f32⟩
  | 73 => ⟨S128x4x1024, .f32⟩
  | 74 => ⟨S1x1x1024, .f32⟩
  | 75 => ⟨S128x4x1024, .f32⟩
  | 76 => ⟨S128x4x1024, .f32⟩
  | 77 => ⟨S128x4x1024, .f32⟩
  | 78 => ⟨S4x1024, .f32⟩
  | 79 => ⟨S1x1024, .f32⟩
  | 80 => ⟨S1024, .f32⟩
  | 81 => ⟨S1x1x1024, .f32⟩
  | 82 => ⟨S128x4x1024, .f32⟩
  | 83 => ⟨S128x4x1024, .f32⟩
  | 84 => ⟨S128x4x1024, .f32⟩
  | 85 => ⟨S128x4x1024, .f32⟩
  | 86 => ⟨S4x1024, .f32⟩
  | 87 => ⟨S1x1024, .f32⟩
  | 88 => ⟨S1024, .f32⟩
  | 89 => ⟨S1x1x1024, .f32⟩
  | 90 => ⟨S128x4x1024, .f32⟩
  | 91 => ⟨S128x4x1024, .f32⟩
  | 92 => ⟨S128x4x1024, .f32⟩
  | 93 => ⟨S128x4x1024, .f32⟩
  | 94 => ⟨S4x1024, .f32⟩
  | 95 => ⟨S1x1024, .f32⟩
  | 96 => ⟨S1024, .f32⟩
  | 97 => ⟨S1x1x1024, .f32⟩
  | 98 => ⟨S128x4x1024, .f32⟩
  | 99 => ⟨S128x4x1024, .f32⟩
  | 100 => ⟨S128x4x1024, .f32⟩
  | 101 => ⟨S128x4x1024, .f32⟩
  | 102 => ⟨S128x4x1024, .f32⟩
  | 103 => ⟨S_, .f32⟩
  | 104 => ⟨S128x4x1024, .f32⟩
  | 105 => ⟨S128x4x1024, .f32⟩
  | 106 => ⟨S_, .f32⟩
  | 107 => ⟨S128x4x1024, .f32⟩
  | 108 => ⟨S128x4x1024, .f32⟩
  | 109 => ⟨S128x4x1024, .f32⟩
  | 110 => ⟨S128x4x512, .f32⟩
  | 111 => ⟨S128x4x8x64, .f32⟩
  | 112 => ⟨S128x4x256, .f32⟩
  | 113 => ⟨S128x4x2x128, .f32⟩
  | 114 => ⟨S128x4x2x4x128, .f32⟩
  | 115 => ⟨S128x4x8x128, .f32⟩
  | 116 => ⟨S8, .f32⟩
  | 117 => ⟨S1x1x8, .f32⟩
  | 118 => ⟨S128x4x8, .f32⟩
  | 119 => ⟨S128x4x8, .f32⟩
  | 120 => ⟨S_, .f32⟩
  | 121 => ⟨S128x4x8, .f32⟩
  | 122 => ⟨S128x4x8, .f32⟩
  | 123 => ⟨S128x4x8, .f32⟩
  | 124 => ⟨S128x4x8, .f32⟩
  | 125 => ⟨S128x4x8, .i1⟩
  | 126 => ⟨S128x4x8, .f32⟩
  | 127 => ⟨S128x4x8, .f32⟩
  | _ => ⟨S512x3200, .f32⟩

abbrev hbmTy0_1 (i : Nat) : BufTy := match i % 128 with
  | 0 => ⟨S128x4x8, .f32⟩
  | 1 => ⟨S128x4x8, .f32⟩
  | 2 => ⟨S128x4x8, .f32⟩
  | 3 => ⟨S128x4x8, .f32⟩
  | 4 => ⟨S128x4x8, .f32⟩
  | 5 => ⟨S128x4x8, .f32⟩
  | 6 => ⟨S8, .f32⟩
  | 7 => ⟨S8, .f32⟩
  | 8 => ⟨S8, .f32⟩
  | 9 => ⟨S1x1x8, .f32⟩
  | 10 => ⟨S128x4x8, .f32⟩
  | 11 => ⟨S128x4x8, .f32⟩
  | 12 => ⟨S_, .f32⟩
  | 13 => ⟨S_, .f32⟩
  | 14 => ⟨S128x4x8, .f32⟩
  | 15 => ⟨S128x1x8, .f32⟩
  | 16 => ⟨S128x8, .f32⟩
  | 17 => ⟨S128x1x8, .f32⟩
  | 18 => ⟨S128x4x8, .f32⟩
  | 19 => ⟨S128x4x8, .f32⟩
  | 20 => ⟨S128x4x8, .f32⟩
  | 21 => ⟨S128x4x8, .f32⟩
  | 22 => ⟨S128x8, .f32⟩
  | 23 => ⟨S128x8x1x1, .f32⟩
  | 24 => ⟨S128x8x64x128, .f32⟩
  | 25 => ⟨S128x8x64x128, .f32⟩
  | 26 => ⟨S128x8x64x128, .f32⟩
  | 27 => ⟨S128x4x8x1, .f32⟩
  | 28 => ⟨S128x4x8x64, .f32⟩
  | 29 => ⟨S128x4x8x64, .f32⟩
  | 30 => ⟨S128x8x64x128, .f32⟩
  | 31 => ⟨S128x8x64x128, .f32⟩
  | _ => ⟨S512x3200, .f32⟩

abbrev hbmTy (i : Nat) : BufTy := match i / 128 with
  | 0 => hbmTy0_0 i
  | 1 => hbmTy0_1 i
  | _ => ⟨S512x3200, .f32⟩

abbrev bufTy : (tb : Table) → Fin (tcTables nBuf tb) → BufTy
  | .hbm, ⟨i, _⟩ => hbmTy i
  | _, _ => ⟨S512x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_call1_call0_cst : Ref sig .tc := ⟨.hbm, 47, rfl⟩
abbrev main_call1_call0_v0 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call2_v0 : Ref sig .tc := ⟨.hbm, 101, rfl⟩
abbrev main_call2_v1 : Ref sig .tc := ⟨.hbm, 102, rfl⟩
abbrev main_call2_cst : Ref sig .tc := ⟨.hbm, 103, rfl⟩
abbrev main_call2_v2 : Ref sig .tc := ⟨.hbm, 104, rfl⟩
abbrev main_call2_v3 : Ref sig .tc := ⟨.hbm, 105, rfl⟩
abbrev main_call2_cst_0 : Ref sig .tc := ⟨.hbm, 106, rfl⟩
abbrev main_call2_v4 : Ref sig .tc := ⟨.hbm, 107, rfl⟩
abbrev main_call2_v5 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_call3_cst : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_call4_call0_cst : Ref sig .tc := ⟨.hbm, 140, rfl⟩
abbrev main_call4_call0_v0 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩

abbrev nD : Nat := 1
abbrev τ : Topo := Topo.v7x

variable {F : FTy → Type} [FloatOps F]
-- ==== Proof.Attn.Tile.lean ====
module

public import proofs.«01_k».proof.Proof.Gen.AttnPIdeal.Frame
public import Idealize.ShloMosaic.Lib.Pointwise
public import Idealize.ShloMosaic.Lib.ValueIdx
public import Idealize.ShloMosaic.PureOps.Ideal.Laws

@[expose] public section

set_option maxRecDepth 16384

noncomputable section

/-! What one tile of 256 rows of the attention and feed-forward call computes, as one function of the tile's rows, of
the memory's keys and values, and of the weights. The body runs this function four times, interleaved. -/

namespace Cert.AttnPIdeal.Tile

open Cert.AttnPIdeal Cert.AttnPIdeal.Gen Idealize.ShloMosaic Idealize.SL.Sem Idealize.ShloMosaic.ValueIdx

variable {F : FTy → Type} [FloatOps F]

/-- The root-mean-square norm of every row, times the weights. -/
def rms (x : FVec F S256x1024 .f32) (w : Vec F S1x1024 .f32) : FVec F S256x1024 .f32 :=
  mulf (mulf x (broadcastTo S256x1024 (rsqrt (addf
    (divf (shapeCast S256x1 (multiReduction .add [1] S256 (mulf x x) 0x00000000#32 reduces_S256x1024_S256 (.inl rfl) rfl) shapeCasts_S256_S256x1)
      (broadcast S256x1 (Scalar.ofBits .f32 0x44800000#32)))
    (broadcast S256x1 (Scalar.ofBits .f32 0x358637BD#32)))) broadcasts_S256x1_S256x1024))
    (broadcastTo S256x1024 (shapeCast S1x1024 w shapeCasts_S1x1024_S1x1024) broadcasts_S1x1024_S256x1024)

/-- Half of the projected queries: 512 columns of `hn · wq`. -/
def qhalf (hn : FVec F S256x1024 .bf16) (wq : Vec F S1024x512 .bf16) : FVec F S256x512 .bf16 :=
  truncf .bf16 (matmul dot_S256x1024_S1024x512_S256x512_1_0_0_1_n_n none hn
    (shapeCast S1024x512 wq shapeCasts_S1024x512_S1024x512) (constant S256x512 .f32 0x00000000#32)) bitsLt_bf16_f32

/-- The attention of one head: the softmax of the query rows against the keys, times the values. -/
def head (q : FVec F S256x256 .bf16) (k v : Vec F S1x256x256 .bf16) : FVec F S256x256 .bf16 :=
  let s : FVec F S256x256 .f32 := matmul dot_S256x256_S256x256_S256x256_1_1_0_0_n_n none q
    (shapeCast S256x256 k shapeCasts_S1x256x256_S256x256) (constant S256x256 .f32 0x00000000#32)
  let e : FVec F S256x256 .f32 := exp (subf s (broadcastTo S256x256 (shapeCast S256x1
    (multiReduction .maximumf [1] S256 s 0xFF800000#32 reduces_S256x256_S256 (.inl rfl) rfl) shapeCasts_S256_S256x1) broadcasts_S256x1_S256x256))
  let p : FVec F S256x256 .bf16 := truncf .bf16 (divf e (broadcastTo S256x256 (shapeCast S256x1
    (multiReduction .add [1] S256 e 0x00000000#32 reduces_S256x256_S256 (.inl rfl) rfl) shapeCasts_S256_S256x1) broadcasts_S256x1_S256x256)) bitsLt_bf16_f32
  truncf .bf16 (matmul dot_S256x256_S256x256_S256x256_1_0_0_1_n_n none p
    (shapeCast S256x256 v shapeCasts_S1x256x256_S256x256) (constant S256x256 .f32 0x00000000#32)) bitsLt_bf16_f32

/-- The rows after the attention: the rows plus the norm of the four heads' outputs through `wo`. -/
def attn (x : FVec F S256x1024 .f32) (w3 : Vec F S1x1024 .f32) (wq0 wq1 : Vec F S1024x512 .bf16)
    (k0 k1 k2 k3 v0 v1 v2 v3 : Vec F S1x256x256 .bf16) (wo0 wo1 : Vec F S1024x512 .bf16) (w6 : Vec F S1x1024 .f32) :
    FVec F S256x1024 .f32 :=
  let hn : FVec F S256x1024 .bf16 := truncf .bf16 (rms x w3) bitsLt_bf16_f32
  let qa : FVec F S256x512 .bf16 := qhalf hn wq0
  let qb : FVec F S256x512 .bf16 := qhalf hn wq1
  let o : FVec F S256x1024 .bf16 := concatenate S256x1024 1
    [⟨S256x256, head (extractStridedSlice S256x256 ![0, 0] qa slices_S256x512_o0_0_S256x256) k0 v0⟩,
     ⟨S256x256, head (extractStridedSlice S256x256 ![0, 256] qa slices_S256x512_o0_256_S256x256) k1 v1⟩,
     ⟨S256x256, head (extractStridedSlice S256x256 ![0, 0] qb slices_S256x512_o0_0_S256x256) k2 v2⟩,
     ⟨S256x256, head (extractStridedSlice S256x256 ![0, 256] qb slices_S256x512_o0_256_S256x256) k3 v3⟩]
    concatenates_S256x256_S256x256_S256x256_S256x256_S256x1024_d1
  addf x (rms (concatenate S256x1024 1
    [⟨S256x512, matmul dot_S256x1024_S1024x512_S256x512_1_0_0_1_n_n none o
      (shapeCast S1024x512 wo0 shapeCasts_S1024x512_S1024x512) (constant S256x512 .f32 0x00000000#32)⟩,
     ⟨S256x512, matmul dot_S256x1024_S1024x512_S256x512_1_0_0_1_n_n none o
      (shapeCast S1024x512 wo1 shapeCasts_S1024x512_S1024x512) (constant S256x512 .f32 0x00000000#32)⟩]
    concatenates_S256x512_S256x512_S256x1024_d1) w6)

/-- 256 columns of the gated feed-forward layer: `silu (hf · wg) * (hf · wu)`. -/
def swiglu (hf : FVec F S256x1024 .bf16) (g u : Vec F S1024x256 .bf16) : FVec F S256x256 .bf16 :=
  let a : FVec F S256x256 .f32 := matmul dot_S256x1024_S1024x256_S256x256_1_0_0_1_n_n none hf
    (shapeCast S1024x256 g shapeCasts_S1024x256_S1024x256) (constant S256x256 .f32 0x00000000#32)
  let b : FVec F S256x256 .f32 := matmul dot_S256x1024_S1024x256_S256x256_1_0_0_1_n_n none hf
    (shapeCast S1024x256 u shapeCasts_S1024x256_S1024x256) (constant S256x256 .f32 0x00000000#32)
  truncf .bf16 (mulf (divf a (addf (broadcast S256x256 (Scalar.ofBits .f32 0x3F800000#32))
    (exp (subf (broadcast S256x256 (Scalar.ofBits .f32 0x00000000#32)) a)))) b) bitsLt_bf16_f32

/-- The rows after the feed-forward layer. -/
def ffn (x : FVec F S256x1024 .f32) (w7 : Vec F S1x1024 .f32)
    (g0 g1 g2 g3 g4 g5 g6 g7 g8 g9 g10 u0 u1 u2 u3 u4 u5 u6 u7 u8 u9 u10 : Vec F S1024x256 .bf16)
    (d0 d1 : Vec F S2816x512 .bf16) (w8 : Vec F S1x1024 .f32) : FVec F S256x1024 .f32 :=
  let hf : FVec F S256x1024 .bf16 := truncf .bf16 (rms x w7) bitsLt_bf16_f32
  let z : FVec F S256x2816 .bf16 := concatenate S256x2816 1
    [⟨S256x256, swiglu hf g0 u0⟩, ⟨S256x256, swiglu hf g1 u1⟩, ⟨S256x256, swiglu hf g2 u2⟩, ⟨S256x256, swiglu hf g3 u3⟩,
     ⟨S256x256, swiglu hf g4 u4⟩, ⟨S256x256, swiglu hf g5 u5⟩, ⟨S256x256, swiglu hf g6 u6⟩, ⟨S256x256, swiglu hf g7 u7⟩,
     ⟨S256x256, swiglu hf g8 u8⟩, ⟨S256x256, swiglu hf g9 u9⟩, ⟨S256x256, swiglu hf g10 u10⟩]
    concatenates_S256x256_S256x256_S256x256_S256x256_S256x256_S256x256_S256x256_S256x256_S256x256_S256x256_S256x256_S256x2816_d1
  addf x (rms (concatenate S256x1024 1
    [⟨S256x512, matmul dot_S256x2816_S2816x512_S256x512_1_0_0_1_n_n none z
      (shapeCast S2816x512 d0 shapeCasts_S2816x512_S2816x512) (constant S256x512 .f32 0x00000000#32)⟩,
     ⟨S256x512, matmul dot_S256x2816_S2816x512_S256x512_1_0_0_1_n_n none z
      (shapeCast S2816x512 d1 shapeCasts_S2816x512_S2816x512) (constant S256x512 .f32 0x00000000#32)⟩]
    concatenates_S256x512_S256x512_S256x1024_d1) w8)

/-- The whole call on 256 rows `x`, from the blocks of the keys, values and weights. -/
def tile (x : Vec F S1x256x1024 .f32) (x1 : Vec F S1x256x1024 .bf16) (x2 : Vec F S1x256x1024 .bf16) (x3 : Vec F S1x1024 .f32) (x4 : Vec F S1024x1024 .bf16) (x5 : Vec F S1024x1024 .bf16) (x6 : Vec F S1x1024 .f32) (x7 : Vec F S1x1024 .f32) (x8 : Vec F S1x1024 .f32) (x9 : Vec F S1024x2816 .bf16) (x10 : Vec F S1024x2816 .bf16) (x11 : Vec F S2816x1024 .bf16) : FVec F S1x256x1024 .f32 :=
  shapeCast S1x256x1024 (ffn (attn (shapeCast S256x1024 x shapeCasts_S1x256x1024_S256x1024) (View.ld x3 r0_1) (View.ld x4 r0_2) (View.ld x4 r0_8)
    (View.ld x1 r0_4) (View.ld x1 r0_7) (View.ld x1 r0_9) (View.ld x1 r0_10)
    (View.ld x2 r0_4) (View.ld x2 r0_7) (View.ld x2 r0_9) (View.ld x2 r0_10)
    (View.ld x5 r0_2) (View.ld x5 r0_8) (View.ld x6 r0_1)) (View.ld x7 r0_1)
    (View.ld x9 r0_11) (View.ld x9 r0_12) (View.ld x9 r0_13) (View.ld x9 r0_14) (View.ld x9 r0_15) (View.ld x9 r0_16) (View.ld x9 r0_17) (View.ld x9 r0_18) (View.ld x9 r0_19) (View.ld x9 r0_20) (View.ld x9 r0_21)
    (View.ld x10 r0_11) (View.ld x10 r0_12) (View.ld x10 r0_13) (View.ld x10 r0_14) (View.ld x10 r0_15) (View.ld x10 r0_16) (View.ld x10 r0_17) (View.ld x10 r0_18) (View.ld x10 r0_19) (View.ld x10 r0_20) (View.ld x10 r0_21)
    (View.ld x11 r0_22) (View.ld x11 r0_23) (View.ld x8 r0_1)) shapeCasts_S256x1024_S1x256x1024

/-- The block the body writes is the four tiles of 256 rows, each the function `tile` of its own rows. -/
theorem out_eq (x0 : Vec F S1x1024x1024 .f32) (x1 : Vec F S1x256x1024 .bf16) (x2 : Vec F S1x256x1024 .bf16) (x3 : Vec F S1x1024 .f32) (x4 : Vec F S1024x1024 .bf16) (x5 : Vec F S1024x1024 .bf16) (x6 : Vec F S1x1024 .f32) (x7 : Vec F S1x1024 .f32) (x8 : Vec F S1x1024 .f32) (x9 : Vec F S1024x2816 .bf16) (x10 : Vec F S1024x2816 .bf16) (x11 : Vec F S2816x1024 .bf16) :
    out0_12 x0 x1 x2 x3 x4 x5 x6 x7 x8 x9 x10 x11 = View.canon
      [⟨r0_6, tile (View.ld x0 r0_6) x1 x2 x3 x4 x5 x6 x7 x8 x9 x10 x11⟩,
       ⟨r0_5, tile (View.ld x0 r0_5) x1 x2 x3 x4 x5 x6 x7 x8 x9 x10 x11⟩,
       ⟨r0_3, tile (View.ld x0 r0_3) x1 x2 x3 x4 x5 x6 x7 x8 x9 x10 x11⟩,
       ⟨r0_0, tile (View.ld x0 r0_0) x1 x2 x3 x4 x5 x6 x7 x8 x9 x10 x11⟩] := rfl

end Cert.AttnPIdeal.Tile
end
-- ==== Proof.Attn.Math.lean ====
module

public import Idealize.ShloMosaic.PureOps.Ideal.Laws

@[expose] public section

noncomputable section

/-! The mathematics of one row of the attention and feed-forward layer over the extended reals. -/

namespace Cert.AttnMath

open Idealize.ShloMosaic

/-- The root-mean-square norm of the row `x` times the weights `w`, at column `j`. -/
def rmsRow (x w : Fin 1024 → EReal) (j : Fin 1024) : EReal :=
  x j * Ideal.rsqrt (Ideal.div (∑ k, x k * x k) (Ideal.ofBits FTy.f32 1149239296#32) + Ideal.ofBits FTy.f32 897988541#32) * w j

/-- The score row's greatest entry, not below minus infinity. -/
def rowMax (s : Fin 256 → EReal) : EReal :=
  Finset.fold max (Ideal.ofBits FTy.f32 4286578688#32) s Finset.univ

/-- The softmax of the score row `s` times the values `v`, at column `d`. -/
def softRow (s : Fin 256 → EReal) (v : Fin 256 → Fin 256 → EReal) (d : Fin 256) : EReal :=
  ∑ m, Ideal.div (Ideal.exp (s m - rowMax s)) (∑ m', Ideal.exp (s m' - rowMax s)) * v m d

/-- Column `256 * h + d` of 1024. -/
def hcol (h : Fin 4) (d : Fin 256) : Fin 1024 := ⟨256 * h.1 + d.1, by omega⟩
/-- The head of a column. -/
def colH (c : Fin 1024) : Fin 4 := ⟨c.1 / 256, by omega⟩
/-- The column within its head. -/
def colD (c : Fin 1024) : Fin 256 := ⟨c.1 % 256, by omega⟩

/-- The attention's output row before `wo`, from the score rows of the four heads. -/
def mixRow (s : Fin 4 → Fin 256 → EReal) (v : Fin 4 → Fin 256 → Fin 256 → EReal) (c : Fin 1024) : EReal :=
  softRow (s (colH c)) (v (colH c)) (colD c)

/-- The scores as the reference computes them: the query row times the key, then the scale. -/
def score (hn : Fin 1024 → EReal) (wq : Fin 1024 → Fin 1024 → EReal) (k : Fin 4 → Fin 256 → Fin 256 → EReal)
    (h : Fin 4) (m : Fin 256) : EReal :=
  (∑ d, (∑ c, hn c * wq c (hcol h d)) * k h m d) * Ideal.ofBits FTy.f32 0x3D800000#32

/-- The scores as the kernel computes them: the query weights are scaled already. -/
def scoreK (hn : Fin 1024 → EReal) (wq : Fin 1024 → Fin 1024 → EReal) (k : Fin 4 → Fin 256 → Fin 256 → EReal)
    (h : Fin 4) (m : Fin 256) : EReal :=
  ∑ d, (∑ c, hn c * wq c (hcol h d)) * k h m d

/-- A row after the attention, from the scores as a function of the normed row. -/
def attnRow (sc : (Fin 1024 → EReal) → Fin 4 → Fin 256 → EReal) (x w3 : Fin 1024 → EReal)
    (v : Fin 4 → Fin 256 → Fin 256 → EReal) (wo : Fin 1024 → Fin 1024 → EReal) (w6 : Fin 1024 → EReal) (j : Fin 1024) : EReal :=
  x j + rmsRow (fun j => ∑ c, mixRow (sc (rmsRow x w3)) v c * wo c j) w6 j

/-- The gated unit on the two projected values. -/
def gate (a b : EReal) : EReal := Ideal.div a (1 + Ideal.exp (0 - a)) * b

/-- A row after the feed-forward layer. -/
def ffnRow (x w7 : Fin 1024 → EReal) (g u : Fin 1024 → Fin 2816 → EReal) (d : Fin 2816 → Fin 1024 → EReal)
    (w8 : Fin 1024 → EReal) (j : Fin 1024) : EReal :=
  x j + rmsRow (fun j => ∑ c, gate (∑ k, rmsRow x w7 k * g k c) (∑ k, rmsRow x w7 k * u k c) * d c j) w8 j

/-- Minus infinity is the least value. -/
theorem ninf : Ideal.ofBits FTy.f32 4286578688#32 = ⊥ := by
  simp [Ideal.ofBits, Ideal.ieee]

/-- The scale is a real number that is not negative. -/
theorem scale_eq : ∃ r : ℝ, 0 ≤ r ∧ Ideal.ofBits FTy.f32 0x3D800000#32 = (r : EReal) := by
  refine ⟨1 / 16, by norm_num, ?_⟩
  simp [Ideal.ofBits, Ideal.ieee, -EReal.coe_mul]
  norm_num

/-- A finite factor that is not negative comes out of a sum. -/
theorem sum_mul_coe {ι : Type} [Fintype ι] (f : ι → EReal) (r : ℝ) (hr : 0 ≤ r) :
    ∑ i, f i * (r : EReal) = (∑ i, f i) * (r : EReal) := by
  classical
  induction (Finset.univ : Finset ι) using Finset.induction_on with
  | empty => simp
  | insert a s ha ih =>
    rw [Finset.sum_insert ha, Finset.sum_insert ha, ih,
      EReal.right_distrib_of_nonneg_of_ne_top (by exact_mod_cast hr) (EReal.coe_ne_top r)]

/-- The scores do not depend on where the scale is taken. -/
theorem scoreK_eq (hn : Fin 1024 → EReal) (wq : Fin 1024 → Fin 1024 → EReal) (k : Fin 4 → Fin 256 → Fin 256 → EReal) :
    scoreK hn (fun a b => wq a b * Ideal.ofBits FTy.f32 0x3D800000#32) k = score hn wq k := by
  obtain ⟨r, hr, he⟩ := scale_eq
  funext h m
  unfold scoreK score
  rw [he, ← sum_mul_coe _ r hr]
  refine Finset.sum_congr rfl fun d _ => ?_
  rw [mul_right_comm, ← sum_mul_coe _ r hr]
  simp only [mul_assoc]

/-- The reference's gated unit is the kernel's. -/
theorem gate_eq (a b : EReal) :
    (a * Ideal.div 1 (1 + Ideal.exp (-a))) * b = gate a b := by
  have h : ∀ z : EReal, (0:EReal) < 1 + Ideal.exp z := by
    intro z
    have h0 : (0:EReal) ≤ Ideal.exp z := by
      induction z with
      | bot => exact le_rfl
      | top => exact le_top
      | coe r => exact EReal.coe_nonneg.2 (Real.exp_pos r).le
    exact lt_of_lt_of_le zero_lt_one (le_add_of_nonneg_right h0)
  unfold gate Ideal.div
  rw [if_neg (h _).ne', if_neg (h _).ne', zero_sub, one_mul]

end Cert.AttnMath
end
-- ==== Proof.Attn.TileRead.lean ====
module

public import proofs.«01_k».proof.Proof.Attn.Tile
public import proofs.«01_k».proof.Proof.Attn.Math
import Idealize.ShloMosaic.Lib.Pointwise.Tactic

@[expose] public section

set_option maxRecDepth 16384
noncomputable section
namespace Cert.AttnPIdeal.Tile
open Cert.AttnPIdeal Cert.AttnPIdeal.Gen Idealize.ShloMosaic Idealize.SL.Sem Cert.AttnMath

/-- The norm at row `r`, column `j`. -/
theorem rms_apply (x : FVec Ideal S256x1024 .f32) (w : Vec Ideal S1x1024 .f32) (r : Fin 256) (j : Fin 1024) :
    rms (F := Ideal) x w (ix2 r j) = rmsRow (fun c => x (ix2 r c)) (fun c => w (ix2 0 c)) j := by
  unfold rms rmsRow
  pointwise

/-- The projected queries at row `r`, column `j`. -/
theorem qhalf_apply (x : FVec Ideal S256x1024 .bf16) (w : Vec Ideal S1024x512 .bf16) (r : Fin 256) (j : Fin 512) :
    qhalf (F := Ideal) x w (ix2 r j) = ∑ c, x (ix2 r c) * w (ix2 c j) := by
  unfold qhalf
  pointwise

/-- A head's attention at row `r`, column `j`. -/
theorem head_apply (q : FVec Ideal S256x256 .bf16) (k v : Vec Ideal S1x256x256 .bf16) (r : Fin 256) (j : Fin 256) :
    head (F := Ideal) q k v (ix2 r j) = softRow (fun m => ∑ d, q (ix2 r d) * k (ix3 0 m d)) (fun m d => v (ix3 0 m d)) j := by
  unfold head softRow rowMax
  pointwise

/-- The gated unit at row `r`, column `j`. -/
theorem swiglu_apply (q : FVec Ideal S256x1024 .bf16) (g u : Vec Ideal S1024x256 .bf16) (r : Fin 256) (j : Fin 256) :
    swiglu (F := Ideal) q g u (ix2 r j) = gate (∑ k, q (ix2 r k) * g (ix2 k j)) (∑ k, q (ix2 r k) * u (ix2 k j)) := by
  unfold swiglu gate
  pointwise

/-- The first half of the queries, from the whole query weights. -/
theorem q0_apply (hn : FVec Ideal S256x1024 .bf16) (x4 : Vec Ideal S1024x1024 .bf16) (r : Fin 256) (j : Fin 512) :
    qhalf (F := Ideal) hn (View.ld x4 r0_2) (ix2 r j) = ∑ c, hn (ix2 r c) * x4 (ix2 c ⟨j.1, by omega⟩) := by
  rw [qhalf_apply]
  pointwise

/-- The second half of the queries, from the whole query weights. -/
theorem q8_apply (hn : FVec Ideal S256x1024 .bf16) (x4 : Vec Ideal S1024x1024 .bf16) (r : Fin 256) (j : Fin 512) :
    qhalf (F := Ideal) hn (View.ld x4 r0_8) (ix2 r j) = ∑ c, hn (ix2 r c) * x4 (ix2 c ⟨512 + j.1, by omega⟩) := by
  rw [qhalf_apply]
  pointwise

/-- The four heads' outputs side by side at row `r`, column `c`. -/
theorem mix_apply (hn : FVec Ideal S256x1024 .bf16) (x1 x2 : Vec Ideal S1x256x1024 .bf16) (x4 : Vec Ideal S1024x1024 .bf16)
    (r : Fin 256) (c : Fin 1024) :
    concatenate S256x1024 1
    [⟨S256x256, head (F := Ideal) (extractStridedSlice S256x256 ![0, 0] (qhalf hn (View.ld x4 r0_2)) slices_S256x512_o0_0_S256x256) (View.ld x1 r0_4) (View.ld x2 r0_4)⟩,
     ⟨S256x256, head (F := Ideal) (extractStridedSlice S256x256 ![0, 256] (qhalf hn (View.ld x4 r0_2)) slices_S256x512_o0_256_S256x256) (View.ld x1 r0_7) (View.ld x2 r0_7)⟩,
     ⟨S256x256, head (F := Ideal) (extractStridedSlice S256x256 ![0, 0] (qhalf hn (View.ld x4 r0_8)) slices_S256x512_o0_0_S256x256) (View.ld x1 r0_9) (View.ld x2 r0_9)⟩,
     ⟨S256x256, head (F := Ideal) (extractStridedSlice S256x256 ![0, 256] (qhalf hn (View.ld x4 r0_8)) slices_S256x512_o0_256_S256x256) (View.ld x1 r0_10) (View.ld x2 r0_10)⟩]
    concatenates_S256x256_S256x256_S256x256_S256x256_S256x1024_d1 (ix2 r c)
      = mixRow (scoreK (fun k => hn (ix2 r k)) (fun a b => x4 (ix2 a b)) (fun h m d => x1 (ix3 0 m (hcol h d))))
          (fun h m d => x2 (ix3 0 m (hcol h d))) c := by
  have k0 : ∀ x : Fin 256, hcol 0 x = ⟨x.1, by omega⟩ := fun x => Fin.ext (by simp [hcol])
  have k1 : ∀ x : Fin 256, hcol 1 x = ⟨256 + x.1, by omega⟩ := fun x => Fin.ext (by simp [hcol])
  have k2 : ∀ x : Fin 256, hcol 2 x = ⟨512 + x.1, by omega⟩ := fun x => Fin.ext (by simp [hcol])
  have k3 : ∀ x : Fin 256, hcol 3 x = ⟨768 + x.1, by omega⟩ := fun x => Fin.ext (by simp [hcol])
  have a3 : ∀ x : Nat, 512 + (256 + x) = 768 + x := fun x => by omega
  obtain ⟨h, d, rfl⟩ : ∃ h d, c = hcol h d := ⟨colH c, colD c, Fin.ext (by simp [hcol, colH, colD]; omega)⟩
  have eh : colH (hcol h d) = h := Fin.ext (by simp [colH, hcol]; omega)
  have ed : colD (hcol h d) = d := Fin.ext (by simp [colD, hcol])
  pointwise
  unfold mixRow scoreK
  rw [eh, ed]
  have hd := d.2
  fin_cases h
  · simp only [k0, Fin.zero_eta, Fin.mk_one, Fin.reduceFinMk, head_apply]
    pointwise
    simp only [q0_apply, q8_apply, a3]
  · simp only [k1, Fin.zero_eta, Fin.mk_one, Fin.reduceFinMk, head_apply]
    pointwise
    simp only [q0_apply, q8_apply, a3]
  · simp only [k2, Fin.zero_eta, Fin.mk_one, Fin.reduceFinMk, head_apply]
    pointwise
    rw [dif_neg (by omega), dif_neg (by omega), dif_pos (by omega)]
    simp only [q0_apply, q8_apply, a3]
    exact congrArg _ (Fin.ext (by simp only []; omega))
  · simp only [k3, Fin.zero_eta, Fin.mk_one, Fin.reduceFinMk, head_apply]
    pointwise
    rw [dif_neg (by omega), dif_neg (by omega), dif_neg (by omega)]
    simp only [q0_apply, q8_apply, a3]
    exact congrArg _ (Fin.ext (by simp only []; omega))

/-- The rows after the attention at row `r`, column `j`, from the whole blocks. -/
theorem attn_apply (x : FVec Ideal S256x1024 .f32) (x1 x2 : Vec Ideal S1x256x1024 .bf16) (x3 : Vec Ideal S1x1024 .f32)
    (x4 x5 : Vec Ideal S1024x1024 .bf16) (x6 : Vec Ideal S1x1024 .f32) (r : Fin 256) (j : Fin 1024) :
    attn (F := Ideal) x (View.ld x3 r0_1) (View.ld x4 r0_2) (View.ld x4 r0_8)
      (View.ld x1 r0_4) (View.ld x1 r0_7) (View.ld x1 r0_9) (View.ld x1 r0_10)
      (View.ld x2 r0_4) (View.ld x2 r0_7) (View.ld x2 r0_9) (View.ld x2 r0_10)
      (View.ld x5 r0_2) (View.ld x5 r0_8) (View.ld x6 r0_1) (ix2 r j)
    = attnRow (fun hn => scoreK hn (fun a b => x4 (ix2 a b)) (fun h m d => x1 (ix3 0 m (hcol h d))))
        (fun c => x (ix2 r c)) (fun c => x3 (ix2 0 c)) (fun h m d => x2 (ix3 0 m (hcol h d)))
        (fun a b => x5 (ix2 a b)) (fun c => x6 (ix2 0 c)) j := by
  unfold attn attnRow
  rw [addf_apply]
  show _ + rms (F := Ideal) _ _ _ = _
  rw [rms_apply]
  congr 1
  have e6 : (fun c => View.ld x6 r0_1 (ix2 0 c)) = fun c => x6 (ix2 0 c) := by funext c; pointwise
  rw [e6]
  congr 1
  funext c
  have key := mix_apply (truncf .bf16 (rms (F := Ideal) x (View.ld x3 r0_1)) bitsLt_bf16_f32) x1 x2 x4 r
  have e3 : (fun k => (truncf .bf16 (rms x (View.ld x3 r0_1)) bitsLt_bf16_f32 : FVec Ideal S256x1024 .bf16) (ix2 r k))
      = rmsRow (fun c => x (ix2 r c)) (fun c => x3 (ix2 0 c)) := by
    funext k
    show rms (F := Ideal) _ _ _ = _
    rw [rms_apply]
    congr 1
    funext c
    pointwise
  rw [e3] at key
  generalize concatenate S256x1024 1 [⟨S256x256, _⟩, ⟨S256x256, _⟩, ⟨S256x256, _⟩, ⟨S256x256, _⟩] _ = o at key ⊢
  pointwise
  simp only [key]
  have hc := c.2
  by_cases h : c.1 < 512
  · rw [dif_pos h]
  · rw [dif_neg h]
    refine Finset.sum_congr rfl fun k _ => ?_
    congr 3
    exact Fin.ext (by simp only []; omega)

/-- Eleven pieces of 256 columns side by side at row `r`, column `c`. -/
theorem cat_apply (f : Fin 2816 → EReal) (r : Fin 256) (p0 p1 p2 p3 p4 p5 p6 p7 p8 p9 p10 : FVec Ideal S256x256 .bf16)
    (h0 : ∀ j : Fin 256, p0 (ix2 r j) = f ⟨0 + j.1, by omega⟩)
    (h1 : ∀ j : Fin 256, p1 (ix2 r j) = f ⟨256 + j.1, by omega⟩)
    (h2 : ∀ j : Fin 256, p2 (ix2 r j) = f ⟨512 + j.1, by omega⟩)
    (h3 : ∀ j : Fin 256, p3 (ix2 r j) = f ⟨768 + j.1, by omega⟩)
    (h4 : ∀ j : Fin 256, p4 (ix2 r j) = f ⟨1024 + j.1, by omega⟩)
    (h5 : ∀ j : Fin 256, p5 (ix2 r j) = f ⟨1280 + j.1, by omega⟩)
    (h6 : ∀ j : Fin 256, p6 (ix2 r j) = f ⟨1536 + j.1, by omega⟩)
    (h7 : ∀ j : Fin 256, p7 (ix2 r j) = f ⟨1792 + j.1, by omega⟩)
    (h8 : ∀ j : Fin 256, p8 (ix2 r j) = f ⟨2048 + j.1, by omega⟩)
    (h9 : ∀ j : Fin 256, p9 (ix2 r j) = f ⟨2304 + j.1, by omega⟩)
    (h10 : ∀ j : Fin 256, p10 (ix2 r j) = f ⟨2560 + j.1, by omega⟩)
    (c : Fin 2816) :
    concatenate S256x2816 1 [⟨S256x256, p0⟩, ⟨S256x256, p1⟩, ⟨S256x256, p2⟩, ⟨S256x256, p3⟩, ⟨S256x256, p4⟩, ⟨S256x256, p5⟩, ⟨S256x256, p6⟩, ⟨S256x256, p7⟩, ⟨S256x256, p8⟩, ⟨S256x256, p9⟩, ⟨S256x256, p10⟩]
    concatenates_S256x256_S256x256_S256x256_S256x256_S256x256_S256x256_S256x256_S256x256_S256x256_S256x256_S256x256_S256x2816_d1 (ix2 r c)
      = f c := by
  pointwise
  simp only [h0, h1, h2, h3, h4, h5, h6, h7, h8, h9, h10]
  have hc := c.2
  by_cases g0 : c.1 < 256
  · rw [dif_pos g0]; exact congrArg f (Fin.ext (by simp only []; omega))
  rw [dif_neg g0]
  by_cases g1 : c.1 - 256 < 256
  · rw [dif_pos g1]; exact congrArg f (Fin.ext (by simp only []; omega))
  rw [dif_neg g1]
  by_cases g2 : c.1 - 256 - 256 < 256
  · rw [dif_pos g2]; exact congrArg f (Fin.ext (by simp only []; omega))
  rw [dif_neg g2]
  by_cases g3 : c.1 - 256 - 256 - 256 < 256
  · rw [dif_pos g3]; exact congrArg f (Fin.ext (by simp only []; omega))
  rw [dif_neg g3]
  by_cases g4 : c.1 - 256 - 256 - 256 - 256 < 256
  · rw [dif_pos g4]; exact congrArg f (Fin.ext (by simp only []; omega))
  rw [dif_neg g4]
  by_cases g5 : c.1 - 256 - 256 - 256 - 256 - 256 < 256
  · rw [dif_pos g5]; exact congrArg f (Fin.ext (by simp only []; omega))
  rw [dif_neg g5]
  by_cases g6 : c.1 - 256 - 256 - 256 - 256 - 256 - 256 < 256
  · rw [dif_pos g6]; exact congrArg f (Fin.ext (by simp only []; omega))
  rw [dif_neg g6]
  by_cases g7 : c.1 - 256 - 256 - 256 - 256 - 256 - 256 - 256 < 256
  · rw [dif_pos g7]; exact congrArg f (Fin.ext (by simp only []; omega))
  rw [dif_neg g7]
  by_cases g8 : c.1 - 256 - 256 - 256 - 256 - 256 - 256 - 256 - 256 < 256
  · rw [dif_pos g8]; exact congrArg f (Fin.ext (by simp only []; omega))
  rw [dif_neg g8]
  by_cases g9 : c.1 - 256 - 256 - 256 - 256 - 256 - 256 - 256 - 256 - 256 < 256
  · rw [dif_pos g9]; exact congrArg f (Fin.ext (by simp only []; omega))
  rw [dif_neg g9]; exact congrArg f (Fin.ext (by simp only []; omega))

/-- The gated unit's columns from 0 on, from the whole blocks. -/
theorem gate0_apply (hf : FVec Ideal S256x1024 .bf16) (x9 x10 : Vec Ideal S1024x2816 .bf16) (r : Fin 256) (j : Fin 256) :
    swiglu (F := Ideal) hf (View.ld x9 r0_11) (View.ld x10 r0_11) (ix2 r j)
      = (fun c : Fin 2816 => gate (∑ k, hf (ix2 r k) * x9 (ix2 k c)) (∑ k, hf (ix2 r k) * x10 (ix2 k c))) ⟨0 + j.1, by omega⟩ := by
  rw [swiglu_apply]
  pointwise

/-- The gated unit's columns from 256 on, from the whole blocks. -/
theorem gate1_apply (hf : FVec Ideal S256x1024 .bf16) (x9 x10 : Vec Ideal S1024x2816 .bf16) (r : Fin 256) (j : Fin 256) :
    swiglu (F := Ideal) hf (View.ld x9 r0_12) (View.ld x10 r0_12) (ix2 r j)
      = (fun c : Fin 2816 => gate (∑ k, hf (ix2 r k) * x9 (ix2 k c)) (∑ k, hf (ix2 r k) * x10 (ix2 k c))) ⟨256 + j.1, by omega⟩ := by
  rw [swiglu_apply]
  pointwise

/-- The gated unit's columns from 512 on, from the whole blocks. -/
theorem gate2_apply (hf : FVec Ideal S256x1024 .bf16) (x9 x10 : Vec Ideal S1024x2816 .bf16) (r : Fin 256) (j : Fin 256) :
    swiglu (F := Ideal) hf (View.ld x9 r0_13) (View.ld x10 r0_13) (ix2 r j)
      = (fun c : Fin 2816 => gate (∑ k, hf (ix2 r k) * x9 (ix2 k c)) (∑ k, hf (ix2 r k) * x10 (ix2 k c))) ⟨512 + j.1, by omega⟩ := by
  rw [swiglu_apply]
  pointwise

/-- The gated unit's columns from 768 on, from the whole blocks. -/
theorem gate3_apply (hf : FVec Ideal S256x1024 .bf16) (x9 x10 : Vec Ideal S1024x2816 .bf16) (r : Fin 256) (j : Fin 256) :
    swiglu (F := Ideal) hf (View.ld x9 r0_14) (View.ld x10 r0_14) (ix2 r j)
      = (fun c : Fin 2816 => gate (∑ k, hf (ix2 r k) * x9 (ix2 k c)) (∑ k, hf (ix2 r k) * x10 (ix2 k c))) ⟨768 + j.1, by omega⟩ := by
  rw [swiglu_apply]
  pointwise

/-- The gated unit's columns from 1024 on, from the whole blocks. -/
theorem gate4_apply (hf : FVec Ideal S256x1024 .bf16) (x9 x10 : Vec Ideal S1024x2816 .bf16) (r : Fin 256) (j : Fin 256) :
    swiglu (F := Ideal) hf (View.ld x9 r0_15) (View.ld x10 r0_15) (ix2 r j)
      = (fun c : Fin 2816 => gate (∑ k, hf (ix2 r k) * x9 (ix2 k c)) (∑ k, hf (ix2 r k) * x10 (ix2 k c))) ⟨1024 + j.1, by omega⟩ := by
  rw [swiglu_apply]
  pointwise

/-- The gated unit's columns from 1280 on, from the whole blocks. -/
theorem gate5_apply (hf : FVec Ideal S256x1024 .bf16) (x9 x10 : Vec Ideal S1024x2816 .bf16) (r : Fin 256) (j : Fin 256) :
    swiglu (F := Ideal) hf (View.ld x9 r0_16) (View.ld x10 r0_16) (ix2 r j)
      = (fun c : Fin 2816 => gate (∑ k, hf (ix2 r k) * x9 (ix2 k c)) (∑ k, hf (ix2 r k) * x10 (ix2 k c))) ⟨1280 + j.1, by omega⟩ := by
  rw [swiglu_apply]
  pointwise

/-- The gated unit's columns from 1536 on, from the whole blocks. -/
theorem gate6_apply (hf : FVec Ideal S256x1024 .bf16) (x9 x10 : Vec Ideal S1024x2816 .bf16) (r : Fin 256) (j : Fin 256) :
    swiglu (F := Ideal) hf (View.ld x9 r0_17) (View.ld x10 r0_17) (ix2 r j)
      = (fun c : Fin 2816 => gate (∑ k, hf (ix2 r k) * x9 (ix2 k c)) (∑ k, hf (ix2 r k) * x10 (ix2 k c))) ⟨1536 + j.1, by omega⟩ := by
  rw [swiglu_apply]
  pointwise

/-- The gated unit's columns from 1792 on, from the whole blocks. -/
theorem gate7_apply (hf : FVec Ideal S256x1024 .bf16) (x9 x10 : Vec Ideal S1024x2816 .bf16) (r : Fin 256) (j : Fin 256) :
    swiglu (F := Ideal) hf (View.ld x9 r0_18) (View.ld x10 r0_18) (ix2 r j)
      = (fun c : Fin 2816 => gate (∑ k, hf (ix2 r k) * x9 (ix2 k c)) (∑ k, hf (ix2 r k) * x10 (ix2 k c))) ⟨1792 + j.1, by omega⟩ := by
  rw [swiglu_apply]
  pointwise

/-- The gated unit's columns from 2048 on, from the whole blocks. -/
theorem gate8_apply (hf : FVec Ideal S256x1024 .bf16) (x9 x10 : Vec Ideal S1024x2816 .bf16) (r : Fin 256) (j : Fin 256) :
    swiglu (F := Ideal) hf (View.ld x9 r0_19) (View.ld x10 r0_19) (ix2 r j)
      = (fun c : Fin 2816 => gate (∑ k, hf (ix2 r k) * x9 (ix2 k c)) (∑ k, hf (ix2 r k) * x10 (ix2 k c))) ⟨2048 + j.1, by omega⟩ := by
  rw [swiglu_apply]
  pointwise

/-- The gated unit's columns from 2304 on, from the whole blocks. -/
theorem gate9_apply (hf : FVec Ideal S256x1024 .bf16) (x9 x10 : Vec Ideal S1024x2816 .bf16) (r : Fin 256) (j : Fin 256) :
    swiglu (F := Ideal) hf (View.ld x9 r0_20) (View.ld x10 r0_20) (ix2 r j)
      = (fun c : Fin 2816 => gate (∑ k, hf (ix2 r k) * x9 (ix2 k c)) (∑ k, hf (ix2 r k) * x10 (ix2 k c))) ⟨2304 + j.1, by omega⟩ := by
  rw [swiglu_apply]
  pointwise

/-- The gated unit's columns from 2560 on, from the whole blocks. -/
theorem gate10_apply (hf : FVec Ideal S256x1024 .bf16) (x9 x10 : Vec Ideal S1024x2816 .bf16) (r : Fin 256) (j : Fin 256) :
    swiglu (F := Ideal) hf (View.ld x9 r0_21) (View.ld x10 r0_21) (ix2 r j)
      = (fun c : Fin 2816 => gate (∑ k, hf (ix2 r k) * x9 (ix2 k c)) (∑ k, hf (ix2 r k) * x10 (ix2 k c))) ⟨2560 + j.1, by omega⟩ := by
  rw [swiglu_apply]
  pointwise

/-- The gated units side by side at row `r`, column `c`. -/
theorem gates_apply (hf : FVec Ideal S256x1024 .bf16) (x9 x10 : Vec Ideal S1024x2816 .bf16) (r : Fin 256) (c : Fin 2816) :
    concatenate S256x2816 1
    [⟨S256x256, swiglu (F := Ideal) hf (View.ld x9 r0_11) (View.ld x10 r0_11)⟩,
     ⟨S256x256, swiglu (F := Ideal) hf (View.ld x9 r0_12) (View.ld x10 r0_12)⟩,
     ⟨S256x256, swiglu (F := Ideal) hf (View.ld x9 r0_13) (View.ld x10 r0_13)⟩,
     ⟨S256x256, swiglu (F := Ideal) hf (View.ld x9 r0_14) (View.ld x10 r0_14)⟩,
     ⟨S256x256, swiglu (F := Ideal) hf (View.ld x9 r0_15) (View.ld x10 r0_15)⟩,
     ⟨S256x256, swiglu (F := Ideal) hf (View.ld x9 r0_16) (View.ld x10 r0_16)⟩,
     ⟨S256x256, swiglu (F := Ideal) hf (View.ld x9 r0_17) (View.ld x10 r0_17)⟩,
     ⟨S256x256, swiglu (F := Ideal) hf (View.ld x9 r0_18) (View.ld x10 r0_18)⟩,
     ⟨S256x256, swiglu (F := Ideal) hf (View.ld x9 r0_19) (View.ld x10 r0_19)⟩,
     ⟨S256x256, swiglu (F := Ideal) hf (View.ld x9 r0_20) (View.ld x10 r0_20)⟩,
     ⟨S256x256, swiglu (F := Ideal) hf (View.ld x9 r0_21) (View.ld x10 r0_21)⟩]
    concatenates_S256x256_S256x256_S256x256_S256x256_S256x256_S256x256_S256x256_S256x256_S256x256_S256x256_S256x256_S256x2816_d1 (ix2 r c)
      = gate (∑ k, hf (ix2 r k) * x9 (ix2 k c)) (∑ k, hf (ix2 r k) * x10 (ix2 k c)) :=
  cat_apply (fun c : Fin 2816 => gate (∑ k, hf (ix2 r k) * x9 (ix2 k c)) (∑ k, hf (ix2 r k) * x10 (ix2 k c))) r _ _ _ _ _ _ _ _ _ _ _ (gate0_apply hf x9 x10 r) (gate1_apply hf x9 x10 r) (gate2_apply hf x9 x10 r) (gate3_apply hf x9 x10 r) (gate4_apply hf x9 x10 r) (gate5_apply hf x9 x10 r) (gate6_apply hf x9 x10 r) (gate7_apply hf x9 x10 r) (gate8_apply hf x9 x10 r) (gate9_apply hf x9 x10 r) (gate10_apply hf x9 x10 r) c

/-- The rows after the feed-forward layer at row `r`, column `j`, from the whole blocks. -/
theorem ffn_apply (x : FVec Ideal S256x1024 .f32) (x7 x8 : Vec Ideal S1x1024 .f32)
    (x9 x10 : Vec Ideal S1024x2816 .bf16) (x11 : Vec Ideal S2816x1024 .bf16) (r : Fin 256) (j : Fin 1024) :
    ffn (F := Ideal) x (View.ld x7 r0_1)
      (View.ld x9 r0_11) (View.ld x9 r0_12) (View.ld x9 r0_13) (View.ld x9 r0_14) (View.ld x9 r0_15) (View.ld x9 r0_16) (View.ld x9 r0_17) (View.ld x9 r0_18) (View.ld x9 r0_19) (View.ld x9 r0_20) (View.ld x9 r0_21)
      (View.ld x10 r0_11) (View.ld x10 r0_12) (View.ld x10 r0_13) (View.ld x10 r0_14) (View.ld x10 r0_15) (View.ld x10 r0_16) (View.ld x10 r0_17) (View.ld x10 r0_18) (View.ld x10 r0_19) (View.ld x10 r0_20) (View.ld x10 r0_21)
      (View.ld x11 r0_22) (View.ld x11 r0_23) (View.ld x8 r0_1) (ix2 r j)
    = ffnRow (fun c => x (ix2 r c)) (fun c => x7 (ix2 0 c)) (fun a b => x9 (ix2 a b)) (fun a b => x10 (ix2 a b))
        (fun a b => x11 (ix2 a b)) (fun c => x8 (ix2 0 c)) j := by
  unfold ffn ffnRow
  rw [addf_apply]
  show _ + rms (F := Ideal) _ _ _ = _
  rw [rms_apply]
  congr 1
  have e6 : (fun c => View.ld x8 r0_1 (ix2 0 c)) = fun c => x8 (ix2 0 c) := by funext c; pointwise
  rw [e6]
  congr 1
  funext c
  have key := gates_apply (truncf .bf16 (rms (F := Ideal) x (View.ld x7 r0_1)) bitsLt_bf16_f32) x9 x10 r
  have e3 : ∀ k, (truncf .bf16 (rms x (View.ld x7 r0_1)) bitsLt_bf16_f32 : FVec Ideal S256x1024 .bf16) (ix2 r k)
      = rmsRow (fun c => x (ix2 r c)) (fun c => x7 (ix2 0 c)) k := by
    intro k
    show rms (F := Ideal) _ _ _ = _
    rw [rms_apply]
    congr 1
    funext c
    pointwise
  simp only [e3] at key
  generalize concatenate S256x2816 1 [⟨S256x256, _⟩, ⟨S256x256, _⟩, ⟨S256x256, _⟩, ⟨S256x256, _⟩, ⟨S256x256, _⟩, ⟨S256x256, _⟩, ⟨S256x256, _⟩, ⟨S256x256, _⟩, ⟨S256x256, _⟩, ⟨S256x256, _⟩, ⟨S256x256, _⟩] _ = o at key ⊢
  pointwise
  simp only [key]
  have hc := c.2
  by_cases h : c.1 < 512
  · rw [dif_pos h]
  · rw [dif_neg h]
    refine Finset.sum_congr rfl fun k _ => ?_
    congr 3
    exact Fin.ext (by simp only []; omega)

/-- One tile at row `r`, column `j`: the feed-forward row of the attention row. -/
theorem tile_apply (x : Vec Ideal S1x256x1024 .f32) (x1 x2 : Vec Ideal S1x256x1024 .bf16) (x3 : Vec Ideal S1x1024 .f32)
    (x4 x5 : Vec Ideal S1024x1024 .bf16) (x6 x7 x8 : Vec Ideal S1x1024 .f32)
    (x9 x10 : Vec Ideal S1024x2816 .bf16) (x11 : Vec Ideal S2816x1024 .bf16) (z : Fin 1) (r : Fin 256) (j : Fin 1024) :
    tile (F := Ideal) x x1 x2 x3 x4 x5 x6 x7 x8 x9 x10 x11 (ix3 z r j)
    = ffnRow (attnRow (fun hn => scoreK hn (fun a b => x4 (ix2 a b)) (fun h m d => x1 (ix3 0 m (hcol h d))))
          (fun c => x (ix3 0 r c)) (fun c => x3 (ix2 0 c)) (fun h m d => x2 (ix3 0 m (hcol h d)))
          (fun a b => x5 (ix2 a b)) (fun c => x6 (ix2 0 c)))
        (fun c => x7 (ix2 0 c)) (fun a b => x9 (ix2 a b)) (fun a b => x10 (ix2 a b))
        (fun a b => x11 (ix2 a b)) (fun c => x8 (ix2 0 c)) j := by
  unfold tile
  pointwise
  rw [ffn_apply]
  congr 1
  funext c
  rw [attn_apply]
  congr 1
  funext c
  pointwise

end Cert.AttnPIdeal.Tile
end
-- ==== Proof.Attn.Blocks.lean ====
module

public import proofs.«01_k».proof.Proof.Attn.TileRead
public import proofs.«01_k».proof.Proof.Gen.AttnPIdeal.Value
import Idealize.ShloMosaic.Lib.Pointwise.Tactic
import Idealize.ShloMosaic.Lib.Claim
public import Idealize.ShloMosaic.Lib.Pipeline.ValueKit

@[expose] public section

set_option maxRecDepth 16384
noncomputable section

/-! What the attention and feed-forward call's result array holds after the run, as one function of its arguments. -/

namespace Cert.AttnPIdeal.Blocks
open Cert.AttnPIdeal Cert.AttnPIdeal.Gen Cert.AttnPIdeal.Tile Idealize.ShloMosaic Idealize.ShloMosaic.TcCoe Idealize.SL.Sem Cert.AttnMath
open Idealize.ShloMosaic.Pipeline (Dat)

/-- The row's result, from the arguments: sequence `b`, position `s`, column `j`. -/
def spec (sc : (Fin 1024 → EReal) → Fin 4 → Fin 256 → EReal)
    (x0 : S8x2048x1024.Idx → EReal) (x2 : S8x256x4x256.Idx → EReal) (x3 x4 : S1x1024.Idx → EReal) (x6 : S1x1024x1024.Idx → EReal)
    (x7 x8 : S1x1024.Idx → EReal) (x9 x10 : S1x1024x2816.Idx → EReal) (x11 : S1x2816x1024.Idx → EReal)
    (b : Fin 8) (s : Fin 2048) (j : Fin 1024) : EReal :=
  ffnRow (attnRow sc (fun c => x0 (ix3 b s c)) (fun c => x3 (ix2 0 c)) (fun h m d => x2 (ix4 b m h d))
      (fun a b => x6 (ix3 0 a b)) (fun c => x4 (ix2 0 c)))
    (fun c => x7 (ix2 0 c)) (fun a b => x9 (ix3 0 a b)) (fun a b => x10 (ix3 0 a b))
    (fun a b => x11 (ix3 0 a b)) (fun c => x8 (ix2 0 c)) j

/-- The scores of sequence `b` from the arguments, as the kernel takes them. -/
def scK (x1 : S8x256x4x256.Idx → EReal) (x5 : S1x1024x1024.Idx → EReal) (b : Fin 8) (hn : Fin 1024 → EReal) : Fin 4 → Fin 256 → EReal :=
  scoreK hn (fun a b => x5 (ix3 0 a b) * Ideal.ofBits FTy.f32 0x3D800000#32) (fun h m d => x1 (ix4 b m h d))

/-- The windows' block indices at every grid point. -/
theorem idx : ∀ t : Fin cfg0.N, win0_0.index t = ![t.val / 2, t.val % 2, 0] ∧ win0_1.index t = ![t.val / 2, 0, 0]
    ∧ win0_2.index t = ![t.val / 2, 0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val / 2, t.val % 2, 0] :=
  (by decide +kernel : ∀ t : Fin grid0.N, win0_0.index t = ![t.val / 2, t.val % 2, 0] ∧ win0_1.index t = ![t.val / 2, 0, 0]
    ∧ win0_2.index t = ![t.val / 2, 0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val / 2, t.val % 2, 0])

variable (m : (ℓ : Loc nD τ sig) → Buf (Elt Ideal) ℓ) (c : Dev nD) (t : Fin cfg0.N)

theorem tlt : t.val < 16 := lt_of_lt_of_eq t.isLt N_0

/-- Argument 0 as launched. -/
abbrev A0 : S8x2048x1024.Idx → EReal := m ((c : Thread nD τ).loc main_arg0)
/-- Argument 1 as launched. -/
abbrev A1 : S8x256x4x256.Idx → EReal := m ((c : Thread nD τ).loc main_arg1)
/-- Argument 2 as launched. -/
abbrev A2 : S8x256x4x256.Idx → EReal := m ((c : Thread nD τ).loc main_arg2)
/-- Argument 3 as launched. -/
abbrev A3 : S1x1024.Idx → EReal := m ((c : Thread nD τ).loc main_arg3)
/-- Argument 4 as launched. -/
abbrev A4 : S1x1024.Idx → EReal := m ((c : Thread nD τ).loc main_arg4)
/-- Argument 5 as launched. -/
abbrev A5 : S1x1024x1024.Idx → EReal := m ((c : Thread nD τ).loc main_arg5)
/-- Argument 6 as launched. -/
abbrev A6 : S1x1024x1024.Idx → EReal := m ((c : Thread nD τ).loc main_arg6)
/-- Argument 7 as launched. -/
abbrev A7 : S1x1024.Idx → EReal := m ((c : Thread nD τ).loc main_arg7)
/-- Argument 8 as launched. -/
abbrev A8 : S1x1024.Idx → EReal := m ((c : Thread nD τ).loc main_arg8)
/-- Argument 9 as launched. -/
abbrev A9 : S1x1024x2816.Idx → EReal := m ((c : Thread nD τ).loc main_arg9)
/-- Argument 10 as launched. -/
abbrev A10 : S1x1024x2816.Idx → EReal := m ((c : Thread nD τ).loc main_arg10)
/-- Argument 11 as launched. -/
abbrev A11 : S1x2816x1024.Idx → EReal := m ((c : Thread nD τ).loc main_arg11)

/-- The rows' block at point `t`. -/
theorem b0 (r j : Fin 1024) : iblk m c 0 t (ix3 0 r j)
    = A0 m c (ix3 ⟨t.val / 2, by have := tlt t; omega⟩ ⟨1024 * (t.val % 2) + r.val, by omega⟩ j) := by
  blk_ext [iblk, V, idx t]

/-- Equal coordinates give equal positions. -/
theorem ix4_congr {n0 n1 n2 n3 : Nat} {a a' : Fin n0} {b b' : Fin n1} {c c' : Fin n2} {d d' : Fin n3}
    (h0 : a = a') (h1 : b = b') (h2 : c = c') (h3 : d = d') : ix4 a b c d = ix4 a' b' c' d' := by
  rw [h0, h1, h2, h3]

/-- The keys' block at point `t`. -/
theorem b1 (k : Fin 256) (h : Fin 4) (d : Fin 256) : iblk m c 1 t (ix3 0 k (hcol h d))
    = A1 m c (ix4 ⟨t.val / 2, by have := tlt t; omega⟩ k h d) := by
  blk_simp [iblk]
  entry_read
  pointwise
  have q0 : ((((cfg0.win 1).blk t).view.emb (ix3 0 k (hcol h d))) 0 : ℕ) = t.val / 2 := by
    blk_simp [idx t]
    simp
  have q1 : ((((cfg0.win 1).blk t).view.emb (ix3 0 k (hcol h d))) 1 : ℕ) = k.val := by
    blk_simp [idx t]
  have q2 : ((((cfg0.win 1).blk t).view.emb (ix3 0 k (hcol h d))) 2 : ℕ) = 256 * h.val + d.val := by
    blk_simp [idx t, hcol]
  have hd := d.isLt
  exact congrArg (A1 m c) (ix4_congr (Fin.ext q0) (Fin.ext q1)
    (Fin.ext (show _ / 256 = h.val by rw [q2]; omega)) (Fin.ext (show _ % 256 = d.val by rw [q2]; omega)))

/-- The values' block at point `t`. -/
theorem b2 (k : Fin 256) (h : Fin 4) (d : Fin 256) : iblk m c 2 t (ix3 0 k (hcol h d))
    = A2 m c (ix4 ⟨t.val / 2, by have := tlt t; omega⟩ k h d) := by
  blk_simp [iblk]
  entry_read
  pointwise
  have q0 : ((((cfg0.win 2).blk t).view.emb (ix3 0 k (hcol h d))) 0 : ℕ) = t.val / 2 := by
    blk_simp [idx t]
    simp
  have q1 : ((((cfg0.win 2).blk t).view.emb (ix3 0 k (hcol h d))) 1 : ℕ) = k.val := by
    blk_simp [idx t]
  have q2 : ((((cfg0.win 2).blk t).view.emb (ix3 0 k (hcol h d))) 2 : ℕ) = 256 * h.val + d.val := by
    blk_simp [idx t, hcol]
  have hd := d.isLt
  exact congrArg (A2 m c) (ix4_congr (Fin.ext q0) (Fin.ext q1)
    (Fin.ext (show _ / 256 = h.val by rw [q2]; omega)) (Fin.ext (show _ % 256 = d.val by rw [q2]; omega)))

/-- Window 3's block: a norm's weights. -/
theorem b3 (j : Fin 1024) : iblk m c 3 t (ix2 0 j) = A3 m c (ix2 0 j) := by
  blk_simp [iblk]
  entry_read
  pointwise
  blk_ext [idx t]

/-- Window 6's block: a norm's weights. -/
theorem b6 (j : Fin 1024) : iblk m c 6 t (ix2 0 j) = A4 m c (ix2 0 j) := by
  blk_simp [iblk]
  entry_read
  pointwise
  blk_ext [idx t]

/-- Window 7's block: a norm's weights. -/
theorem b7 (j : Fin 1024) : iblk m c 7 t (ix2 0 j) = A7 m c (ix2 0 j) := by
  blk_simp [iblk]
  entry_read
  pointwise
  blk_ext [idx t]

/-- Window 8's block: a norm's weights. -/
theorem b8 (j : Fin 1024) : iblk m c 8 t (ix2 0 j) = A8 m c (ix2 0 j) := by
  blk_simp [iblk]
  entry_read
  pointwise
  blk_ext [idx t]

/-- Window 4's block: the whole weights. -/
theorem b4 (a : Fin 1024) (b : Fin 1024) : iblk m c 4 t (ix2 a b) = A5 m c (ix3 0 a b) * Ideal.ofBits FTy.f32 0x3D800000#32 := by
  blk_simp [iblk]
  entry_read
  pointwise
  refine congrArg (fun z => z * _) ?_
  blk_ext [idx t]

/-- Window 5's block: the whole weights. -/
theorem b5 (a : Fin 1024) (b : Fin 1024) : iblk m c 5 t (ix2 a b) = A6 m c (ix3 0 a b) := by
  blk_simp [iblk]
  entry_read
  pointwise

  blk_ext [idx t]

/-- Window 9's block: the whole weights. -/
theorem b9 (a : Fin 1024) (b : Fin 2816) : iblk m c 9 t (ix2 a b) = A9 m c (ix3 0 a b) := by
  blk_simp [iblk]
  entry_read
  pointwise

  blk_ext [idx t]

/-- Window 10's block: the whole weights. -/
theorem b10 (a : Fin 1024) (b : Fin 2816) : iblk m c 10 t (ix2 a b) = A10 m c (ix3 0 a b) := by
  blk_simp [iblk]
  entry_read
  pointwise

  blk_ext [idx t]

/-- Window 11's block: the whole weights. -/
theorem b11 (a : Fin 2816) (b : Fin 1024) : iblk m c 11 t (ix2 a b) = A11 m c (ix3 0 a b) := by
  blk_simp [iblk]
  entry_read
  pointwise

  blk_ext [idx t]

/-- One tile of the block: rows from `256 * o` on, at row `r` and column `j`. -/
theorem tile_spec (x : Vec Ideal S1x256x1024 .f32) (q : Nat) (hq : q + 256 ≤ 1024)
    (hx : ∀ (r : Fin 256) (j : Fin 1024), x (ix3 0 r j) = A0 m c (ix3 ⟨t.val / 2, by have := tlt t; omega⟩ ⟨1024 * (t.val % 2) + (q + r.val), by omega⟩ j))
    (z : Fin 1) (r : Fin 256) (j : Fin 1024) :
    tile (F := Ideal) x (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix3 z r j)
    = spec (scK (A1 m c) (A5 m c) ⟨t.val / 2, by have := tlt t; omega⟩) (A0 m c) (A2 m c) (A3 m c) (A4 m c) (A6 m c) (A7 m c) (A8 m c) (A9 m c) (A10 m c) (A11 m c)
        ⟨t.val / 2, by have := tlt t; omega⟩ ⟨1024 * (t.val % 2) + (q + r.val), by omega⟩ j := by
  refine (tile_apply _ _ _ _ _ _ _ _ _ _ _ _ z r j).trans ?_
  have e1 := b1 m c t
  have e2 := b2 m c t
  have e3 := b3 m c t
  have e4 := b4 m c t
  have e5 := b5 m c t
  have e6 := b6 m c t
  have e7 := b7 m c t
  have e8 := b8 m c t
  have e9 := b9 m c t
  have e10 := b10 m c t
  have e11 := b11 m c t
  unfold spec scK
  simp only [hx]
  simp only [e1, e2, e3, e4, e5, e6, e7, e8, e9, e10, e11]

/-- The result array as a function of the arguments, at an index. -/
def G (i : S8x2048x1024.Idx) : EReal :=
  spec (scK (A1 m c) (A5 m c) (i 0)) (A0 m c) (A2 m c) (A3 m c) (A4 m c) (A6 m c) (A7 m c) (A8 m c) (A9 m c) (A10 m c) (A11 m c)
    (i 0) (i 1) (i 2)

/-- Where an element of the result's block lies in the array. -/
theorem emb12 (y : S1x1024x1024.Idx) : ((cfg0.win 12).blk t).view.emb y
    = ix3 ⟨t.val / 2, by have := tlt t; omega⟩ ⟨1024 * (t.val % 2) + (y 1).val, by have := (y 1).isLt; simp at this; omega⟩ (y 2) := by
  blk_ext [idx t]

/-- The result array after the run. -/
theorem final : (dats m 0 c).arrAt 12 cfg0.N = G m c := by
  refine (dats m 0 c).arrAt_eq_of_covers 12 _ (by decide +kernel) fun t hf y => ?_
  have hy := emb12 t y
  blk_simp
  rw [after0_12, out_eq]
  refine Eq.trans ?_ (congrArg (G m c) hy.symm)
  canon_tiles x h
  · have ex : x = ix3 (x 0) (x 1) (x 2) := by funext a; fin_cases a <;> rfl
    rw [ex]
    refine (tile_spec m c t _ 768 (by omega) (fun r j => ?_) _ _ _).trans ?_
    · pointwise
      blk_ext [iblk, V, idx t]
    · unfold G
      congr 1
      · exact Fin.ext (by simp only [ix3]; omega)
      · exact Fin.ext h2.symm
  · have ex : x = ix3 (x 0) (x 1) (x 2) := by funext a; fin_cases a <;> rfl
    rw [ex]
    refine (tile_spec m c t _ 512 (by omega) (fun r j => ?_) _ _ _).trans ?_
    · pointwise
      blk_ext [iblk, V, idx t]
    · unfold G
      congr 1
      · exact Fin.ext (by simp only [ix3]; omega)
      · exact Fin.ext h2.symm
  · have ex : x = ix3 (x 0) (x 1) (x 2) := by funext a; fin_cases a <;> rfl
    rw [ex]
    refine (tile_spec m c t _ 256 (by omega) (fun r j => ?_) _ _ _).trans ?_
    · pointwise
      blk_ext [iblk, V, idx t]
    · unfold G
      congr 1
      · exact Fin.ext (by simp only [ix3]; omega)
      · exact Fin.ext h2.symm
  · have ex : x = ix3 (x 0) (x 1) (x 2) := by funext a; fin_cases a <;> rfl
    rw [ex]
    refine (tile_spec m c t _ 0 (by omega) (fun r j => ?_) _ _ _).trans ?_
    · pointwise
      blk_ext [iblk, V, idx t]
    · unfold G
      congr 1
      · exact Fin.ext (by simp only [ix3]; omega)
      · exact Fin.ext h2.symm

end Cert.AttnPIdeal.Blocks
end
-- ==== Proof.Attn.Ref.lean ====
module

public import proofs.«01_k».proof.Proof.Attn.Math
public import proofs.«01_k».proof.Proof.Gen.AttnRIdeal.Run
public import proofs.«01_k».proof.Proof.Gen.AttnRIdeal.Read
public import Idealize.ShloMosaic.Lib.Pointwise
import Idealize.ShloMosaic.Lib.Pointwise.Tactic

@[expose] public section

set_option maxRecDepth 16384
noncomputable section

/-! What the attention and feed-forward reference computes, row by row. -/

namespace Cert.AttnRIdeal.Rows
open Cert.AttnRIdeal Cert.AttnRIdeal.Gen Cert.AttnRIdeal.Read Idealize.ShloMosaic Idealize.SL.Sem Cert.AttnMath

variable (x0 : (⟨S8x2048x1024, .f32⟩ : BufTy).Contents (Elt Ideal)) (x1 x2 : (⟨S8x256x4x256, .f32⟩ : BufTy).Contents (Elt Ideal))
  (x3 x4 : (⟨S1x1024, .f32⟩ : BufTy).Contents (Elt Ideal)) (x5 x6 : (⟨S1x1024x1024, .f32⟩ : BufTy).Contents (Elt Ideal))
  (x7 x8 : (⟨S1x1024, .f32⟩ : BufTy).Contents (Elt Ideal)) (x9 x10 : (⟨S1x1024x2816, .f32⟩ : BufTy).Contents (Elt Ideal))
  (x11 : (⟨S1x2816x1024, .f32⟩ : BufTy).Contents (Elt Ideal))

/-- The rows normed before the attention. -/
theorem v13_apply (b : Fin 8) (s : Fin 2048) (j : Fin 1024) : val_main_v13 (F := Ideal) x0 x3 (ix3 b s j)
    = rmsRow (fun c => x0 (ix3 b s c)) (fun c => x3 (ix2 0 c)) j := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1 rmsRow
  pointwise

/-- The scores. -/
theorem v19_apply (b : Fin 8) (h : Fin 4) (s : Fin 2048) (k : Fin 256) : val_main_v19 (F := Ideal) x0 x1 x3 x5 (ix4 b h s k)
    = score (rmsRow (fun c => x0 (ix3 b s c)) (fun c => x3 (ix2 0 c))) (fun a b => x5 (ix3 0 a b)) (fun h m d => x1 (ix4 b m h d)) h k := by
  unfold val_main_v19 val_main_v18 val_main_v17 val_main_v16 val_main_v15 val_main_v14 val_main_cst_2 score
  have e := v13_apply x0 x3
  generalize val_main_v13 (F := Ideal) x0 x3 = y at e ⊢
  pointwise
  simp only [e]
  have k : ∀ x : Fin 256, hcol h x = ⟨h.1 * 256 + x.1, by omega⟩ := fun x => Fin.ext (by simp only [hcol]; omega)
  simp only [k]

/-- The greatest score of a row. -/
theorem v20_apply (b : Fin 8) (h : Fin 4) (s : Fin 2048) : val_main_v20 (F := Ideal) x0 x1 x3 x5 (ix3 b h s)
    = rowMax (fun k => val_main_v19 (F := Ideal) x0 x1 x3 x5 (ix4 b h s k)) := by
  unfold val_main_v20
  generalize val_main_v19 (F := Ideal) x0 x1 x3 x5 = y
  refine (Host.reduce_eq_fold_single (α := EReal) (FloatOps.maximumf (F := Ideal) (φ := .f32)) y (val_main_cst_3 (F := Ideal))
    reducesTo_S8x4x2048x256_S8x4x2048_d3 (by decide) h_S_ (ix3 b h s)).trans ?_
  have g : ∀ k : Fin 256, (Shape.Reduces.lift (s := S8x4x2048x256) (a := 3) (t := S8x4x2048) (by decide) (ix3 b h s) k) = ix4 b h s k :=
    fun k => funext fun a => Fin.ext (by match a with | ⟨0, _⟩ => rfl | ⟨1, _⟩ => rfl | ⟨2, _⟩ => rfl | ⟨3, _⟩ => rfl)
  have g' : (y ∘ Shape.Reduces.lift (s := S8x4x2048x256) (a := 3) (t := S8x4x2048) (by decide) (ix3 b h s)) = fun k => y (ix4 b h s k) :=
    funext fun k => congrArg y (g k)
  exact congrArg (fun f : Fin 256 → EReal => Finset.fold max (Ideal.ofBits .f32 4286578688#32) f Finset.univ) g'

/-- The exponentials of the scores less the greatest. -/
theorem v26_apply (b : Fin 8) (h : Fin 4) (s : Fin 2048) (k : Fin 256) : val_main_v26 (F := Ideal) x0 x1 x3 x5 (ix4 b h s k)
    = Ideal.exp (val_main_v19 (F := Ideal) x0 x1 x3 x5 (ix4 b h s k) - rowMax (fun k => val_main_v19 (F := Ideal) x0 x1 x3 x5 (ix4 b h s k))) := by
  have e := v20_apply x0 x1 x3 x5
  have i1 : idx_main_v23 (idx_main_v24 (ix4 b h s k)) = ix3 b h s := funext fun a => by
    match a with | ⟨0, _⟩ => rfl | ⟨1, _⟩ => rfl | ⟨2, _⟩ => rfl
  rw [val_main_v26_apply, val_main_v25_apply, val_main_v24_apply, val_main_v23_apply, i1, val_main_v22_apply, e,
    val_main_v21_apply, val_main_cst_4_apply]
  generalize val_main_v19 (F := Ideal) x0 x1 x3 x5 = y
  have m : ∀ r : EReal, FloatOps.maximumf (F := Ideal) (φ := .f32) (FloatOps.ofBits .f32 0xFF800000#32) r = r := fun r => by
    rw [Ideal.maximumf_eq_max]
    exact (congrArg (max · r) ninf).trans (max_eq_right bot_le)
  rw [m]
  rfl

/-- The softmax times the values. -/
theorem v32_apply (b : Fin 8) (s : Fin 2048) (h : Fin 4)  (d : Fin 256) : val_main_v32 (F := Ideal) x0 x1 x2 x3 x5 (ix4 b s h d)
    = softRow (score (rmsRow (fun c => x0 (ix3 b s c)) (fun c => x3 (ix2 0 c))) (fun a b => x5 (ix3 0 a b)) (fun h m d => x1 (ix4 b m h d)) h)
      (fun m d => x2 (ix4 b m h d)) d := by
  have e := v26_apply x0 x1 x3 x5
  have e' := v19_apply x0 x1 x3 x5
  unfold val_main_v32 val_main_v31 val_main_v30 val_main_v29 val_main_v28 val_main_v27 val_main_cst_5 softRow
  generalize val_main_v26 (F := Ideal) x0 x1 x3 x5 = z at e ⊢
  generalize val_main_v19 (F := Ideal) x0 x1 x3 x5 = y at e e'
  pointwise
  simp only [e, e']
  exact Finset.sum_congr rfl fun k _ => mul_comm _ _

/-- The heads' outputs side by side. -/
theorem v33_apply (b : Fin 8) (s : Fin 2048) (c : Fin 1024) : val_main_v33 (F := Ideal) x0 x1 x2 x3 x5 (ix3 b s c)
    = mixRow (score (rmsRow (fun c => x0 (ix3 b s c)) (fun c => x3 (ix2 0 c))) (fun a b => x5 (ix3 0 a b)) (fun h m d => x1 (ix4 b m h d)))
      (fun h m d => x2 (ix4 b m h d)) c := by
  have e := v32_apply x0 x1 x2 x3 x5
  unfold val_main_v33 mixRow
  generalize val_main_v32 (F := Ideal) x0 x1 x2 x3 x5 = z at e ⊢
  pointwise
  rw [e]
  rfl

/-- The rows after the attention. -/
theorem v50_apply (b : Fin 8) (s : Fin 2048) (j : Fin 1024) : val_main_v50 (F := Ideal) x0 x1 x2 x3 x4 x5 x6 (ix3 b s j)
    = attnRow (fun hn => score hn (fun a b => x5 (ix3 0 a b)) (fun h m d => x1 (ix4 b m h d)))
        (fun c => x0 (ix3 b s c)) (fun c => x3 (ix2 0 c)) (fun h m d => x2 (ix4 b m h d))
        (fun a b => x6 (ix3 0 a b)) (fun c => x4 (ix2 0 c)) j := by
  have e := v33_apply x0 x1 x2 x3 x5
  have e' : ∀ j, val_main_v35 (F := Ideal) x0 x1 x2 x3 x5 x6 (ix3 b s j) = ∑ c,
      mixRow (score (rmsRow (fun c => x0 (ix3 b s c)) (fun c => x3 (ix2 0 c))) (fun a b => x5 (ix3 0 a b)) (fun h m d => x1 (ix4 b m h d)))
      (fun h m d => x2 (ix4 b m h d)) c * x6 (ix3 0 c j) := by
    intro j
    unfold val_main_v35 val_main_v34
    generalize val_main_v33 (F := Ideal) x0 x1 x2 x3 x5 = z at e ⊢
    pointwise
    simp only [e]
  unfold val_main_v50 val_main_v49 val_main_v48 val_main_v47 val_main_v46 val_main_v45 val_main_v44 val_main_v43 val_main_v42 val_main_v41 val_main_v40 val_main_v39 val_main_v38 val_main_v37 val_main_v36 val_main_cst_6 val_main_cst_7 val_main_cst_8 attnRow rmsRow
  generalize val_main_v35 (F := Ideal) x0 x1 x2 x3 x5 x6 = z at e' ⊢
  pointwise
  simp only [e']
  rfl

/-- The rows normed before the feed-forward layer. -/
theorem v64_apply (b : Fin 8) (s : Fin 2048) (j : Fin 1024) : val_main_v64 (F := Ideal) x0 x1 x2 x3 x4 x5 x6 x7 (ix3 b s j)
    = rmsRow (fun c => val_main_v50 (F := Ideal) x0 x1 x2 x3 x4 x5 x6 (ix3 b s c)) (fun c => x7 (ix2 0 c)) j := by
  unfold val_main_v64 val_main_v63 val_main_v62 val_main_v61 val_main_v60 val_main_v59 val_main_v58 val_main_v57 val_main_v56 val_main_v55 val_main_v54 val_main_v53 val_main_v52 val_main_v51 val_main_cst_9 val_main_cst_10 val_main_cst_11 rmsRow
  generalize val_main_v50 (F := Ideal) x0 x1 x2 x3 x4 x5 x6 = z
  pointwise

/-- The gated units. -/
theorem v70_apply (b : Fin 8) (s : Fin 2048) (j : Fin 2816) : val_main_v70 (F := Ideal) x0 x1 x2 x3 x4 x5 x6 x7 x9 x10 (ix3 b s j)
    = gate (∑ k, rmsRow (fun c => val_main_v50 (F := Ideal) x0 x1 x2 x3 x4 x5 x6 (ix3 b s c)) (fun c => x7 (ix2 0 c)) k * x9 (ix3 0 k j))
       (∑ k, rmsRow (fun c => val_main_v50 (F := Ideal) x0 x1 x2 x3 x4 x5 x6 (ix3 b s c)) (fun c => x7 (ix2 0 c)) k * x10 (ix3 0 k j)) := by
  have e := v64_apply x0 x1 x2 x3 x4 x5 x6 x7
  unfold val_main_v70 val_main_v69 val_main_v68 val_main_v67 val_main_call0_v5 val_main_call0_v4 val_main_call0_v3 val_main_call0_v2 val_main_call0_v1 val_main_call0_v0 val_main_call0_cst val_main_call0_cst_0 val_main_v66 val_main_v65
  generalize val_main_v64 (F := Ideal) x0 x1 x2 x3 x4 x5 x6 x7 = z at e ⊢
  pointwise
  simp only [e]
  exact gate_eq _ _

/-- The reference's result. -/
theorem v87_apply (b : Fin 8) (s : Fin 2048) (j : Fin 1024) : val_main_v87 (F := Ideal) x0 x1 x2 x3 x4 x5 x6 x7 x8 x9 x10 x11 (ix3 b s j)
    = ffnRow (attnRow (fun hn => score hn (fun a b => x5 (ix3 0 a b)) (fun h m d => x1 (ix4 b m h d)))
        (fun c => x0 (ix3 b s c)) (fun c => x3 (ix2 0 c)) (fun h m d => x2 (ix4 b m h d))
        (fun a b => x6 (ix3 0 a b)) (fun c => x4 (ix2 0 c)))
      (fun c => x7 (ix2 0 c)) (fun a b => x9 (ix3 0 a b)) (fun a b => x10 (ix3 0 a b))
      (fun a b => x11 (ix3 0 a b)) (fun c => x8 (ix2 0 c)) j := by
  have e := v70_apply x0 x1 x2 x3 x4 x5 x6 x7 x9 x10 b s
  have e5 := v50_apply x0 x1 x2 x3 x4 x5 x6 b s
  have e' : ∀ j, val_main_v72 (F := Ideal) x0 x1 x2 x3 x4 x5 x6 x7 x9 x10 x11 (ix3 b s j) = ∑ c,
      val_main_v70 (F := Ideal) x0 x1 x2 x3 x4 x5 x6 x7 x9 x10 (ix3 b s c) * x11 (ix3 0 c j) := by
    intro j
    unfold val_main_v72 val_main_v71
    generalize val_main_v70 (F := Ideal) x0 x1 x2 x3 x4 x5 x6 x7 x9 x10 = z
    pointwise
  unfold val_main_v87 val_main_v86 val_main_v85 val_main_v84 val_main_v83 val_main_v82 val_main_v81 val_main_v80 val_main_v79 val_main_v78 val_main_v77 val_main_v76 val_main_v75 val_main_v74 val_main_v73 val_main_cst_12 val_main_cst_13 val_main_cst_14 ffnRow
  generalize val_main_v72 (F := Ideal) x0 x1 x2 x3 x4 x5 x6 x7 x9 x10 x11 = z at e' ⊢
  generalize val_main_v70 (F := Ideal) x0 x1 x2 x3 x4 x5 x6 x7 x9 x10 = y at e e'
  generalize val_main_v50 (F := Ideal) x0 x1 x2 x3 x4 x5 x6 = w at e e5 ⊢
  pointwise
  simp only [e', e, e5]
  rfl

end Cert.AttnRIdeal.Rows
end
-- ==== Proof.Attn.Equal.lean ====
module

public import proofs.«01_k».proof.Defs
public import proofs.«01_k».proof.Proof.Attn.Blocks
public import proofs.«01_k».proof.Proof.Attn.Ref

@[expose] public section

set_option maxRecDepth 16384
noncomputable section

/-! The attention and feed-forward call and its reference end with the same array. -/

namespace Cert.AttnEqual
open Idealize.ShloMosaic Idealize.SL.Sem Cert.AttnMath

/-- Equal arguments give equal results of the reference. -/
theorem congr12 {x0 y0 : Cert.AttnRIdeal.S8x2048x1024.Idx → EReal} {x1 y1 : Cert.AttnRIdeal.S8x256x4x256.Idx → EReal} {x2 y2 : Cert.AttnRIdeal.S8x256x4x256.Idx → EReal} {x3 y3 : Cert.AttnRIdeal.S1x1024.Idx → EReal} {x4 y4 : Cert.AttnRIdeal.S1x1024.Idx → EReal} {x5 y5 : Cert.AttnRIdeal.S1x1024x1024.Idx → EReal} {x6 y6 : Cert.AttnRIdeal.S1x1024x1024.Idx → EReal} {x7 y7 : Cert.AttnRIdeal.S1x1024.Idx → EReal} {x8 y8 : Cert.AttnRIdeal.S1x1024.Idx → EReal} {x9 y9 : Cert.AttnRIdeal.S1x1024x2816.Idx → EReal} {x10 y10 : Cert.AttnRIdeal.S1x1024x2816.Idx → EReal} {x11 y11 : Cert.AttnRIdeal.S1x2816x1024.Idx → EReal}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) :
    Cert.AttnRIdeal.Read.val_main_v87 (F := Ideal) x0 x1 x2 x3 x4 x5 x6 x7 x8 x9 x10 x11
      = Cert.AttnRIdeal.Read.val_main_v87 (F := Ideal) y0 y1 y2 y3 y4 y5 y6 y7 y8 y9 y10 y11 := by
  subst e0 e1 e2 e3 e4 e5 e6 e7 e8 e9 e10 e11
  rfl

/-- The reference's result from arguments that agree with the kernel's is the kernel's array. -/
theorem value (m : (ℓ : Loc Cert.AttnPIdeal.nD Cert.AttnPIdeal.τ Cert.AttnPIdeal.sig) → Buf (Elt Ideal) ℓ) (c : Dev Cert.AttnPIdeal.nD) :
    Cert.AttnRIdeal.Read.val_main_v87 (F := Ideal) (Cert.AttnPIdeal.Blocks.A0 m c) (Cert.AttnPIdeal.Blocks.A1 m c)
      (Cert.AttnPIdeal.Blocks.A2 m c) (Cert.AttnPIdeal.Blocks.A3 m c) (Cert.AttnPIdeal.Blocks.A4 m c)
      (Cert.AttnPIdeal.Blocks.A5 m c) (Cert.AttnPIdeal.Blocks.A6 m c) (Cert.AttnPIdeal.Blocks.A7 m c)
      (Cert.AttnPIdeal.Blocks.A8 m c) (Cert.AttnPIdeal.Blocks.A9 m c) (Cert.AttnPIdeal.Blocks.A10 m c)
      (Cert.AttnPIdeal.Blocks.A11 m c) = Cert.AttnPIdeal.Blocks.G m c := by
  funext i
  have hi : i = ix3 (i 0) (i 1) (i 2) := funext fun a => by
    match a with | ⟨0, _⟩ => rfl | ⟨1, _⟩ => rfl | ⟨2, _⟩ => rfl
  rw [hi]
  refine (Cert.AttnRIdeal.Rows.v87_apply _ _ _ _ _ _ _ _ _ _ _ _ _ _ _).trans ?_
  unfold Cert.AttnPIdeal.Blocks.G Cert.AttnPIdeal.Blocks.spec Cert.AttnPIdeal.Blocks.scK
  simp only [scoreK_eq]
  rfl

/-- The kernel's and the reference's results are equal, on every device, from memories that agree on the arguments. -/
theorem algebraic : Cert.algebraic_AttnPIdeal_AttnRIdeal := by
  intro m ρ m' ρ' _ hagree
  refine ⟨fun c => Cert.AttnPIdeal.Blocks.G m c, ?_, ?_⟩
  · exact (θ_run Cert.AttnPIdeal.defs _ _).mono
      (fun _ h c => ⟨(h c).1.trans (Cert.AttnPIdeal.Blocks.final m c), (h c).2⟩)
      (Cert.AttnPIdeal.Value.run_blocks m ρ)
  · refine (θ_run Cert.AttnRIdeal.defs _ _).mono (fun _ h c => ⟨?_, (h c).2⟩) (Cert.AttnRIdeal.Value.run m' ρ')
    refine ((h c).1.trans (Cert.AttnRIdeal.Read.val_main_v87_eq _)).trans ?_
    obtain ⟨e0, e1, e2, e3, e4, e5, e6, e7, e8, e9, e10, e11⟩ := hagree c
    refine Eq.trans ?_ (value m c)
    exact congr12 e0 e1 e2 e3 e4 e5 e6 e7 e8 e9 e10 e11

end Cert.AttnEqual
end
-- ==== Proof.Kv.Blocks.lean ====
module

public import proofs.«01_k».proof.Proof.Attn.Math
public import proofs.«01_k».proof.Proof.Gen.KvPIdeal.Value
public import Idealize.ShloMosaic.Lib.Pipeline.ValueKit
import Idealize.ShloMosaic.Lib.Pointwise.Tactic
import Idealize.ShloMosaic.Lib.Claim

@[expose] public section

set_option maxRecDepth 16384
noncomputable section

/-! What the memory's key and value arrays hold after the run, as functions of the arguments. -/

namespace Cert.KvPIdeal.Blocks
open Cert.KvPIdeal Cert.KvPIdeal.Gen Idealize.ShloMosaic Idealize.ShloMosaic.TcCoe Idealize.SL.Sem Cert.AttnMath

/-- A normed memory row times a projection's column. -/
def kvRow (x w : Fin 1024 → EReal) (W : Fin 1024 → Fin 1024 → EReal) (j : Fin 1024) : EReal :=
  ∑ k, rmsRow x w k * W k j

/-- The body's key projection at row `r`, column `j`. -/
theorem pay4_apply (x : Vec Ideal S1x256x1024 .f32) (w : Vec Ideal S1x1024 .f32) (W : Vec Ideal S1024x1024 .bf16) (r : Fin 256) (j : Fin 1024) :
    k0_pay4 (F := Ideal) x w W (ix2 r j) = kvRow (fun c => x (ix3 0 r c)) (fun c => w (ix2 0 c)) (fun a b => W (ix2 a b)) j := by
  unfold k0_pay4 k0_pay3 kvRow rmsRow
  pointwise

/-- The body's value projection at row `r`, column `j`. -/
theorem pay5_apply (x : Vec Ideal S1x256x1024 .f32) (w : Vec Ideal S1x1024 .f32) (W : Vec Ideal S1024x1024 .bf16) (r : Fin 256) (j : Fin 1024) :
    k0_pay5 (F := Ideal) x w W (ix2 r j) = kvRow (fun c => x (ix3 0 r c)) (fun c => w (ix2 0 c)) (fun a b => W (ix2 a b)) j :=
  pay4_apply x w W r j

/-- The body's key block at position `r`, head `h`, column `d`. -/
theorem out4_apply (x0 : Vec Ideal S1x256x1024 .f32) (x1 : Vec Ideal S1x1024 .f32) (x2 x3 : Vec Ideal S1024x1024 .bf16)
    (z z' : Fin 1) (r : Fin 256) (h : Fin 4) (d : Fin 256) :
    out0_4 (F := Ideal) x0 x1 x2 x3 (ix5 z z' r h d)
      = kvRow (fun k => x0 (ix3 0 r k)) (fun k => x1 (ix2 0 k)) (fun a b => x2 (ix2 a b)) (hcol h d) := by
  unfold_out out0_4
  rw [Value.canon4_eq]
  have e : Value.ix4_0 (ix5 z z' r h d) = ix2 r (hcol h d) := by
    funext a
    match a with
    | ⟨0, _⟩ => rfl
    | ⟨1, _⟩ => exact Fin.ext (show h.val * 256 + d.val = 256 * h.val + d.val by omega)
  refine (congrArg (k0_pay4 _ _ _) e).trans ((pay4_apply _ _ _ _ _).trans ?_)
  congr 1
  · funext k
    pointwise
  · funext k
    pointwise
  · funext a b
    pointwise

/-- The body's value block at position `r`, head `h`, column `d`. -/
theorem out5_apply (x0 : Vec Ideal S1x256x1024 .f32) (x1 : Vec Ideal S1x1024 .f32) (x2 x3 : Vec Ideal S1024x1024 .bf16)
    (z z' : Fin 1) (r : Fin 256) (h : Fin 4) (d : Fin 256) :
    out0_5 (F := Ideal) x0 x1 x2 x3 (ix5 z z' r h d)
      = kvRow (fun k => x0 (ix3 0 r k)) (fun k => x1 (ix2 0 k)) (fun a b => x3 (ix2 a b)) (hcol h d) := by
  unfold_out out0_5
  rw [Value.canon5_eq]
  have e : Value.ix5_0 (ix5 z z' r h d) = ix2 r (hcol h d) := by
    funext a
    match a with
    | ⟨0, _⟩ => rfl
    | ⟨1, _⟩ => exact Fin.ext (show h.val * 256 + d.val = 256 * h.val + d.val by omega)
  refine (congrArg (k0_pay5 _ _ _) e).trans ((pay5_apply _ _ _ _ _).trans ?_)
  congr 1
  · funext k
    pointwise
  · funext k
    pointwise
  · funext a b
    pointwise

/-- The windows' block indices at every grid point. -/
theorem idx : ∀ t : Fin cfg0.N, win0_0.index t = ![t.val, 0, 0] ∧ win0_1.index t = ![0, 0] ∧ win0_2.index t = ![0, 0]
    ∧ win0_3.index t = ![0, 0] ∧ win0_4.index t = ![0, t.val, 0, 0, 0] ∧ win0_5.index t = ![0, t.val, 0, 0, 0] :=
  (by decide +kernel : ∀ t : Fin grid0.N, win0_0.index t = ![t.val, 0, 0] ∧ win0_1.index t = ![0, 0] ∧ win0_2.index t = ![0, 0]
    ∧ win0_3.index t = ![0, 0] ∧ win0_4.index t = ![0, t.val, 0, 0, 0] ∧ win0_5.index t = ![0, t.val, 0, 0, 0])

variable (m : (ℓ : Loc nD τ sig) → Buf (Elt Ideal) ℓ) (c : Dev nD) (t : Fin cfg0.N)

theorem tlt : t.val < 8 := lt_of_lt_of_eq t.isLt N_0

/-- Argument 0 as launched. -/
abbrev A0 : S8x256x1024.Idx → EReal := m ((c : Thread nD τ).loc main_arg0)
/-- Argument 1 as launched. -/
abbrev A1 : S1x1024.Idx → EReal := m ((c : Thread nD τ).loc main_arg1)
/-- Argument 2 as launched. -/
abbrev A2 : S1x1024x1024.Idx → EReal := m ((c : Thread nD τ).loc main_arg2)
/-- Argument 3 as launched. -/
abbrev A3 : S1x1024x1024.Idx → EReal := m ((c : Thread nD τ).loc main_arg3)

/-- The memory rows' block at point `t`. -/
theorem b0 (r : Fin 256) (j : Fin 1024) : iblk m c 0 t (ix3 0 r j) = A0 m c (ix3 ⟨t.val, tlt t⟩ r j) := by
  blk_ext [iblk, V, idx t]

/-- The norm's weights. -/
theorem b1 (j : Fin 1024) : iblk m c 1 t (ix2 0 j) = A1 m c (ix2 0 j) := by
  blk_simp [iblk]
  entry_read
  pointwise
  blk_ext [idx t]

/-- The key weights. -/
theorem b2 (a b : Fin 1024) : iblk m c 2 t (ix2 a b) = A2 m c (ix3 0 a b) := by
  blk_simp [iblk]
  entry_read
  pointwise
  blk_ext [idx t]

/-- The value weights. -/
theorem b3 (a b : Fin 1024) : iblk m c 3 t (ix2 a b) = A3 m c (ix3 0 a b) := by
  blk_simp [iblk]
  entry_read
  pointwise
  blk_ext [idx t]

/-- A projected array, at sequence, position, head and column within the head. -/
def spec (W : S1x1024x1024.Idx → EReal) (b : Fin 8) (s : Fin 256) (h : Fin 4) (d : Fin 256) : EReal :=
  kvRow (fun k => A0 m c (ix3 b s k)) (fun k => A1 m c (ix2 0 k)) (fun a b => W (ix3 0 a b)) (hcol h d)

/-- A projected array. -/
def G (W : S1x1024x1024.Idx → EReal) (i : S1x8x256x4x256.Idx) : EReal := spec m c W (i 1) (i 2) (i 3) (i 4)

/-- The key block at a grid point, from the arguments. -/
theorem at4 (y : S1x1x256x4x256.Idx) : out0_4 (iblk m c 0 t) (iblk m c 1 t) (iblk m c 2 t) (iblk m c 3 t) y
    = spec m c (A2 m c) ⟨t.val, tlt t⟩ (y 2) (y 3) (y 4) := by
  have ey : y = ix5 (y 0) (y 1) (y 2) (y 3) (y 4) := funext fun a => by
    match a with | ⟨0, _⟩ => rfl | ⟨1, _⟩ => rfl | ⟨2, _⟩ => rfl | ⟨3, _⟩ => rfl | ⟨4, _⟩ => rfl
  refine (congrArg (out0_4 _ _ _ _) ey).trans ((out4_apply _ _ _ _ _ _ _ _ _).trans ?_)
  have e0 := b0 m c t
  have e1 := b1 m c t
  have e2 := b2 m c t
  unfold spec
  congr 1
  · funext k
    exact e0 _ k
  · funext k
    exact e1 k
  · funext a b
    exact e2 a b

/-- The value block at a grid point, from the arguments. -/
theorem at5 (y : S1x1x256x4x256.Idx) : out0_5 (iblk m c 0 t) (iblk m c 1 t) (iblk m c 2 t) (iblk m c 3 t) y
    = spec m c (A3 m c) ⟨t.val, tlt t⟩ (y 2) (y 3) (y 4) := by
  have ey : y = ix5 (y 0) (y 1) (y 2) (y 3) (y 4) := funext fun a => by
    match a with | ⟨0, _⟩ => rfl | ⟨1, _⟩ => rfl | ⟨2, _⟩ => rfl | ⟨3, _⟩ => rfl | ⟨4, _⟩ => rfl
  refine (congrArg (out0_5 _ _ _ _) ey).trans ((out5_apply _ _ _ _ _ _ _ _ _).trans ?_)
  have e0 := b0 m c t
  have e1 := b1 m c t
  have e2 := b3 m c t
  unfold spec
  congr 1
  · funext k
    exact e0 _ k
  · funext k
    exact e1 k
  · funext a b
    exact e2 a b

/-- Where an element of the key block lies in the array. -/
theorem emb4 (y : S1x1x256x4x256.Idx) : (((cfg0.win 4).blk t).view.emb y : S1x8x256x4x256.Idx)
    = ix5 0 ⟨t.val, tlt t⟩ (y 2) (y 3) (y 4) := by
  blk_ext [idx t]

/-- Where an element of the value block lies in the array. -/
theorem emb5 (y : S1x1x256x4x256.Idx) : (((cfg0.win 5).blk t).view.emb y : S1x8x256x4x256.Idx)
    = ix5 0 ⟨t.val, tlt t⟩ (y 2) (y 3) (y 4) := by
  blk_ext [idx t]

/-- The key array after the run. -/
theorem final4 : (dats m 0 c).arrAt 4 cfg0.N = G m c (A2 m c) := by
  refine (dats m 0 c).arrAt_eq_of_covers 4 _ (by decide +kernel) fun t hf y => ?_
  have hy := emb4 t y
  blk_simp
  rw [after0_4]
  refine Eq.trans ?_ (congrArg (G m c (A2 m c)) hy.symm)
  exact at4 m c t y

/-- The value array after the run. -/
theorem final5 : (dats m 0 c).arrAt 5 cfg0.N = G m c (A3 m c) := by
  refine (dats m 0 c).arrAt_eq_of_covers 5 _ (by decide +kernel) fun t hf y => ?_
  have hy := emb5 t y
  blk_simp
  rw [after0_5]
  refine Eq.trans ?_ (congrArg (G m c (A3 m c)) hy.symm)
  exact at5 m c t y

end Cert.KvPIdeal.Blocks
end
-- ==== Proof.Kv.Equal.lean ====
module

public import proofs.«01_k».proof.Defs
public import proofs.«01_k».proof.Proof.Kv.Blocks
public import proofs.«01_k».proof.Proof.Gen.KvRIdeal.Run
public import proofs.«01_k».proof.Proof.Gen.KvRIdeal.Read
public import Idealize.ShloMosaic.Lib.Pointwise
import Idealize.ShloMosaic.Lib.Pointwise.Tactic

@[expose] public section

set_option maxRecDepth 16384
noncomputable section

/-! The memory's key and value call and its reference end with the same arrays. -/

namespace Cert.KvEqual
open Idealize.ShloMosaic Idealize.SL.Sem Cert.AttnMath Cert.KvPIdeal.Blocks
open Cert.KvRIdeal Cert.KvRIdeal.Gen Cert.KvRIdeal.Read

variable (x0 : (⟨S8x256x1024, .f32⟩ : BufTy).Contents (Elt Ideal)) (x1 : (⟨S1x1024, .f32⟩ : BufTy).Contents (Elt Ideal))
  (x2 x3 : (⟨S1x1024x1024, .f32⟩ : BufTy).Contents (Elt Ideal))

/-- The reference's normed memory rows. -/
theorem v13_apply (b : Fin 8) (s : Fin 256) (j : Fin 1024) : val_main_v13 (F := Ideal) x0 x1 (ix3 b s j)
    = rmsRow (fun c => x0 (ix3 b s c)) (fun c => x1 (ix2 0 c)) j := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1 rmsRow
  pointwise

/-- The reference's keys. -/
theorem v20_apply (z : Fin 1) (b : Fin 8) (s : Fin 256) (h : Fin 4) (d : Fin 256) : val_main_v20 (F := Ideal) x0 x1 x2 (ix5 z b s h d)
    = kvRow (fun c => x0 (ix3 b s c)) (fun c => x1 (ix2 0 c)) (fun a b => x2 (ix3 0 a b)) (hcol h d) := by
  unfold val_main_v20 val_main_v16 val_main_v15 val_main_v14 kvRow
  have e := v13_apply x0 x1
  generalize val_main_v13 (F := Ideal) x0 x1 = y at e ⊢
  pointwise
  simp only [e]
  have k : hcol h d = ⟨h.1 * 256 + d.1, by omega⟩ := Fin.ext (by simp only [hcol]; omega)
  rw [k]

/-- The reference's values. -/
theorem v21_apply (z : Fin 1) (b : Fin 8) (s : Fin 256) (h : Fin 4) (d : Fin 256) : val_main_v21 (F := Ideal) x0 x1 x3 (ix5 z b s h d)
    = kvRow (fun c => x0 (ix3 b s c)) (fun c => x1 (ix2 0 c)) (fun a b => x3 (ix3 0 a b)) (hcol h d) :=
  v20_apply x0 x1 x3 z b s h d

/-- The reference's keys are the kernel's key array. -/
theorem value20 (m : (ℓ : Loc Cert.KvPIdeal.nD Cert.KvPIdeal.τ Cert.KvPIdeal.sig) → Buf (Elt Ideal) ℓ) (c : Dev Cert.KvPIdeal.nD)
    (W : Cert.KvPIdeal.S1x1024x1024.Idx → EReal) : val_main_v20 (F := Ideal) (A0 m c) (A1 m c) W = G m c W := by
  funext i
  have hi : i = ix5 (i 0) (i 1) (i 2) (i 3) (i 4) := funext fun a => by
    match a with | ⟨0, _⟩ => rfl | ⟨1, _⟩ => rfl | ⟨2, _⟩ => rfl | ⟨3, _⟩ => rfl | ⟨4, _⟩ => rfl
  rw [hi]
  exact v20_apply _ _ _ _ _ _ _ _

/-- The reference's values are the kernel's value array. -/
theorem value21 (m : (ℓ : Loc Cert.KvPIdeal.nD Cert.KvPIdeal.τ Cert.KvPIdeal.sig) → Buf (Elt Ideal) ℓ) (c : Dev Cert.KvPIdeal.nD)
    (W : Cert.KvPIdeal.S1x1024x1024.Idx → EReal) : val_main_v21 (F := Ideal) (A0 m c) (A1 m c) W = G m c W :=
  value20 m c W

/-- Equal arguments give equal keys. -/
theorem congrK {a a' : S8x256x1024.Idx → EReal} {b b' : S1x1024.Idx → EReal} {w w' : S1x1024x1024.Idx → EReal}
    (e0 : a = a') (e1 : b = b') (e2 : w = w') : val_main_v20 (F := Ideal) a b w = val_main_v20 (F := Ideal) a' b' w' := by
  subst e0 e1 e2
  rfl

/-- Equal arguments give equal values. -/
theorem congrV {a a' : S8x256x1024.Idx → EReal} {b b' : S1x1024.Idx → EReal} {w w' : S1x1024x1024.Idx → EReal}
    (e0 : a = a') (e1 : b = b') (e2 : w = w') : val_main_v21 (F := Ideal) a b w = val_main_v21 (F := Ideal) a' b' w' := by
  subst e0 e1 e2
  rfl

/-- The kernel's and the reference's keys and values are equal, on every device, from memories that agree on the arguments. -/
theorem algebraic : Cert.algebraic_KvPIdeal_KvRIdeal := by
  intro m ρ m' ρ' _ hagree
  refine ⟨fun c => G m c (A2 m c), fun c => G m c (A3 m c), ?_, ?_⟩
  · exact (θ_run Cert.KvPIdeal.defs _ _).mono
      (fun _ h c => ⟨(h c).1.trans (final4 m c), (h c).2.1.trans (final5 m c), (h c).2.2.2.2⟩)
      (Cert.KvPIdeal.Value.run_blocks m ρ)
  · refine (θ_run Cert.KvRIdeal.defs _ _).mono (fun _ h c => ⟨?_, ?_, (h c).2.2⟩) (Cert.KvRIdeal.Value.run m' ρ')
    · obtain ⟨e0, e1, e2, e3⟩ := hagree c
      exact ((h c).1.trans (val_main_v20_eq _ _ _)).trans ((congrK e0 e1 e2).trans (value20 m c _))
    · obtain ⟨e0, e1, e2, e3⟩ := hagree c
      exact ((h c).2.1.trans (val_main_v21_eq _ _ _)).trans ((congrV e0 e1 e3).trans (value21 m c _))

end Cert.KvEqual
end
-- ==== Proof.Ffn.Tile.lean ====
module

public import proofs.«01_k».proof.Proof.Attn.TileRead
public import proofs.«01_k».proof.Proof.Gen.FfnPIdeal.Frame
import Idealize.ShloMosaic.Lib.Pointwise.Tactic

@[expose] public section

set_option maxRecDepth 16384
noncomputable section

/-! What one tile of 256 rows of the sample rows' feed-forward call computes: the output projection and the feed-forward
layer of the attention call's tile, on rows already attended. -/

namespace Cert.FfnPIdeal.Tile
open Cert.AttnPIdeal Cert.AttnPIdeal.Gen Idealize.ShloMosaic Idealize.SL.Sem Cert.AttnMath Cert.AttnPIdeal.Tile

/-- The rows plus the norm of the attended rows through `wo`. -/
def res {F : FTy → Type} [FloatOps F] (x a : FVec F S256x1024 .f32) (wo0 wo1 : Vec F S1024x512 .bf16) (w : Vec F S1x1024 .f32) :
    FVec F S256x1024 .f32 :=
  let o : FVec F S256x1024 .bf16 := truncf .bf16 a bitsLt_bf16_f32
  addf x (rms (concatenate S256x1024 1
    [⟨S256x512, matmul dot_S256x1024_S1024x512_S256x512_1_0_0_1_n_n none o
      (shapeCast S1024x512 wo0 shapeCasts_S1024x512_S1024x512) (constant S256x512 .f32 0x00000000#32)⟩,
     ⟨S256x512, matmul dot_S256x1024_S1024x512_S256x512_1_0_0_1_n_n none o
      (shapeCast S1024x512 wo1 shapeCasts_S1024x512_S1024x512) (constant S256x512 .f32 0x00000000#32)⟩]
    concatenates_S256x512_S256x512_S256x1024_d1) w)

/-- The whole call on 256 rows `x` and attended rows `a`, from the weights' blocks. -/
def tile {F : FTy → Type} [FloatOps F] (x a : FVec F S256x1024 .f32) (x2 : Vec F S1024x1024 .bf16) (x3 x4 x5 : Vec F S1x1024 .f32)
    (x6 x7 : Vec F S1024x2816 .bf16) (x8 : Vec F S2816x1024 .bf16) : FVec F S256x1024 .f32 :=
  ffn (res x a (View.ld x2 r0_2) (View.ld x2 r0_8) (View.ld x3 r0_1)) (View.ld x4 r0_1)
    (View.ld x6 r0_11) (View.ld x6 r0_12) (View.ld x6 r0_13) (View.ld x6 r0_14) (View.ld x6 r0_15) (View.ld x6 r0_16) (View.ld x6 r0_17) (View.ld x6 r0_18) (View.ld x6 r0_19) (View.ld x6 r0_20) (View.ld x6 r0_21)
    (View.ld x7 r0_11) (View.ld x7 r0_12) (View.ld x7 r0_13) (View.ld x7 r0_14) (View.ld x7 r0_15) (View.ld x7 r0_16) (View.ld x7 r0_17) (View.ld x7 r0_18) (View.ld x7 r0_19) (View.ld x7 r0_20) (View.ld x7 r0_21)
    (View.ld x8 r0_22) (View.ld x8 r0_23) (View.ld x5 r0_1)

/-- The block the body writes is two tiles of 256 rows, each the function `tile` of its own rows. -/
theorem out_eq {F : FTy → Type} [FloatOps F] (x0 x1 : Vec F Cert.FfnPIdeal.S512x1024 .f32) (x2 : Vec F S1024x1024 .bf16)
    (x3 x4 x5 : Vec F S1x1024 .f32) (x6 x7 : Vec F S1024x2816 .bf16) (x8 : Vec F S2816x1024 .bf16) :
    Cert.FfnPIdeal.Gen.out0_9 x0 x1 x2 x3 x4 x5 x6 x7 x8 = View.canon
      [⟨Cert.FfnPIdeal.Gen.r0_1, tile (View.ld x0 Cert.FfnPIdeal.Gen.r0_1) (View.ld x1 Cert.FfnPIdeal.Gen.r0_1) x2 x3 x4 x5 x6 x7 x8⟩,
       ⟨Cert.FfnPIdeal.Gen.r0_0, tile (View.ld x0 Cert.FfnPIdeal.Gen.r0_0) (View.ld x1 Cert.FfnPIdeal.Gen.r0_0) x2 x3 x4 x5 x6 x7 x8⟩] := rfl

/-- A row plus the norm of its attended row through `wo`. -/
def resRow (x u : Fin 1024 → EReal) (W : Fin 1024 → Fin 1024 → EReal) (w : Fin 1024 → EReal) (j : Fin 1024) : EReal :=
  x j + rmsRow (fun j => ∑ k, u k * W k j) w j

/-- The residual rows at row `r`, column `j`. -/
theorem res_apply (x a : FVec Ideal S256x1024 .f32) (x2 : Vec Ideal S1024x1024 .bf16) (x3 : Vec Ideal S1x1024 .f32) (r : Fin 256) (j : Fin 1024) :
    res (F := Ideal) x a (View.ld x2 r0_2) (View.ld x2 r0_8) (View.ld x3 r0_1) (ix2 r j)
    = resRow (fun c => x (ix2 r c)) (fun c => a (ix2 r c)) (fun a b => x2 (ix2 a b)) (fun c => x3 (ix2 0 c)) j := by
  unfold res resRow
  rw [addf_apply]
  show _ + rms (F := Ideal) _ _ _ = _
  rw [rms_apply]
  congr 1
  have e6 : (fun c => View.ld x3 r0_1 (ix2 0 c)) = fun c => x3 (ix2 0 c) := by funext c; pointwise
  rw [e6]
  congr 1
  funext c
  pointwise
  have hc := c.2
  by_cases h : c.1 < 512
  · rw [dif_pos h]
  · rw [dif_neg h]
    refine Finset.sum_congr rfl fun k _ => ?_
    congr 3
    exact Fin.ext (by simp only []; omega)

/-- One tile at row `r`, column `j`: the feed-forward row of the residual row. -/
theorem tile_apply (x a : FVec Ideal S256x1024 .f32) (x2 : Vec Ideal S1024x1024 .bf16) (x3 x4 x5 : Vec Ideal S1x1024 .f32)
    (x6 x7 : Vec Ideal S1024x2816 .bf16) (x8 : Vec Ideal S2816x1024 .bf16) (r : Fin 256) (j : Fin 1024) :
    tile (F := Ideal) x a x2 x3 x4 x5 x6 x7 x8 (ix2 r j)
    = ffnRow (resRow (fun c => x (ix2 r c)) (fun c => a (ix2 r c)) (fun a b => x2 (ix2 a b)) (fun c => x3 (ix2 0 c)))
        (fun c => x4 (ix2 0 c)) (fun a b => x6 (ix2 a b)) (fun a b => x7 (ix2 a b))
        (fun a b => x8 (ix2 a b)) (fun c => x5 (ix2 0 c)) j := by
  unfold tile
  rw [ffn_apply]
  congr 1
  funext c
  exact res_apply x a x2 x3 r c

end Cert.FfnPIdeal.Tile
end
-- ==== Proof.Ffn.Blocks.lean ====
module

public import proofs.«01_k».proof.Proof.Ffn.Tile
public import proofs.«01_k».proof.Proof.Gen.FfnPIdeal.Value
public import Idealize.ShloMosaic.Lib.Pipeline.ValueKit
import Idealize.ShloMosaic.Lib.Pointwise.Tactic
import Idealize.ShloMosaic.Lib.Claim

@[expose] public section

set_option maxRecDepth 16384
noncomputable section

/-! What the sample rows' result array holds after the run, as a function of the arguments. -/

namespace Cert.FfnPIdeal.Blocks
open Cert.FfnPIdeal Cert.FfnPIdeal.Gen Idealize.ShloMosaic Idealize.ShloMosaic.TcCoe Idealize.SL.Sem Cert.AttnMath Cert.FfnPIdeal.Tile

/-- The windows' block indices at the grid's one point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0])

variable (m : (ℓ : Loc nD τ sig) → Buf (Elt Ideal) ℓ) (c : Dev nD) (t : Fin cfg0.N)

/-- Argument 0 as launched. -/
abbrev A0 : S512x1024.Idx → EReal := m ((c : Thread nD τ).loc main_arg0)
/-- Argument 1 as launched. -/
abbrev A1 : S512x1024.Idx → EReal := m ((c : Thread nD τ).loc main_arg1)
/-- Argument 2 as launched. -/
abbrev A2 : S1x1024.Idx → EReal := m ((c : Thread nD τ).loc main_arg2)
/-- Argument 3 as launched. -/
abbrev A3 : S1x1024x1024.Idx → EReal := m ((c : Thread nD τ).loc main_arg3)
/-- Argument 4 as launched. -/
abbrev A4 : S1x1024.Idx → EReal := m ((c : Thread nD τ).loc main_arg4)
/-- Argument 5 as launched. -/
abbrev A5 : S1x1024.Idx → EReal := m ((c : Thread nD τ).loc main_arg5)
/-- Argument 6 as launched. -/
abbrev A6 : S1x1024x2816.Idx → EReal := m ((c : Thread nD τ).loc main_arg6)
/-- Argument 7 as launched. -/
abbrev A7 : S1x1024x2816.Idx → EReal := m ((c : Thread nD τ).loc main_arg7)
/-- Argument 8 as launched. -/
abbrev A8 : S1x2816x1024.Idx → EReal := m ((c : Thread nD τ).loc main_arg8)

/-- Window 0's block: the rows. -/
theorem b0 (r : Fin 512) (j : Fin 1024) : iblk m c 0 t (ix2 r j) = A0 m c (ix2 r j) := by
  blk_ext [iblk, V, idx t]

/-- Window 1's block: the rows. -/
theorem b1 (r : Fin 512) (j : Fin 1024) : iblk m c 1 t (ix2 r j) = A1 m c (ix2 r j) := by
  blk_ext [iblk, V, idx t]

/-- Window 2's block: the whole weights. -/
theorem b2 (a : Fin 1024) (b : Fin 1024) : iblk m c 2 t (ix2 a b) = A3 m c (ix3 0 a b) := by
  blk_simp [iblk]
  entry_read
  pointwise
  blk_ext [idx t]

/-- Window 3's block: a norm's weights. -/
theorem b3 (j : Fin 1024) : iblk m c 3 t (ix2 0 j) = A2 m c (ix2 0 j) := by
  blk_simp [iblk]
  entry_read
  pointwise
  blk_ext [idx t]

/-- Window 4's block: a norm's weights. -/
theorem b4 (j : Fin 1024) : iblk m c 4 t (ix2 0 j) = A4 m c (ix2 0 j) := by
  blk_simp [iblk]
  entry_read
  pointwise
  blk_ext [idx t]

/-- Window 5's block: a norm's weights. -/
theorem b5 (j : Fin 1024) : iblk m c 5 t (ix2 0 j) = A5 m c (ix2 0 j) := by
  blk_simp [iblk]
  entry_read
  pointwise
  blk_ext [idx t]

/-- Window 6's block: the whole weights. -/
theorem b6 (a : Fin 1024) (b : Fin 2816) : iblk m c 6 t (ix2 a b) = A6 m c (ix3 0 a b) := by
  blk_simp [iblk]
  entry_read
  pointwise
  blk_ext [idx t]

/-- Window 7's block: the whole weights. -/
theorem b7 (a : Fin 1024) (b : Fin 2816) : iblk m c 7 t (ix2 a b) = A7 m c (ix3 0 a b) := by
  blk_simp [iblk]
  entry_read
  pointwise
  blk_ext [idx t]

/-- Window 8's block: the whole weights. -/
theorem b8 (a : Fin 2816) (b : Fin 1024) : iblk m c 8 t (ix2 a b) = A8 m c (ix3 0 a b) := by
  blk_simp [iblk]
  entry_read
  pointwise
  blk_ext [idx t]

/-- The result's row `r`, column `j`. -/
def spec (r : Fin 512) (j : Fin 1024) : EReal :=
  ffnRow (resRow (fun k => A0 m c (ix2 r k)) (fun k => A1 m c (ix2 r k)) (fun a b => A3 m c (ix3 0 a b)) (fun k => A2 m c (ix2 0 k)))
    (fun k => A4 m c (ix2 0 k)) (fun a b => A6 m c (ix3 0 a b)) (fun a b => A7 m c (ix3 0 a b))
    (fun a b => A8 m c (ix3 0 a b)) (fun k => A5 m c (ix2 0 k)) j

/-- The result array. -/
def G (i : S512x1024.Idx) : EReal := spec m c (i 0) (i 1)

/-- One tile of the block: 256 rows from `q` on. -/
theorem tile_spec (x a : Vec Ideal S256x1024 .f32) (q : Nat) (hq : q + 256 ≤ 512)
    (hx : ∀ (r : Fin 256) (j : Fin 1024), x (ix2 r j) = A0 m c (ix2 ⟨q + r.val, by omega⟩ j))
    (ha : ∀ (r : Fin 256) (j : Fin 1024), a (ix2 r j) = A1 m c (ix2 ⟨q + r.val, by omega⟩ j)) (r : Fin 256) (j : Fin 1024) :
    tile (F := Ideal) x a (iblk m c 2 t) (iblk m c 3 t) (iblk m c 4 t) (iblk m c 5 t) (iblk m c 6 t) (iblk m c 7 t) (iblk m c 8 t) (ix2 r j)
    = spec m c ⟨q + r.val, by omega⟩ j := by
  refine (tile_apply _ _ _ _ _ _ _ _ _ r j).trans ?_
  have e2 := b2 m c t
  have e3 := b3 m c t
  have e4 := b4 m c t
  have e5 := b5 m c t
  have e6 := b6 m c t
  have e7 := b7 m c t
  have e8 := b8 m c t
  unfold spec
  simp only [hx, ha]
  simp only [e2, e3, e4, e5, e6, e7, e8]

/-- The block from the arguments. -/
theorem at9 (y : S512x1024.Idx) : out0_9 (iblk m c 0 t) (iblk m c 1 t) (iblk m c 2 t) (iblk m c 3 t) (iblk m c 4 t) (iblk m c 5 t)
    (iblk m c 6 t) (iblk m c 7 t) (iblk m c 8 t) y = spec m c (y 0) (y 1) := by
  refine (congrFun (out_eq _ _ _ _ _ _ _ _ _) y).trans ?_
  canon_tiles x h
  · have ex : x = ix2 (x 0) (x 1) := by funext a; fin_cases a <;> rfl
    rw [ex]
    refine (tile_spec m c t _ _ 256 (by omega) (fun r j => ?_) (fun r j => ?_) _ _).trans ?_
    · pointwise
      blk_ext [iblk, V, idx t]
    · pointwise
      blk_ext [iblk, V, idx t]
    · congr 1
      · exact Fin.ext h0.symm
      · exact Fin.ext h1.symm
  · have ex : x = ix2 (x 0) (x 1) := by funext a; fin_cases a <;> rfl
    rw [ex]
    refine (tile_spec m c t _ _ 0 (by omega) (fun r j => ?_) (fun r j => ?_) _ _).trans ?_
    · pointwise
      blk_ext [iblk, V, idx t]
    · pointwise
      blk_ext [iblk, V, idx t]
    · congr 1
      · exact Fin.ext (by simp only []; omega)
      · exact Fin.ext h1.symm

/-- Where an element of window 9's block lies in the array. -/
theorem emb9 (y : S512x1024.Idx) : (((cfg0.win 9).blk t).view.emb y : S512x1024.Idx) = ix2 (y 0) (y 1) := by
  blk_ext [idx t]

/-- The result array after the run. -/
theorem final9 : (dats m 0 c).arrAt 9 cfg0.N = G m c := by
  refine (dats m 0 c).arrAt_eq_of_covers 9 _ (by decide +kernel) fun t hf y => ?_
  have hy := emb9 t y
  blk_simp
  rw [after0_9]
  refine Eq.trans ?_ (congrArg (G m c) hy.symm)
  exact at9 m c t y

end Cert.FfnPIdeal.Blocks
end
-- ==== Proof.Ffn.Equal.lean ====
module

public import proofs.«01_k».proof.Defs
public import proofs.«01_k».proof.Proof.Ffn.Blocks
public import proofs.«01_k».proof.Proof.Gen.FfnRIdeal.Run
public import proofs.«01_k».proof.Proof.Gen.FfnRIdeal.Read
public import Idealize.ShloMosaic.Lib.Pointwise
import Idealize.ShloMosaic.Lib.Pointwise.Tactic

@[expose] public section

set_option maxRecDepth 16384
noncomputable section

/-! The sample rows' feed-forward call and its reference end with the same array. -/

namespace Cert.FfnEqual
open Idealize.ShloMosaic Idealize.SL.Sem Cert.AttnMath Cert.FfnPIdeal.Blocks Cert.FfnPIdeal.Tile
open Cert.FfnRIdeal Cert.FfnRIdeal.Gen Cert.FfnRIdeal.Read

variable (x0 x1 : (⟨S512x1024, .f32⟩ : BufTy).Contents (Elt Ideal)) (x2 : (⟨S1x1024, .f32⟩ : BufTy).Contents (Elt Ideal))
  (x3 : (⟨S1x1024x1024, .f32⟩ : BufTy).Contents (Elt Ideal)) (x4 x5 : (⟨S1x1024, .f32⟩ : BufTy).Contents (Elt Ideal))
  (x6 x7 : (⟨S1x1024x2816, .f32⟩ : BufTy).Contents (Elt Ideal)) (x8 : (⟨S1x2816x1024, .f32⟩ : BufTy).Contents (Elt Ideal))

/-- The attended rows through `wo`. -/
theorem v1_apply (r : Fin 512) (j : Fin 1024) : val_main_v1 (F := Ideal) x1 x3 (ix2 r j) = ∑ k, x1 (ix2 r k) * x3 (ix3 0 k j) := by
  unfold val_main_v1 val_main_v0
  pointwise

/-- The residual rows. -/
theorem v16_apply (r : Fin 512) (j : Fin 1024) : val_main_v16 (F := Ideal) x0 x1 x2 x3 (ix2 r j)
    = resRow (fun k => x0 (ix2 r k)) (fun k => x1 (ix2 r k)) (fun a b => x3 (ix3 0 a b)) (fun k => x2 (ix2 0 k)) j := by
  unfold val_main_v16 val_main_v15 val_main_v14 val_main_v13 val_main_v12 val_main_v11 val_main_v10 val_main_v9 val_main_v8 val_main_v7 val_main_v6 val_main_v5 val_main_v4 val_main_v3 val_main_v2 val_main_cst val_main_cst_0 val_main_cst_1 resRow rmsRow
  have e := v1_apply x1 x3
  generalize val_main_v1 (F := Ideal) x1 x3 = y at e ⊢
  pointwise
  simp only [e]

/-- The residual rows normed. -/
theorem v30_apply (r : Fin 512) (j : Fin 1024) : val_main_v30 (F := Ideal) x0 x1 x2 x3 x4 (ix2 r j)
    = rmsRow (fun c => val_main_v16 (F := Ideal) x0 x1 x2 x3 (ix2 r c)) (fun c => x4 (ix2 0 c)) j := by
  unfold val_main_v30 val_main_v29 val_main_v28 val_main_v27 val_main_v26 val_main_v25 val_main_v24 val_main_v23 val_main_v22 val_main_v21 val_main_v20 val_main_v19 val_main_v18 val_main_v17 val_main_cst_2 val_main_cst_3 val_main_cst_4 rmsRow
  generalize val_main_v16 (F := Ideal) x0 x1 x2 x3 = z
  pointwise

/-- The normed rows through `w_gate`. -/
theorem v32_apply (r : Fin 512) (j : Fin 2816) : val_main_v32 (F := Ideal) x0 x1 x2 x3 x4 x6 (ix2 r j)
    = ∑ k, rmsRow (fun c => val_main_v16 (F := Ideal) x0 x1 x2 x3 (ix2 r c)) (fun c => x4 (ix2 0 c)) k * x6 (ix3 0 k j) := by
  have e := v30_apply x0 x1 x2 x3 x4
  unfold val_main_v32 val_main_v31
  generalize val_main_v30 (F := Ideal) x0 x1 x2 x3 x4 = z at e ⊢
  pointwise
  simp only [e]

/-- The normed rows through `w_up`. -/
theorem v35_apply (r : Fin 512) (j : Fin 2816) : val_main_v35 (F := Ideal) x0 x1 x2 x3 x4 x7 (ix2 r j)
    = ∑ k, rmsRow (fun c => val_main_v16 (F := Ideal) x0 x1 x2 x3 (ix2 r c)) (fun c => x4 (ix2 0 c)) k * x7 (ix3 0 k j) := by
  have e := v30_apply x0 x1 x2 x3 x4
  unfold val_main_v35 val_main_v34
  generalize val_main_v30 (F := Ideal) x0 x1 x2 x3 x4 = z at e ⊢
  pointwise
  simp only [e]

/-- The gated units. -/
theorem v36_apply (r : Fin 512) (j : Fin 2816) : val_main_v36 (F := Ideal) x0 x1 x2 x3 x4 x6 x7 (ix2 r j)
    = gate (∑ k, rmsRow (fun c => val_main_v16 (F := Ideal) x0 x1 x2 x3 (ix2 r c)) (fun c => x4 (ix2 0 c)) k * x6 (ix3 0 k j))
       (∑ k, rmsRow (fun c => val_main_v16 (F := Ideal) x0 x1 x2 x3 (ix2 r c)) (fun c => x4 (ix2 0 c)) k * x7 (ix3 0 k j)) := by
  rw [← v32_apply, ← v35_apply]
  unfold val_main_v36 val_main_v33 val_main_call0_v5 val_main_call0_v4 val_main_call0_v3 val_main_call0_v2 val_main_call0_v1 val_main_call0_v0 val_main_call0_cst val_main_call0_cst_0
  generalize val_main_v32 (F := Ideal) x0 x1 x2 x3 x4 x6 = z
  generalize val_main_v35 (F := Ideal) x0 x1 x2 x3 x4 x7 = z'
  pointwise
  exact gate_eq _ _

/-- The rows after the feed-forward layer. -/
theorem v53_apply (r : Fin 512) (j : Fin 1024) : val_main_v53 (F := Ideal) x0 x1 x2 x3 x4 x5 x6 x7 x8 (ix2 r j)
    = ffnRow (resRow (fun k => x0 (ix2 r k)) (fun k => x1 (ix2 r k)) (fun a b => x3 (ix3 0 a b)) (fun k => x2 (ix2 0 k)))
        (fun c => x4 (ix2 0 c)) (fun a b => x6 (ix3 0 a b)) (fun a b => x7 (ix3 0 a b))
        (fun a b => x8 (ix3 0 a b)) (fun c => x5 (ix2 0 c)) j := by
  have e := v36_apply x0 x1 x2 x3 x4 x6 x7 r
  have e5 := v16_apply x0 x1 x2 x3 r
  have e' : ∀ j, val_main_v38 (F := Ideal) x0 x1 x2 x3 x4 x6 x7 x8 (ix2 r j) = ∑ c,
      val_main_v36 (F := Ideal) x0 x1 x2 x3 x4 x6 x7 (ix2 r c) * x8 (ix3 0 c j) := by
    intro j
    unfold val_main_v38 val_main_v37
    generalize val_main_v36 (F := Ideal) x0 x1 x2 x3 x4 x6 x7 = z
    pointwise
  unfold val_main_v53 val_main_v52 val_main_v51 val_main_v50 val_main_v49 val_main_v48 val_main_v47 val_main_v46 val_main_v45 val_main_v44 val_main_v43 val_main_v42 val_main_v41 val_main_v40 val_main_v39 val_main_cst_5 val_main_cst_6 val_main_cst_7 ffnRow rmsRow
  generalize val_main_v38 (F := Ideal) x0 x1 x2 x3 x4 x6 x7 x8 = z at e' ⊢
  generalize val_main_v36 (F := Ideal) x0 x1 x2 x3 x4 x6 x7 = y at e e'
  generalize val_main_v16 (F := Ideal) x0 x1 x2 x3 = w at e e5 ⊢
  pointwise
  simp only [e', e, e5]
  rfl

/-- The reference's result is the kernel's array. -/
theorem value (m : (ℓ : Loc Cert.FfnPIdeal.nD Cert.FfnPIdeal.τ Cert.FfnPIdeal.sig) → Buf (Elt Ideal) ℓ) (c : Dev Cert.FfnPIdeal.nD) :
    val_main_v53 (F := Ideal) (A0 m c) (A1 m c) (A2 m c) (A3 m c) (A4 m c) (A5 m c) (A6 m c) (A7 m c) (A8 m c) = G m c := by
  funext i
  have hi : i = ix2 (i 0) (i 1) := funext fun a => by match a with | ⟨0, _⟩ => rfl | ⟨1, _⟩ => rfl
  rw [hi]
  exact v53_apply _ _ _ _ _ _ _ _ _ _ _

/-- Equal arguments give equal results. -/
theorem congr9 {x0 y0 : S512x1024.Idx → EReal} {x1 y1 : S512x1024.Idx → EReal} {x2 y2 : S1x1024.Idx → EReal} {x3 y3 : S1x1024x1024.Idx → EReal} {x4 y4 : S1x1024.Idx → EReal} {x5 y5 : S1x1024.Idx → EReal} {x6 y6 : S1x1024x2816.Idx → EReal} {x7 y7 : S1x1024x2816.Idx → EReal} {x8 y8 : S1x2816x1024.Idx → EReal}
    (e0 : x0 = y0) (e1 : x1 = y1) (e2 : x2 = y2) (e3 : x3 = y3) (e4 : x4 = y4) (e5 : x5 = y5) (e6 : x6 = y6) (e7 : x7 = y7) (e8 : x8 = y8) :
    val_main_v53 (F := Ideal) x0 x1 x2 x3 x4 x5 x6 x7 x8 = val_main_v53 (F := Ideal) y0 y1 y2 y3 y4 y5 y6 y7 y8 := by
  subst e0 e1 e2 e3 e4 e5 e6 e7 e8
  rfl

/-- The kernel's and the reference's results are equal, on every device, from memories that agree on the arguments. -/
theorem algebraic : Cert.algebraic_FfnPIdeal_FfnRIdeal := by
  intro m ρ m' ρ' _ hagree
  refine ⟨fun c => G m c, ?_, ?_⟩
  · exact (θ_run Cert.FfnPIdeal.defs _ _).mono
      (fun _ h c => ⟨(h c).1.trans (final9 m c), (h c).2⟩) (Cert.FfnPIdeal.Value.run_blocks m ρ)
  · refine (θ_run Cert.FfnRIdeal.defs _ _).mono (fun _ h c => ⟨?_, (h c).2⟩) (Cert.FfnRIdeal.Value.run m' ρ')
    obtain ⟨e0, e1, e2, e3, e4, e5, e6, e7, e8⟩ := hagree c
    exact ((h c).1.trans (val_main_v53_eq _ _)).trans ((congr9 e0 e1 e2 e3 e4 e5 e6 e7 e8).trans (value m c))

end Cert.FfnEqual
end
-- ==== Proof.Post.Blocks.lean ====
module

public import proofs.«01_k».proof.Proof.Attn.Math
public import proofs.«01_k».proof.Proof.Gen.PostPIdeal.Value
public import Idealize.ShloMosaic.Lib.Pipeline.ValueKit
import Idealize.ShloMosaic.Lib.Pointwise.Tactic
import Idealize.ShloMosaic.Lib.Claim

@[expose] public section

set_option maxRecDepth 16384
noncomputable section

/-! What the two arrays of the call after the sample mixer hold after the run, as functions of the arguments. -/

namespace Cert.PostPIdeal.Blocks
open Cert.PostPIdeal Cert.PostPIdeal.Gen Idealize.ShloMosaic Idealize.ShloMosaic.TcCoe Idealize.SL.Sem Cert.AttnMath

/-- The body's residual rows at row `r`, column `j`. -/
theorem pay2_apply (u : Vec Ideal S512x1024 .f32) (W : Vec Ideal S1024x1024 .bf16) (x : Vec Ideal S512x1024 .f32) (w : Vec Ideal S1x1024 .f32)
    (r : Fin 512) (j : Fin 1024) : k0_pay2 (F := Ideal) u W x w (ix2 r j)
    = x (ix2 r j) + rmsRow (fun j => ∑ k, u (ix2 r k) * W (ix2 k j)) (fun c => w (ix2 0 c)) j := by
  unfold k0_pay2 rmsRow
  pointwise

/-- The body's normed residual rows. -/
theorem pay3_apply (u : Vec Ideal S512x1024 .f32) (W : Vec Ideal S1024x1024 .bf16) (x : Vec Ideal S512x1024 .f32) (w w' : Vec Ideal S1x1024 .f32)
    (r : Fin 512) (j : Fin 1024) : k0_pay3 (F := Ideal) u W x w w' (ix2 r j)
    = rmsRow (fun j => k0_pay2 (F := Ideal) u W x w (ix2 r j)) (fun c => w' (ix2 0 c)) j := by
  unfold k0_pay3 rmsRow
  generalize k0_pay2 (F := Ideal) u W x w = y
  pointwise

/-- The body's queries. -/
theorem pay1_apply (u : FVec Ideal S512x1024 .bf16) (W : Vec Ideal S1024x1024 .bf16) (r : Fin 512) (j : Fin 1024) :
    k0_pay1 (F := Ideal) u W (ix2 r j) = ∑ k, u (ix2 r k) * W (ix2 k j) := by
  unfold k0_pay1
  pointwise

/-- A residual row. -/
def resRow (x u : Fin 1024 → EReal) (W : Fin 1024 → Fin 1024 → EReal) (w : Fin 1024 → EReal) (j : Fin 1024) : EReal :=
  x j + rmsRow (fun j => ∑ k, u k * W k j) w j

/-- The residual block at row `r`, column `j`. -/
theorem out6_apply (x u : Vec Ideal S512x1024 .f32) (W : Vec Ideal S1024x1024 .bf16) (w w' : Vec Ideal S1x1024 .f32) (Q : Vec Ideal S1024x1024 .bf16)
    (r : Fin 512) (j : Fin 1024) : out0_6 (F := Ideal) x u W w w' Q (ix2 r j)
    = resRow (fun c => x (ix2 r c)) (fun c => u (ix2 r c)) (fun a b => W (ix2 a b)) (fun c => w (ix2 0 c)) j := by
  unfold out0_6
  canon_tiles y h
  have ey : y = ix2 r j := funext fun a => Fin.ext (by match a with | ⟨0, _⟩ => exact h0.symm | ⟨1, _⟩ => exact h1.symm)
  rw [ey, pay2_apply]
  unfold resRow
  pointwise

/-- The query block at row `r`, column `j`. -/
theorem out7_apply (x u : Vec Ideal S512x1024 .f32) (W : Vec Ideal S1024x1024 .bf16) (w w' : Vec Ideal S1x1024 .f32) (Q : Vec Ideal S1024x1024 .bf16)
    (r : Fin 512) (j : Fin 1024) : out0_7 (F := Ideal) x u W w w' Q (ix2 r j)
    = ∑ k, rmsRow (resRow (fun c => x (ix2 r c)) (fun c => u (ix2 r c)) (fun a b => W (ix2 a b)) (fun c => w (ix2 0 c))) (fun c => w' (ix2 0 c)) k
        * Q (ix2 k j) := by
  unfold out0_7
  canon_tiles y h
  have ey : y = ix2 r j := funext fun a => Fin.ext (by match a with | ⟨0, _⟩ => exact h0.symm | ⟨1, _⟩ => exact h1.symm)
  rw [ey, pay1_apply]
  simp only [pay3_apply, pay2_apply]
  unfold resRow
  pointwise

/-- The windows' block indices at the grid's one point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0])

variable (m : (ℓ : Loc nD τ sig) → Buf (Elt Ideal) ℓ) (c : Dev nD) (t : Fin cfg0.N)

/-- Argument 0 as launched. -/
abbrev A0 : S128x4x1024.Idx → EReal := m ((c : Thread nD τ).loc main_arg0)
/-- Argument 1 as launched. -/
abbrev A1 : S512x1024.Idx → EReal := m ((c : Thread nD τ).loc main_arg1)
/-- Argument 2 as launched. -/
abbrev A2 : S1x1024x1024.Idx → EReal := m ((c : Thread nD τ).loc main_arg2)
/-- Argument 3 as launched. -/
abbrev A3 : S1x1024.Idx → EReal := m ((c : Thread nD τ).loc main_arg3)
/-- Argument 4 as launched. -/
abbrev A4 : S1x1024.Idx → EReal := m ((c : Thread nD τ).loc main_arg4)
/-- Argument 5 as launched. -/
abbrev A5 : S1x1024x1024.Idx → EReal := m ((c : Thread nD τ).loc main_arg5)

/-- Window 0's block: the rows, four of each sequence. -/
theorem b0 (r : Fin 512) (j : Fin 1024) : iblk m c 0 t (ix2 r j) = A0 m c (ix3 ⟨r.val / 4, by omega⟩ ⟨r.val % 4, by omega⟩ j) := by
  blk_simp [iblk]
  entry_read
  pointwise
  blk_ext [idx t]

/-- Window 1's block: the rows. -/
theorem b1 (r : Fin 512) (j : Fin 1024) : iblk m c 1 t (ix2 r j) = A1 m c (ix2 r j) := by
  blk_ext [iblk, V, idx t]

/-- Window 2's block: the whole weights. -/
theorem b2 (a : Fin 1024) (b : Fin 1024) : iblk m c 2 t (ix2 a b) = A2 m c (ix3 0 a b) := by
  blk_simp [iblk]
  entry_read
  pointwise
  blk_ext [idx t]

/-- Window 3's block: a norm's weights. -/
theorem b3 (j : Fin 1024) : iblk m c 3 t (ix2 0 j) = A3 m c (ix2 0 j) := by
  blk_simp [iblk]
  entry_read
  pointwise
  blk_ext [idx t]

/-- Window 4's block: a norm's weights. -/
theorem b4 (j : Fin 1024) : iblk m c 4 t (ix2 0 j) = A4 m c (ix2 0 j) := by
  blk_simp [iblk]
  entry_read
  pointwise
  blk_ext [idx t]

/-- Window 5's block: the whole weights. -/
theorem b5 (a : Fin 1024) (b : Fin 1024) : iblk m c 5 t (ix2 a b) = A5 m c (ix3 0 a b) * Ideal.ofBits FTy.f32 0x3D800000#32 := by
  blk_simp [iblk]
  entry_read
  pointwise
  refine congrArg (fun z => z * _) ?_
  blk_ext [idx t]

/-- The residual row `r`. -/
def resSpec (r : Fin 512) : Fin 1024 → EReal :=
  resRow (fun k => A0 m c (ix3 ⟨r.val / 4, by omega⟩ ⟨r.val % 4, by omega⟩ k)) (fun k => A1 m c (ix2 r k)) (fun a b => A2 m c (ix3 0 a b))
    (fun k => A3 m c (ix2 0 k))

/-- The queries of row `r`, from weights that are scaled already. -/
def qSpec (r : Fin 512) (j : Fin 1024) : EReal :=
  ∑ k, rmsRow (resSpec m c r) (fun k => A4 m c (ix2 0 k)) k * (A5 m c (ix3 0 k j) * Ideal.ofBits FTy.f32 0x3D800000#32)

/-- The residual array. -/
def GH (i : S512x1024.Idx) : EReal := resSpec m c (i 0) (i 1)

/-- The query array. -/
def GQ (i : S512x1024.Idx) : EReal := qSpec m c (i 0) (i 1)

/-- The residual block from the arguments. -/
theorem at6 (y : S512x1024.Idx) : out0_6 (iblk m c 0 t) (iblk m c 1 t) (iblk m c 2 t) (iblk m c 3 t) (iblk m c 4 t) (iblk m c 5 t) y
    = resSpec m c (y 0) (y 1) := by
  have ey : y = ix2 (y 0) (y 1) := funext fun a => by
    match a with | ⟨0, _⟩ => rfl | ⟨1, _⟩ => rfl
  refine (congrArg (out0_6 _ _ _ _ _ _) ey).trans ((out6_apply _ _ _ _ _ _ _ _).trans ?_)
  have e0 := b0 m c t
  have e1 := b1 m c t
  have e2 := b2 m c t
  have e3 := b3 m c t
  unfold resSpec
  congr 1
  · funext k
    exact e0 _ k
  · funext k
    exact e1 _ k
  · funext a b
    exact e2 a b
  · funext k
    exact e3 k

/-- The query block from the arguments. -/
theorem at7 (y : S512x1024.Idx) : out0_7 (iblk m c 0 t) (iblk m c 1 t) (iblk m c 2 t) (iblk m c 3 t) (iblk m c 4 t) (iblk m c 5 t) y
    = qSpec m c (y 0) (y 1) := by
  have ey : y = ix2 (y 0) (y 1) := funext fun a => by
    match a with | ⟨0, _⟩ => rfl | ⟨1, _⟩ => rfl
  refine (congrArg (out0_7 _ _ _ _ _ _) ey).trans ((out7_apply _ _ _ _ _ _ _ _).trans ?_)
  have e0 := b0 m c t
  have e1 := b1 m c t
  have e2 := b2 m c t
  have e3 := b3 m c t
  have e4 := b4 m c t
  have e5 := b5 m c t
  unfold qSpec resSpec
  refine Finset.sum_congr rfl fun k _ => ?_
  refine congr (congrArg HMul.hMul ?_) (e5 k _)
  congr 1
  · congr 1
    · funext k
      exact e0 _ k
    · funext k
      exact e1 _ k
    · funext a b
      exact e2 a b
    · funext k
      exact e3 k
  · funext k
    exact e4 k

/-- Where an element of window 6's block lies in the array. -/
theorem emb6 (y : S512x1024.Idx) : (((cfg0.win 6).blk t).view.emb y : S512x1024.Idx) = ix2 (y 0) (y 1) := by
  blk_ext [idx t]

/-- The residual array after the run. -/
theorem final6 : (dats m 0 c).arrAt 6 cfg0.N = GH m c := by
  refine (dats m 0 c).arrAt_eq_of_covers 6 _ (by decide +kernel) fun t hf y => ?_
  have hy := emb6 t y
  blk_simp
  rw [after0_6]
  refine Eq.trans ?_ (congrArg (GH m c) hy.symm)
  exact at6 m c t y

/-- Where an element of window 7's block lies in the array. -/
theorem emb7 (y : S512x1024.Idx) : (((cfg0.win 7).blk t).view.emb y : S512x1024.Idx) = ix2 (y 0) (y 1) := by
  blk_ext [idx t]

/-- The query array after the run. -/
theorem final7 : (dats m 0 c).arrAt 7 cfg0.N = GQ m c := by
  refine (dats m 0 c).arrAt_eq_of_covers 7 _ (by decide +kernel) fun t hf y => ?_
  have hy := emb7 t y
  blk_simp
  rw [after0_7]
  refine Eq.trans ?_ (congrArg (GQ m c) hy.symm)
  exact at7 m c t y

end Cert.PostPIdeal.Blocks
end
-- ==== Proof.Post.Equal.lean ====
module

public import proofs.«01_k».proof.Defs
public import proofs.«01_k».proof.Proof.Post.Blocks
public import proofs.«01_k».proof.Proof.Gen.PostRIdeal.Run
public import proofs.«01_k».proof.Proof.Gen.PostRIdeal.Read
public import Idealize.ShloMosaic.Lib.Pointwise
import Idealize.ShloMosaic.Lib.Pointwise.Tactic

@[expose] public section

set_option maxRecDepth 16384
noncomputable section

/-! The call after the sample mixer and its reference end with the same arrays. -/

namespace Cert.PostEqual
open Idealize.ShloMosaic Idealize.SL.Sem Cert.AttnMath Cert.PostPIdeal.Blocks
open Cert.PostRIdeal Cert.PostRIdeal.Gen Cert.PostRIdeal.Read

variable (x0 : (⟨S128x4x1024, .f32⟩ : BufTy).Contents (Elt Ideal)) (x1 : (⟨S512x1024, .f32⟩ : BufTy).Contents (Elt Ideal))
  (x2 x5 : (⟨S1x1024x1024, .f32⟩ : BufTy).Contents (Elt Ideal)) (x3 x4 : (⟨S1x1024, .f32⟩ : BufTy).Contents (Elt Ideal))

/-- The reference's residual row `r`. -/
def refRes (r : Fin 512) : Fin 1024 → EReal :=
  resRow (fun k => x0 (ix3 ⟨r.val / 4, by omega⟩ ⟨r.val % 4, by omega⟩ k)) (fun k => x1 (ix2 r k)) (fun a b => x2 (ix3 0 a b))
    (fun k => x3 (ix2 0 k))

/-- The projected rows. -/
theorem v2_apply (r : Fin 512) (j : Fin 1024) : val_main_v2 (F := Ideal) x1 x2 (ix2 r j) = ∑ k, x1 (ix2 r k) * x2 (ix3 0 k j) := by
  unfold val_main_v2 val_main_v1
  pointwise

/-- The residual rows. -/
theorem v17_apply (r : Fin 512) (j : Fin 1024) : val_main_v17 (F := Ideal) x0 x1 x2 x3 (ix2 r j) = refRes x0 x1 x2 x3 r j := by
  unfold val_main_v17 val_main_v16 val_main_v15 val_main_v14 val_main_v13 val_main_v12 val_main_v11 val_main_v10 val_main_v9 val_main_v8 val_main_v7 val_main_v6 val_main_v5 val_main_v4 val_main_v3 val_main_v0 val_main_cst val_main_cst_0 val_main_cst_1 refRes resRow rmsRow
  have e := v2_apply x1 x2
  generalize val_main_v2 (F := Ideal) x1 x2 = y at e ⊢
  pointwise
  simp only [e]

/-- The normed residual rows. -/
theorem v31_apply (r : Fin 512) (j : Fin 1024) : val_main_v31 (F := Ideal) x0 x1 x2 x3 x4 (ix2 r j)
    = rmsRow (refRes x0 x1 x2 x3 r) (fun c => x4 (ix2 0 c)) j := by
  unfold val_main_v31 val_main_v30 val_main_v29 val_main_v28 val_main_v27 val_main_v26 val_main_v25 val_main_v24 val_main_v23 val_main_v22 val_main_v21 val_main_v20 val_main_v19 val_main_v18 val_main_cst_2 val_main_cst_3 val_main_cst_4 rmsRow
  have e := v17_apply x0 x1 x2 x3
  generalize val_main_v17 (F := Ideal) x0 x1 x2 x3 = y at e ⊢
  pointwise
  simp only [e]

/-- The scaled queries. -/
theorem v36_apply (r : Fin 512) (j : Fin 1024) : val_main_v36 (F := Ideal) x0 x1 x2 x3 x4 x5 (ix2 r j)
    = (∑ k, rmsRow (refRes x0 x1 x2 x3 r) (fun c => x4 (ix2 0 c)) k * x5 (ix3 0 k j)) * Ideal.ofBits FTy.f32 0x3D800000#32 := by
  unfold val_main_v36 val_main_v35 val_main_v34 val_main_v33 val_main_v32 val_main_cst_5
  have e := v31_apply x0 x1 x2 x3 x4
  generalize val_main_v31 (F := Ideal) x0 x1 x2 x3 x4 = y at e ⊢
  pointwise
  simp only [e]

/-- The scale may be taken on the weights or on the products' sum. -/
theorem scaled (a b : Fin 1024 → EReal) : (∑ k, a k * b k) * Ideal.ofBits FTy.f32 0x3D800000#32
    = ∑ k, a k * (b k * Ideal.ofBits FTy.f32 0x3D800000#32) := by
  obtain ⟨r, hr, he⟩ := scale_eq
  rw [he, ← sum_mul_coe _ r hr]
  simp only [mul_assoc]

/-- The reference's residual rows are the kernel's array. -/
theorem valueH (m : (ℓ : Loc Cert.PostPIdeal.nD Cert.PostPIdeal.τ Cert.PostPIdeal.sig) → Buf (Elt Ideal) ℓ) (c : Dev Cert.PostPIdeal.nD) :
    val_main_v17 (F := Ideal) (A0 m c) (A1 m c) (A2 m c) (A3 m c) = GH m c := by
  funext i
  have hi : i = ix2 (i 0) (i 1) := funext fun a => by match a with | ⟨0, _⟩ => rfl | ⟨1, _⟩ => rfl
  rw [hi]
  exact v17_apply _ _ _ _ _ _

/-- The reference's queries are the kernel's array. -/
theorem valueQ (m : (ℓ : Loc Cert.PostPIdeal.nD Cert.PostPIdeal.τ Cert.PostPIdeal.sig) → Buf (Elt Ideal) ℓ) (c : Dev Cert.PostPIdeal.nD) :
    val_main_v36 (F := Ideal) (A0 m c) (A1 m c) (A2 m c) (A3 m c) (A4 m c) (A5 m c) = GQ m c := by
  funext i
  have hi : i = ix2 (i 0) (i 1) := funext fun a => by match a with | ⟨0, _⟩ => rfl | ⟨1, _⟩ => rfl
  rw [hi]
  exact (v36_apply _ _ _ _ _ _ _ _).trans (scaled _ _)

/-- Equal arguments give equal residual rows. -/
theorem congrH {a a' : S128x4x1024.Idx → EReal} {b b' : S512x1024.Idx → EReal} {w w' : S1x1024x1024.Idx → EReal} {n n' : S1x1024.Idx → EReal}
    (e0 : a = a') (e1 : b = b') (e2 : w = w') (e3 : n = n') :
    val_main_v17 (F := Ideal) a b w n = val_main_v17 (F := Ideal) a' b' w' n' := by
  subst e0 e1 e2 e3
  rfl

/-- Equal arguments give equal queries. -/
theorem congrQ {a a' : S128x4x1024.Idx → EReal} {b b' : S512x1024.Idx → EReal} {w w' q q' : S1x1024x1024.Idx → EReal}
    {n n' p p' : S1x1024.Idx → EReal} (e0 : a = a') (e1 : b = b') (e2 : w = w') (e3 : n = n') (e4 : p = p') (e5 : q = q') :
    val_main_v36 (F := Ideal) a b w n p q = val_main_v36 (F := Ideal) a' b' w' n' p' q' := by
  subst e0 e1 e2 e3 e4 e5
  rfl

/-- The kernel's and the reference's results are equal, on every device, from memories that agree on the arguments. -/
theorem algebraic : Cert.algebraic_PostPIdeal_PostRIdeal := by
  intro m ρ m' ρ' _ hagree
  refine ⟨fun c => GH m c, fun c => GQ m c, ?_, ?_⟩
  · exact (θ_run Cert.PostPIdeal.defs _ _).mono
      (fun _ h c => ⟨(h c).1.trans (final6 m c), (h c).2.1.trans (final7 m c), (h c).2.2⟩)
      (Cert.PostPIdeal.Value.run_blocks m ρ)
  · refine (θ_run Cert.PostRIdeal.defs _ _).mono (fun _ h c => ⟨?_, ?_, (h c).2.2⟩) (Cert.PostRIdeal.Value.run m' ρ')
    · obtain ⟨e0, e1, e2, e3, e4, e5⟩ := hagree c
      exact ((h c).1.trans (val_main_v17_eq _ _ _ _)).trans ((congrH e0 e1 e2 e3).trans (valueH m c))
    · obtain ⟨e0, e1, e2, e3, e4, e5⟩ := hagree c
      exact ((h c).2.1.trans (val_main_v36_eq _ _)).trans ((congrQ e0 e1 e2 e3 e4 e5).trans (valueQ m c))

end Cert.PostEqual
end
-- ==== Proof.Proj.Blocks.lean ====
module

public import proofs.«01_k».proof.Proof.Attn.Math
public import proofs.«01_k».proof.Proof.Gen.ProjPIdeal.Frame
public import Idealize.ShloMosaic.Lib.Pipeline.ValueKit
import Idealize.ShloMosaic.Lib.Pointwise.Tactic
import Idealize.ShloMosaic.Lib.Claim

@[expose] public section

set_option maxRecDepth 16384
noncomputable section

/-! What the sample rows' projection array, and the rows cut out of it, hold after the run, as a function of the arguments. -/

namespace Cert.ProjPIdeal.Blocks
open Cert.ProjPIdeal Cert.ProjPIdeal.Gen Idealize.ShloMosaic Idealize.ShloMosaic.TcCoe Idealize.SL.Sem Cert.AttnMath

/-- The body's projection at row `r`, column `j`. -/
theorem pay1_apply (x : Vec Ideal S512x1024 .f32) (w : Vec Ideal S1x1024 .f32) (W : Vec Ideal S1024x3200 .bf16) (r : Fin 512) (j : Fin 3200) :
    k0_pay1 (F := Ideal) x w W (ix2 r j) = ∑ k, rmsRow (fun c => x (ix2 r c)) (fun c => w (ix2 0 c)) k * W (ix2 k j) := by
  unfold k0_pay1 rmsRow
  pointwise

/-- The body's result block at row `r`, column `j`. -/
theorem out3_apply (x : Vec Ideal S512x1024 .f32) (w : Vec Ideal S1x1024 .f32) (W : Vec Ideal S1024x3200 .bf16) (r : Fin 512) (j : Fin 3200) :
    out0_3 (F := Ideal) x w W (ix2 r j) = ∑ k, rmsRow (fun c => x (ix2 r c)) (fun c => w (ix2 0 c)) k * W (ix2 k j) := by
  unfold out0_3
  canon_tiles y h
  have ey : y = ix2 r j := funext fun a => Fin.ext (by match a with | ⟨0, _⟩ => exact h0.symm | ⟨1, _⟩ => exact h1.symm)
  rw [ey, pay1_apply]
  pointwise

/-- The windows' block indices at the grid's one point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, win0_0.index t = ![0, 0] ∧ win0_1.index t = ![0, 0] ∧ win0_2.index t = ![0, 0] ∧ win0_3.index t = ![0, 0])

variable (m : (ℓ : Loc nD τ sig) → Buf (Elt Ideal) ℓ) (c : Dev nD) (t : Fin cfg0.N)

/-- Argument 0 as launched. -/
abbrev A0 : S128x4x1024.Idx → EReal := m ((c : Thread nD τ).loc main_arg0)
/-- Argument 1 as launched. -/
abbrev A1 : S1x128x3x1024.Idx → EReal := m ((c : Thread nD τ).loc main_arg1)
/-- Argument 2 as launched. -/
abbrev A2 : S1x1024.Idx → EReal := m ((c : Thread nD τ).loc main_arg2)
/-- Argument 3 as launched. -/
abbrev A3 : S1024x3200.Idx → EReal := m ((c : Thread nD τ).loc main_arg3)

/-- Window 0's block: the rows, four of each sequence. -/
theorem b0 (r : Fin 512) (j : Fin 1024) : iblk m c 0 t (ix2 r j) = A0 m c (ix3 ⟨r.val / 4, by omega⟩ ⟨r.val % 4, by omega⟩ j) := by
  blk_simp [iblk]
  unfold V V0
  simp only [List.flatten_cons, List.flatten_nil, List.append_nil]
  unfold hostOps0
  after_results
  pointwise
  blk_ext [idx t]

/-- Window 1's block: a norm's weights. -/
theorem b1 (j : Fin 1024) : iblk m c 1 t (ix2 0 j) = A2 m c (ix2 0 j) := by
  blk_simp [iblk]
  unfold V V0
  simp only [List.flatten_cons, List.flatten_nil, List.append_nil]
  unfold hostOps0
  after_results
  pointwise
  blk_ext [idx t]

/-- Window 2's block: the whole weights. -/
theorem b2 (a : Fin 1024) (b : Fin 3200) : iblk m c 2 t (ix2 a b) = A3 m c (ix2 a b) := by
  blk_simp [iblk]
  unfold V V0
  simp only [List.flatten_cons, List.flatten_nil, List.append_nil]
  unfold hostOps0
  after_results
  pointwise
  blk_ext [idx t]

/-- The projection of row `r`, at column `j`. -/
def spec (r : Fin 512) (j : Fin 3200) : EReal :=
  ∑ k, rmsRow (fun k => A0 m c (ix3 ⟨r.val / 4, by omega⟩ ⟨r.val % 4, by omega⟩ k)) (fun k => A2 m c (ix2 0 k)) k * A3 m c (ix2 k j)

/-- The projection array. -/
def G (i : S512x3200.Idx) : EReal := spec m c (i 0) (i 1)

/-- The block from the arguments. -/
theorem at3 (y : S512x3200.Idx) : out0_3 (iblk m c 0 t) (iblk m c 1 t) (iblk m c 2 t) y = spec m c (y 0) (y 1) := by
  have ey : y = ix2 (y 0) (y 1) := funext fun a => by
    match a with | ⟨0, _⟩ => rfl | ⟨1, _⟩ => rfl
  refine (congrArg (out0_3 _ _ _) ey).trans ((out3_apply _ _ _ _ _).trans ?_)
  have e0 := b0 m c t
  have e1 := b1 m c t
  have e2 := b2 m c t
  unfold spec
  refine Finset.sum_congr rfl fun k _ => ?_
  refine congr (congrArg HMul.hMul ?_) (e2 k _)
  congr 1
  · funext k
    exact e0 _ k
  · funext k
    exact e1 k

/-- Where an element of window 3's block lies in the array. -/
theorem emb3 (y : S512x3200.Idx) : (((cfg0.win 3).blk t).view.emb y : S512x3200.Idx) = ix2 (y 0) (y 1) := by
  blk_ext [idx t]

/-- The projection array after the run. -/
theorem final3 : (dats m 0 c).arrAt 3 cfg0.N = G m c := by
  refine (dats m 0 c).arrAt_eq_of_covers 3 _ (by decide +kernel) fun t hf y => ?_
  have hy := emb3 t y
  blk_simp
  rw [after0_3]
  refine Eq.trans ?_ (congrArg (G m c) hy.symm)
  exact at3 m c t y

/-- The last three of each sequence's four rows of the conv columns. -/
def C (i : S1x128x3x1024.Idx) : EReal :=
  spec m c ⟨(i 1).val * 4 + (1 + (i 2).val), by have := (i 1).isLt; have := (i 2).isLt; dsimp at *; omega⟩ ⟨2048 + (i 3).val, by have := (i 3).isLt; dsimp at *; omega⟩

/-- The rows that the host cuts out of the projection array after the call. -/
theorem tail8 : Pipeline.afterTail₀ cfgs (dats m) 0 (V0 m) [hostOps1] c main_v8 = C m c := by
  unfold Pipeline.afterTail₀
  simp only [List.flatten_cons, List.flatten_nil, List.append_nil]
  unfold hostOps1
  after_results
  have e := (Pipeline.withArrays_arr spec0 launch0.win.arr_inj c (V0 m c) (fun w => (dats m 0 c).arrAt w cfg0.N) 3).trans (final3 m c)
  refine (congrArg (fun z : (⟨S512x3200, .f32⟩ : BufTy).Contents (Elt Ideal) => broadcastInDim S1x128x3x1024 ![1, 2, 3] bcast_S128x3x1024_S1x128x3x1024_1_2_3
    (extractStridedSlice S128x3x1024 ![0, 1, 0] (shapeCast S128x4x1024 (extractStridedSlice S512x1024 ![0, 2048] z slices_S512x3200_S512x1024_0_2048)
      shapeCasts_S512x1024_S128x4x1024) slices_S128x4x1024_S128x3x1024_0_1_0)) e).trans ?_
  funext i
  have hi : i = ix4 0 (i 1) (i 2) (i 3) := funext fun a => by match a with | ⟨0, _⟩ => exact Fin.ext (by have := (i 0).isLt; dsimp at *; omega) | ⟨1, _⟩ => rfl | ⟨2, _⟩ => rfl | ⟨3, _⟩ => rfl
  rw [hi]
  generalize i 1 = b
  generalize i 2 = s
  generalize i 3 = j
  clear hi
  unfold C
  have eG : ∀ (r : Fin 512) (j : Fin 3200), G m c (ix2 r j) = spec m c r j := fun _ _ => rfl
  generalize G m c = g at eG ⊢
  pointwise
  rw [eG]

end Cert.ProjPIdeal.Blocks
end
-- ==== Proof.Proj.Equal.lean ====
module

public import proofs.«01_k».proof.Defs
public import proofs.«01_k».proof.Proof.Proj.Blocks
public import proofs.«01_k».proof.Proof.Gen.ProjRIdeal.Run
public import proofs.«01_k».proof.Proof.Gen.ProjRIdeal.Read
public import Idealize.ShloMosaic.Lib.Pointwise
import Idealize.ShloMosaic.Lib.Pointwise.Tactic

@[expose] public section

set_option maxRecDepth 16384
noncomputable section

/-! The sample rows' projection call and its reference end with the same arrays. -/

namespace Cert.ProjEqual
open Idealize.ShloMosaic Idealize.SL.Sem Cert.AttnMath Cert.ProjPIdeal.Blocks
open Cert.ProjRIdeal Cert.ProjRIdeal.Gen Cert.ProjRIdeal.Read

variable (x0 : (⟨S128x4x1024, .f32⟩ : BufTy).Contents (Elt Ideal)) (x1 : (⟨S1x128x3x1024, .f32⟩ : BufTy).Contents (Elt Ideal))
  (x2 : (⟨S1x1024, .f32⟩ : BufTy).Contents (Elt Ideal)) (x3 : (⟨S1024x3200, .f32⟩ : BufTy).Contents (Elt Ideal))

/-- The reference's normed rows. -/
theorem v13_apply (b : Fin 128) (s : Fin 4) (j : Fin 1024) : val_main_v13 (F := Ideal) x0 x2 (ix3 b s j)
    = rmsRow (fun c => x0 (ix3 b s c)) (fun c => x2 (ix2 0 c)) j := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1 rmsRow
  pointwise

/-- The reference's projection. -/
theorem v14_apply (b : Fin 128) (s : Fin 4) (j : Fin 3200) : val_main_v14 (F := Ideal) x0 x2 x3 (ix3 b s j)
    = ∑ k, rmsRow (fun c => x0 (ix3 b s c)) (fun c => x2 (ix2 0 c)) k * x3 (ix2 k j) := by
  unfold val_main_v14
  have e := v13_apply x0 x2
  generalize val_main_v13 (F := Ideal) x0 x2 = y at e ⊢
  pointwise
  simp only [e]

/-- The reference's projection as 512 rows. -/
theorem v19_apply (r : Fin 512) (j : Fin 3200) : val_main_v19 (F := Ideal) x0 x2 x3 (ix2 r j)
    = ∑ k, rmsRow (fun c => x0 (ix3 ⟨r.val / 4, by omega⟩ ⟨r.val % 4, by omega⟩ c)) (fun c => x2 (ix2 0 c)) k * x3 (ix2 k j) := by
  unfold val_main_v19
  have e := v14_apply x0 x2 x3
  generalize val_main_v14 (F := Ideal) x0 x2 x3 = y at e ⊢
  pointwise
  simp only [e]

/-- The reference's new conv rows. -/
theorem v20_apply (b : Fin 128) (s : Fin 3) (j : Fin 1024) : val_main_v20 (F := Ideal) x0 x1 x2 x3 (ix4 0 b s j)
    = val_main_v14 (F := Ideal) x0 x2 x3 (ix3 b ⟨1 + s.val, by omega⟩ ⟨2048 + j.val, by omega⟩) := by
  unfold val_main_v20 val_main_v18 val_main_v17 val_main_v16 val_main_v15
  generalize val_main_v14 (F := Ideal) x0 x2 x3 = y
  pointwise
  rw [dif_neg (by omega)]
  exact congrArg (fun k => y (ix3 b k ⟨2048 + j.val, by omega⟩)) (Fin.ext (show 4 + s.val - 3 = 1 + s.val by omega))

/-- The reference's projection is the kernel's array. -/
theorem value (m : (ℓ : Loc Cert.ProjPIdeal.nD Cert.ProjPIdeal.τ Cert.ProjPIdeal.sig) → Buf (Elt Ideal) ℓ) (c : Dev Cert.ProjPIdeal.nD) :
    val_main_v19 (F := Ideal) (A0 m c) (A2 m c) (A3 m c) = G m c := by
  funext i
  have hi : i = ix2 (i 0) (i 1) := funext fun a => by match a with | ⟨0, _⟩ => rfl | ⟨1, _⟩ => rfl
  rw [hi]
  exact v19_apply _ _ _ _ _

/-- The reference's new conv rows are the rows that the host cuts out of the kernel's array. -/
theorem value_conv (m : (ℓ : Loc Cert.ProjPIdeal.nD Cert.ProjPIdeal.τ Cert.ProjPIdeal.sig) → Buf (Elt Ideal) ℓ) (c : Dev Cert.ProjPIdeal.nD) :
    val_main_v20 (F := Ideal) (A0 m c) (A1 m c) (A2 m c) (A3 m c) = C m c := by
  funext i
  have hi : i = ix4 0 (i 1) (i 2) (i 3) := funext fun a => by match a with | ⟨0, _⟩ => exact Fin.ext (by have := (i 0).isLt; dsimp at *; omega) | ⟨1, _⟩ => rfl | ⟨2, _⟩ => rfl | ⟨3, _⟩ => rfl
  rw [hi]
  generalize i 1 = b
  generalize i 2 = s
  generalize i 3 = j
  refine (v20_apply _ _ _ _ b s j).trans ((v14_apply _ _ _ _ _ _).trans ?_)
  unfold C spec
  refine Finset.sum_congr rfl fun k _ => ?_
  congr 1
  congr 1
  funext k
  congr 1
  have hb := b.isLt
  have hs := s.isLt
  dsimp at hb hs
  funext a
  match a with
  | ⟨0, _⟩ => exact Fin.ext (by simp only [ix4, ix3]; dsimp; omega)
  | ⟨1, _⟩ => exact Fin.ext (by simp only [ix4, ix3]; dsimp; omega)
  | ⟨2, _⟩ => rfl

/-- Equal arguments give equal projections. -/
theorem congr3 {a a' : S128x4x1024.Idx → EReal} {b b' : S1x1024.Idx → EReal} {w w' : S1024x3200.Idx → EReal}
    (e0 : a = a') (e1 : b = b') (e2 : w = w') : val_main_v19 (F := Ideal) a b w = val_main_v19 (F := Ideal) a' b' w' := by
  subst e0 e1 e2
  rfl

/-- Equal arguments give equal conv rows. -/
theorem congr4 {a a' : S128x4x1024.Idx → EReal} {s s' : S1x128x3x1024.Idx → EReal} {b b' : S1x1024.Idx → EReal} {w w' : S1024x3200.Idx → EReal}
    (e0 : a = a') (e1 : s = s') (e2 : b = b') (e3 : w = w') : val_main_v20 (F := Ideal) a s b w = val_main_v20 (F := Ideal) a' s' b' w' := by
  subst e0 e1 e2 e3
  rfl

/-- The kernel's and the reference's results are equal, on every device, from memories that agree on the arguments. -/
theorem algebraic : Cert.algebraic_ProjPIdeal_ProjRIdeal := by
  intro m ρ m' ρ' _ hagree
  refine ⟨fun c => G m c, fun c => C m c, ?_, ?_⟩
  · exact (θ_run Cert.ProjPIdeal.defs _ _).mono (fun _ h c => ⟨((h.1 c).1 3).trans (final3 m c),
        ((h.1 c).2 Cert.ProjPIdeal.main_v8 (Pipeline.mem_restRefs_of Cert.ProjPIdeal.main_v8 (by decide) (by decide))).trans (tail8 m c), h.2 c⟩)
      (θ_run_and (Cert.ProjPIdeal.Gen.run_main m ρ) (Cert.ProjPIdeal.Gen.unchanged m ρ))
  · refine (θ_run Cert.ProjRIdeal.defs _ _).mono (fun _ h c => ⟨?_, ?_, (h c).2.2⟩) (Cert.ProjRIdeal.Value.run m' ρ')
    · obtain ⟨e0, e1, e2, e3⟩ := hagree c
      exact ((h c).1.trans (val_main_v19_eq _ _ _)).trans ((congr3 e0 e2 e3).trans (value m c))
    · obtain ⟨e0, e1, e2, e3⟩ := hagree c
      exact ((h c).2.1.trans (val_main_v20_eq _ _ _ _)).trans ((congr4 e0 e1 e2 e3).trans (value_conv m c))

end Cert.ProjEqual
end
-- ==== Proof.Sam.In.lean ====
module

public import proofs.«01_k».proof.Proof.Attn.Math
public import proofs.«01_k».proof.Proof.Gen.MixSPIdeal.Frame.Runs
public import Idealize.ShloMosaic.Lib.Pipeline.ValueKit
public import Idealize.ShloMosaic.Lib.Routing.OpsOne
import Idealize.ShloMosaic.Lib.Pointwise.Tactic
import Idealize.ShloMosaic.Lib.Claim

@[expose] public section

set_option maxRecDepth 16384
noncomputable section

/-! The blocks that the sample mixer's body reads, as functions of the arguments. -/

namespace Cert.MixSPIdeal.Sam
open Cert.MixSPIdeal Cert.MixSPIdeal.Gen Idealize.ShloMosaic Idealize.ShloMosaic.TcCoe Idealize.SL.Sem Cert.AttnMath

/-- The windows' block indices at grid point `t`. -/
theorem idx : ∀ t : Fin cfg0.N, win0_0.index t = ![t.val, 0] ∧ win0_2.index t = ![t.val, 0, 0, 0] ∧ win0_4.index t = ![0, 0] ∧ win0_5.index t = ![0, 0] ∧ win0_14.index t = ![t.val, 0, 0, 0] :=
  (by decide +kernel : ∀ t : Fin grid0.N, win0_0.index t = ![t.val, 0] ∧ win0_2.index t = ![t.val, 0, 0, 0] ∧ win0_4.index t = ![0, 0] ∧ win0_5.index t = ![0, 0] ∧ win0_14.index t = ![t.val, 0, 0, 0])

/-- The grid has eight points. -/
theorem tlt (t : Fin cfg0.N) : t.val < 8 := t.isLt

variable (m : (ℓ : Loc nD τ sig) → Buf (Elt Ideal) ℓ) (c : Dev nD) (t : Fin cfg0.N)

/-- Argument 0 as launched. -/
abbrev A0 : S512x3200.Idx → EReal := m ((c : Thread nD τ).loc main_arg0)
/-- Argument 2 as launched. -/
abbrev A2 : S1x128x4x64x128.Idx → EReal := m ((c : Thread nD τ).loc main_arg2)
/-- Argument 4 as launched. -/
abbrev A4 : S1x16x256.Idx → EReal := m ((c : Thread nD τ).loc main_arg4)
/-- Argument 5 as launched. -/
abbrev A5 : S1x256.Idx → EReal := m ((c : Thread nD τ).loc main_arg5)

/-- The states with the leading axis dropped. -/
theorem v35 : V m c main_v35 = shapeCast S128x4x64x128 (A2 m c) shapeCasts_S1x128x4x64x128_S128x4x64x128 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_results
  rfl

/-- The gate's second weights, as 128 rows. -/
theorem v12 : V m c main_v12 = (truncf (F := Ideal) .bf16 · bitsLt_bf16_f32) (Host.scatter scatter_S128x256_S1_S16x256_01_n_0_0 (fun _ b => b) (broadcastInDim S128x256 ![] bcast_S_S128x256 (constant (F := Ideal) S_ .f32 0x00000000#32))
    (broadcastInDim S1 ![] bcast_S_S1 (constantI S_ 32 0#32)) (shapeCast S16x256 (A4 m c) shapeCasts_S1x16x256_S16x256)) := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_results
  rfl

/-- The gate's bias, as launched. -/
theorem v13 : V m c main_v13 = shapeCast S1x256 (shapeCast S256 (A5 m c) shapeCasts_S1x256_S256) shapeCasts_S256_S1x256 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_results
  rfl

/-- Window 0's block: the projected rows of sixteen sequences. -/
theorem b0 (r : Fin 64) (j : Fin 3200) : iblk m c 0 t (ix2 r j) = A0 m c (ix2 ⟨64 * t.val + r.val, by have := tlt t; omega⟩ j) := by
  blk_simp [iblk]
  entry_read
  pointwise
  blk_ext [idx t]

/-- Window 2's block: the states of sixteen sequences. -/
theorem b2 (s : Fin 16) (h : Fin 4) (d : Fin 64) (v : Fin 128) : iblk m c 2 t (ix4 s h d v)
    = A2 m c (ix5 0 ⟨16 * t.val + s.val, by have := tlt t; omega⟩ h d v) := by
  blk_simp [iblk]
  rw [v35 m c]
  have e : ((win0_2.blk t).view.emb (ix4 s h d v) : S128x4x64x128.Idx) = ix4 ⟨16 * t.val + s.val, by have := tlt t; omega⟩ h d v := by blk_ext [idx t]
  refine (congrArg (shapeCast S128x4x64x128 (A2 m c) shapeCasts_S1x128x4x64x128_S128x4x64x128) e).trans ?_
  pointwise

/-- Where an update of the gate's second weights lands among the 128 rows: at its own row and column. -/
theorem lands (idx : IVec S1 32) (hi : ∀ q, idx q = 0#32) (k : S16x256.Idx) (r : Fin 128) (j : Fin 256) :
    scatter_S128x256_S1_S16x256_01_n_0_0.resultIdx? k idx = some (ix2 r j) ↔ (k 0).val = r.val ∧ (k 1).val = j.val := by
  have hk : scatter_S128x256_S1_S16x256_01_n_0_0.sKept = [0, 1] := by decide
  have w0 : scatter_S128x256_S1_S16x256_01_n_0_0.window k 0 = (k 0).val := by
    unfold ScatterDims.window
    rw [dif_pos (by rw [hk]; simp)]
    rfl
  have w1 : scatter_S128x256_S1_S16x256_01_n_0_0.window k 1 = (k 1).val := by
    unfold ScatterDims.window
    rw [dif_pos (by rw [hk]; simp)]
    rfl
  have s0 : scatter_S128x256_S1_S16x256_01_n_0_0.start k idx 0 = 0 := by
    unfold ScatterDims.start
    rw [dif_pos (by decide), hi]
    rfl
  have s1 : scatter_S128x256_S1_S16x256_01_n_0_0.start k idx 1 = 0 := by
    unfold ScatterDims.start
    rw [dif_neg (by decide)]
  refine (Routing.resultIdx?_ix2 (R := 128) (C := 256) scatter_S128x256_S1_S16x256_01_n_0_0 k idx r j).trans ?_
  rw [s0, s1, w0, w1]
  omega

/-- The 128 rows that hold the gate's second weights in their first sixteen. -/
theorem rows16 (x0 : S128x256.Idx → EReal) (idx : IVec S1 32) (hi : ∀ q, idx q = 0#32) (u : S16x256.Idx → EReal) (r : Fin 128) (j : Fin 256) :
    Host.scatter scatter_S128x256_S1_S16x256_01_n_0_0 (fun _ b => b) x0 idx u (ix2 r j) = if h : r.val < 16 then u (ix2 ⟨r.val, h⟩ j) else x0 (ix2 r j) := by
  by_cases h : r.val < 16
  · rw [dif_pos h]
    refine Routing.scatter_set_hit _ x0 idx u _ _ (fun k hk => ?_) (ix2 ⟨r.val, h⟩ j) ((lands idx hi _ r j).mpr ⟨rfl, rfl⟩)
    have e := (lands idx hi k r j).mp hk
    refine congrArg u (funext fun a => ?_)
    match a with
    | ⟨0, _⟩ => exact Fin.ext e.1
    | ⟨1, _⟩ => exact Fin.ext e.2
  · rw [dif_neg h]
    exact Routing.scatter_set_miss _ x0 idx u _ fun k hk => h (by have := ((lands idx hi k r j).mp hk).1; have := (k 0).isLt; dsimp at this; omega)

/-- Window 4's block: the gate's second weights, with rows of zeros after the sixteenth. -/
theorem b4 (k : Fin 128) (j : Fin 256) : iblk m c 4 t (ix2 k j) = if h : k.val < 16 then A4 m c (ix3 0 ⟨k.val, h⟩ j) else 0 := by
  blk_simp [iblk]
  rw [v12 m c]
  have e : ((win0_4.blk t).view.emb (ix2 k j) : S128x256.Idx) = ix2 k j := by blk_ext [idx t]
  generalize hX : Host.scatter scatter_S128x256_S1_S16x256_01_n_0_0 (fun _ b => b) _ _ _ = X
  refine (congrArg (X : S128x256.Idx → EReal) e).trans ?_
  rw [← hX]
  refine (rows16 _ _ (fun _ => rfl) _ k j).trans ?_
  by_cases h : k.val < 16
  · rw [dif_pos h, dif_pos h]
    pointwise
  · rw [dif_neg h, dif_neg h]
    pointwise

/-- Window 5's block: the gate's bias. -/
theorem b5 (j : Fin 256) : iblk m c 5 t (ix2 0 j) = A5 m c (ix2 0 j) := by
  blk_simp [iblk]
  rw [v13 m c]
  have e : ((win0_5.blk t).view.emb (ix2 0 j) : S1x256.Idx) = ix2 0 j := by blk_ext [idx t]
  refine (congrArg (shapeCast S1x256 (shapeCast S256 (A5 m c) shapeCasts_S1x256_S256) shapeCasts_S256_S1x256) e).trans ?_
  pointwise

/-- Where an element of window 14's block lies in the array. -/
theorem emb14 (y : S16x4x64x128.Idx) : ((cfg0.win 14).blk t).view.emb y
    = ix4 ⟨16 * t.val + (y 0).val, by have := tlt t; have := (y 0).isLt; dsimp at this; omega⟩ (y 1) (y 2) (y 3) := by
  blk_ext [idx t]

end Cert.MixSPIdeal.Sam
end
-- ==== Proof.Sam.Math.lean ====
module

public import Idealize.ShloMosaic.Lib.Pipeline.Value
public import proofs.«01_k».proof.Proof.Attn.Math
import Idealize.ShloMosaic.Lib.Pointwise.Tactic

@[expose] public section

noncomputable section

/-! Sums over a block of sixteen sequences of four rows, and the gates' functions, at exact values. -/

namespace Cert.SamMath
open Idealize.ShloMosaic

/-- Row `t` of sequence `s` in a block of 64 rows. -/
def row (s : Fin 16) (t : Fin 4) : Fin 64 := ⟨4 * s.val + t.val, by omega⟩

/-- A sum over the block's rows in which only sequence `s` counts is a sum over its four rows. -/
theorem seg_sum (s : Fin 16) (f : Fin 64 → EReal) : (∑ u : Fin 64, if u.val / 4 = s.val then f u else 0) = ∑ t : Fin 4, f (row s t) := by
  rw [← Finset.sum_filter]
  refine (Finset.sum_nbij (row s) ?_ ?_ ?_ ?_).symm
  · intro t _
    simp only [Finset.mem_filter, Finset.mem_univ, true_and, row]
    omega
  · intro a _ b _ h
    have := congrArg Fin.val h
    simp only [row] at this
    exact Fin.ext (by omega)
  · intro u hu
    have hu : u.val / 4 = s.val := by simpa using hu
    exact ⟨⟨u.val % 4, by omega⟩, Finset.mem_coe.mpr (Finset.mem_univ _), Fin.ext (by simp only [row]; omega)⟩
  · intro _ _; rfl

/-- A value below `⊤` added to its difference with itself, and to that difference's, is the value. -/
theorem parts (x : EReal) (hx : x ≠ ⊤) : x + (x - x) + ((x - x) - (x - x)) = x := by
  induction x using EReal.rec with
  | bot => rfl
  | top => exact absurd rfl hx
  | coe r => norm_cast; norm_num

/-- Three products of a selection, with the values, their remainders and the remainders', add up to one. -/
theorem three {ι : Type} [Fintype ι] (p : ι → Prop) [DecidablePred p] (f : ι → EReal) (hf : ∀ u, f u ≠ ⊤) :
    (∑ u, (if p u then 1 else 0) * f u) + (∑ u, (if p u then 1 else 0) * (f u - f u)) + (∑ u, (if p u then 1 else 0) * ((f u - f u) - (f u - f u)))
      = ∑ u, if p u then f u else 0 := by
  rw [← Finset.sum_add_distrib, ← Finset.sum_add_distrib]
  refine Finset.sum_congr rfl fun u _ => ?_
  by_cases h : p u
  · simp only [h, if_true, one_mul]
    exact parts _ (hf u)
  · simp only [h, if_false, zero_mul, add_zero]

/-- The logarithm of the logistic function, as the kernel takes it. -/
def lsig (x : EReal) : EReal := min x 0 - Ideal.log (1 + Ideal.exp (0 - max x (-x)))

/-- The softplus function, as the reference takes it. -/
def splus (x : EReal) : EReal := max x 0 + Ideal.log (1 + Ideal.exp (-(max x (-x))))

/-- The exponential is not negative. -/
theorem exp_nonneg (x : EReal) : 0 ≤ Ideal.exp x := by
  induction x using EReal.rec with
  | bot => exact le_refl _
  | top => exact le_top
  | coe r => exact EReal.coe_nonneg.mpr (Real.exp_pos r).le

/-- The logarithm of one more than a nonnegative value is not negative. -/
theorem log1_nonneg (x : EReal) (h : 0 ≤ x) : 0 ≤ Ideal.log (1 + x) := by
  induction x using EReal.rec with
  | bot => exact absurd h (by decide)
  | top => exact le_top
  | coe r =>
    have hr : 0 ≤ r := EReal.coe_nonneg.mp h
    have e : Ideal.log (1 + (r : EReal)) = if 1 + r ≤ 0 then ⊥ else (Real.log (1 + r) : EReal) := rfl
    rw [e, if_neg (by linarith)]
    exact EReal.coe_nonneg.mpr (Real.log_nonneg (by linarith))

/-- The smaller of a value and zero is the greater of its negation and zero, negated. -/
theorem min_zero (x : EReal) : min x 0 = -max (-x) 0 := by
  rcases le_total x 0 with h | h
  · rw [min_eq_left h, max_eq_left (EReal.neg_nonneg.mpr h), neg_neg]
  · rw [min_eq_right h, max_eq_right ((by simpa using EReal.neg_le_neg_iff.mpr h)), neg_zero]

/-- The logarithm of the logistic function is the softplus of the negation, negated. -/
theorem lsig_eq (x : EReal) : lsig x = -splus (-x) := by
  have hL := log1_nonneg _ (exp_nonneg (-(max x (-x))))
  have hM : (0 : EReal) ≤ max (-x) 0 := le_max_right _ _
  unfold lsig splus
  rw [neg_neg, max_comm (-x) x, zero_sub, min_zero,
    EReal.neg_add (Or.inl (fun h => by rw [h] at hM; exact absurd hM (by decide))) (Or.inr (fun h => by rw [h] at hL; exact absurd hL (by decide)))]

/-- The softplus is not negative. -/
theorem splus_nonneg (x : EReal) : 0 ≤ splus x :=
  add_nonneg (le_max_right _ _) (log1_nonneg _ (exp_nonneg _))

/-- The logarithm of the logistic function is not positive. -/
theorem lsig_nonpos (x : EReal) : lsig x ≤ 0 := by
  rw [lsig_eq]
  simpa using EReal.neg_le_neg_iff.mpr (splus_nonneg (-x))

/-- A sixteenth, as the kernel multiplies by it. -/
theorem sixteenth : Ideal.ofBits FTy.f32 0x3D800000#32 = ((16⁻¹ : ℝ) : EReal) := by
  simp [Ideal.ofBits, Ideal.ieee, -EReal.coe_mul]
  norm_num

/-- Sixteen, as the reference divides by it. -/
theorem sixteen : Ideal.ofBits FTy.f32 0x41800000#32 = ((16 : ℝ) : EReal) := by
  simp [Ideal.ofBits, Ideal.ieee, -EReal.coe_mul]
  norm_num

/-- The gate's logarithm, as the kernel takes it. -/
def lf (x : EReal) : EReal := lsig x * Ideal.ofBits FTy.f32 0x3D800000#32

/-- The gate's logarithm is not `⊤`. -/
theorem lf_ne_top (x : EReal) : lf x ≠ ⊤ := by
  have h : lf x ≤ 0 := by
    unfold lf
    rw [sixteenth]
    exact mul_nonpos_of_nonpos_of_nonneg (lsig_nonpos x) (EReal.coe_nonneg.mpr (by norm_num))
  intro e
  rw [e] at h
  exact absurd h (by decide)

/-- The gate's logarithm, as the reference takes it. -/
theorem lf_eq (x : EReal) : Ideal.div (-splus (-x)) (Ideal.ofBits FTy.f32 0x41800000#32) = lf x := by
  unfold lf Ideal.div
  rw [← lsig_eq, sixteen, sixteenth, if_neg (by norm_cast), ← EReal.coe_inv]

/-- The softplus, as the kernel takes it. -/
def kplus (x : EReal) : EReal :=
  max x 0 + if 1 + Ideal.exp (0 - max x (-x)) = 1 then Ideal.exp (0 - max x (-x))
    else Ideal.log (1 + Ideal.exp (0 - max x (-x))) * Ideal.div (Ideal.exp (0 - max x (-x))) (1 + Ideal.exp (0 - max x (-x)) - 1)

/-- The kernel's softplus is the softplus. -/
theorem kplus_eq (x : EReal) : kplus x = splus x := by
  unfold kplus splus
  rw [zero_sub]
  congr 1
  have hx : (0 : EReal) ≤ max x (-x) := by
    rcases le_total x 0 with h | h
    · exact le_max_of_le_right (EReal.neg_nonneg.mpr h)
    · exact le_max_of_le_left h
  generalize max x (-x) = a at hx
  induction a using EReal.rec with
  | bot => exact absurd hx (by decide)
  | top =>
    have e : Ideal.exp (-⊤) = 0 := rfl
    have l : Ideal.log ((1 : ℝ) : EReal) = if (1 : ℝ) ≤ 0 then ⊥ else (Real.log 1 : EReal) := rfl
    rw [e, add_zero, if_pos rfl, show (1 : EReal) = ((1 : ℝ) : EReal) from rfl, l, if_neg (by norm_num), Real.log_one]
    rfl
  | coe r =>
    have e : Ideal.exp (-(r : EReal)) = (Real.exp (-r) : EReal) := rfl
    have hp := Real.exp_pos (-r)
    rw [e]
    generalize Real.exp (-r) = q at hp
    have h1 : ¬ (1 + (q : EReal) = 1) := by norm_cast; intro h; linarith
    have h2 : 1 + (q : EReal) - 1 = (q : EReal) := by norm_cast; ring
    rw [if_neg h1, h2]
    have h3 : Ideal.div (q : EReal) (q : EReal) = 1 := by
      unfold Ideal.div
      rw [if_neg (by norm_cast; exact hp.ne'), ← EReal.coe_inv, ← EReal.coe_mul, mul_inv_cancel₀ hp.ne']
      rfl
    rw [h3, mul_one]

end Cert.SamMath
end
-- ==== Proof.Sam.Gla.lean ====
module

public import proofs.«01_k».proof.Proof.Sam.Math
public import proofs.«01_k».proof.Proof.Gen.MixSPIdeal.Skeleton
public import Idealize.ShloMosaic.Lib.Pipeline.ValueKit
import Idealize.ShloMosaic.Lib.Pointwise.Tactic

@[expose] public section

set_option maxRecDepth 16384
noncomputable section

/-! The linear attention's state that the sample mixer's body stores for one sequence. -/

namespace Cert.MixSPIdeal.Sam
open Cert.MixSPIdeal Cert.MixSPIdeal.Gen Idealize.ShloMosaic Cert.SamMath

/-- Column `d` of head `h` among the key columns. -/
def kc (h : Fin 4) (d : Fin 64) : Fin 256 := ⟨64 * h.val + d.val, by omega⟩
/-- Column `v` of head `h` among the value columns. -/
def vc (h : Fin 4) (v : Fin 128) : Fin 512 := ⟨128 * h.val + v.val, by omega⟩

/-- The rows of one sequence are the rows between two bounds. -/
theorem rowsOf : ∀ (s : Fin 16) (u : Fin 64),
    IntOp.andi (IntOp.cmpi .sge (BitVec.ofNat 32 u.val) (BitVec.ofNat 32 (4 * s.val))) (IntOp.cmpi .slt (BitVec.ofNat 32 u.val) (BitVec.ofNat 32 (4 * s.val + 4)))
      = if u.val / 4 = s.val then 1#1 else 0#1 := by decide +kernel

/-- A mask of the rows between two bounds counts one sequence. -/
theorem mask_eq (s : Fin 16) (lo hi : BitVec 32) (hlo : lo = BitVec.ofNat 32 (4 * s.val)) (hhi : hi = BitVec.ofNat 32 (4 * s.val + 4)) (u : Fin 64) (j : Fin 256) :
    andi (cmpi .sge (iota .tc S64x256 32 [0] iota_S64x256_d0_w32) (broadcast S64x256 lo)) (cmpi .slt (iota .tc S64x256 32 [0] iota_S64x256_d0_w32) (broadcast S64x256 hi)) (ix2 u j)
      = if u.val / 4 = s.val then 1#1 else 0#1 := by
  rw [← rowsOf s u, hlo, hhi]
  pointwise

/-- The update a sequence's state gets, with the rows it counts as a mask. -/
def upd (dcol : FVec Ideal S256x1 .f32) (m : IVec S64x256 1) (vb : FVec Ideal S64x512 .bf16) (kdb : FVec Ideal S64x256 .bf16) (st : FVec Ideal S256x128 .f32) :
    FVec Ideal S1x4x64x128 .f32 :=
  have kd : FVec Ideal S64x256 .bf16 := select m kdb (broadcast S64x256 (Scalar.ofBits .bf16 0x0000#16))
  have p0 : FVec Ideal S128x256 .f32 := matmul dot_S64x128_S64x256_S128x256_0_0_1_1_n_n none (extractStridedSlice S64x128 ![0, 0] kd slices_S64x256_o0_0_S64x128)
    (extractStridedSlice S64x256 ![0, 0] vb slices_S64x512_o0_0_S64x256) (constant S128x256 .f32 0x00000000#32)
  have p1 : FVec Ideal S128x256 .f32 := matmul dot_S64x128_S64x256_S128x256_0_0_1_1_n_n none (extractStridedSlice S64x128 ![0, 128] kd slices_S64x256_o0_128_S64x128)
    (extractStridedSlice S64x256 ![0, 256] vb slices_S64x512_o0_256_S64x256) (constant S128x256 .f32 0x00000000#32)
  have d : FVec Ideal S256x128 .f32 := exp (broadcastTo S256x128 (shapeCast S256x1 dcol shapeCasts_S256x1_S256x1) broadcasts_S256x1_S256x128)
  have r : FVec Ideal S256x128 .f32 := addf (mulf d st) (concatenate S256x128 0
    [⟨S64x128, extractStridedSlice S64x128 ![0, 0] p0 slices_S128x256_o0_0_S64x128⟩, ⟨S64x128, extractStridedSlice S64x128 ![64, 128] p0 slices_S128x256_o64_128_S64x128⟩,
     ⟨S64x128, extractStridedSlice S64x128 ![0, 0] p1 slices_S128x256_o0_0_S64x128⟩, ⟨S64x128, extractStridedSlice S64x128 ![64, 128] p1 slices_S128x256_o64_128_S64x128⟩]
    concatenates_S64x128_S64x128_S64x128_S64x128_S256x128_d0)
  shapeCast S1x4x64x128 (shapeCast S4x64x128 r shapeCasts_S256x128_S4x64x128) shapeCasts_S4x64x128_S1x4x64x128

set_option maxHeartbeats 1000000 in
/-- The update at an entry: the decayed state plus the sum over the sequence's four rows. -/
theorem upd_apply (dcol : FVec Ideal S256x1 .f32) (m : IVec S64x256 1) (vb : FVec Ideal S64x512 .bf16) (kdb : FVec Ideal S64x256 .bf16) (st : FVec Ideal S256x128 .f32)
    (s : Fin 16) (hm : ∀ u j, m (ix2 u j) = if u.val / 4 = s.val then 1#1 else 0#1) (h : Fin 4) (d : Fin 64) (v : Fin 128) :
    upd dcol m vb kdb st (ix4 0 h d v) = Ideal.exp (dcol (ix2 (kc h d) 0)) * st (ix2 (kc h d) v)
      + ∑ t : Fin 4, kdb (ix2 (row s t) (kc h d)) * vb (ix2 (row s t) (vc h v)) := by
  unfold upd
  pointwise
  have key : ∀ (a : Fin 256) (b : Fin 512), a = kc h d → b = vc h v →
      (∑ x : Fin 64, Scalar.select (m (ix2 x a)) (kdb (ix2 x a) * vb (ix2 x b)) 0) = ∑ t : Fin 4, kdb (ix2 (row s t) (kc h d)) * vb (ix2 (row s t) (vc h v)) := by
    intro a b ha hb
    rw [← seg_sum s fun u => kdb (ix2 u (kc h d)) * vb (ix2 u (vc h v))]
    refine Finset.sum_congr rfl fun u _ => ?_
    rw [ha, hb, hm]
    by_cases e : u.val / 4 = s.val
    · rw [if_pos e, if_pos e]; rfl
    · rw [if_neg e, if_neg e]; rfl
  have ek : ∀ p, (⟨h.val * 64 + d.val, p⟩ : Fin 256) = kc h d := fun _ => Fin.ext (by simp only [kc]; omega)
  refine congr (congrArg HAdd.hAdd (congr (congrArg HMul.hMul (congrArg (fun a => Ideal.exp (dcol (ix2 a 0))) (ek _))) (congrArg (fun a => st (ix2 a v)) (ek _)))) ?_
  split_ifs with h1 h2 h3 <;> exact key _ _ (Fin.ext (by simp only [kc]; omega)) (Fin.ext (by simp only [vc]; omega))

end Cert.MixSPIdeal.Sam
end
-- ==== Proof.Sam.Gates.lean ====
module

public import proofs.«01_k».proof.Proof.Sam.Gla
import Idealize.ShloMosaic.Lib.Pointwise.Tactic

@[expose] public section

set_option maxRecDepth 16384
noncomputable section

/-! The sample mixer's gates and their running sums, entry by entry. -/

namespace Cert.MixSPIdeal.Sam
open Cert.MixSPIdeal Cert.MixSPIdeal.Gen Idealize.ShloMosaic Cert.SamMath

/-- Two rows are of one sequence when their quotients by four are equal. -/
theorem sameOf : ∀ r u : Fin 64, IntOp.cmpi .eq (IntOp.shrsi .vector (BitVec.ofNat 32 r.val) 2#32) (IntOp.shrsi .vector (BitVec.ofNat 32 u.val) 2#32)
    = if u.val / 4 = r.val / 4 then 1#1 else 0#1 := by decide +kernel

/-- Whether one row is of another's sequence and not after it. -/
theorem trilOf : ∀ r u : Fin 64, IntOp.andi (if u.val / 4 = r.val / 4 then 1#1 else 0#1) (IntOp.cmpi .sle (BitVec.ofNat 32 u.val) (BitVec.ofNat 32 r.val))
    = if u.val / 4 = r.val / 4 ∧ u.val ≤ r.val then 1#1 else 0#1 := by decide +kernel

/-- The mask of the rows of one sequence. -/
theorem pay33_apply (r u : Fin 64) : k0_pay33 (ix2 r u) = if u.val / 4 = r.val / 4 then 1#1 else 0#1 := by
  rw [← sameOf r u]
  unfold k0_pay33
  pointwise

/-- Three sums of a selection, of the values, their remainders and the remainders', are one sum of the values. -/
theorem sel3 (m : Fin 64 → BitVec 1) (p : Fin 64 → Prop) [DecidablePred p] (hm : ∀ u, m u = if p u then 1#1 else 0#1) (f : Fin 64 → EReal) (hf : ∀ u, f u ≠ ⊤) :
    (∑ u, Scalar.select (m u) (f u) 0) + (∑ u, Scalar.select (m u) (f u - f u) 0) + (∑ u, Scalar.select (m u) ((f u - f u) - (f u - f u)) 0)
      = ∑ u, if p u then f u else 0 := by
  have e : ∀ (u : Fin 64) (a : EReal), Scalar.select (m u) a 0 = (if p u then 1 else 0) * a := by
    intro u a
    rw [hm]
    by_cases h : p u
    · rw [if_pos h, if_pos h, one_mul]; rfl
    · rw [if_neg h, if_neg h, zero_mul]; rfl
  simp only [e]
  exact three p f hf

/-- A sum over the rows of one sequence. -/
theorem sum_same (s : Fin 16) (t : Fin 4) (f : Fin 64 → EReal) :
    (∑ u : Fin 64, if u.val / 4 = (row s t).val / 4 then f u else 0) = ∑ u : Fin 4, f (row s u) := by
  have e : (row s t).val / 4 = s.val := by simp only [row]; omega
  rw [e]
  exact seg_sum s f

/-- A sum over the rows of one sequence that are not after row `t`. -/
theorem sum_tril (s : Fin 16) (t : Fin 4) (f : Fin 64 → EReal) :
    (∑ u : Fin 64, if u.val / 4 = (row s t).val / 4 ∧ u.val ≤ (row s t).val then f u else 0) = ∑ u : Fin 4, if u ≤ t then f (row s u) else 0 := by
  have e : (row s t).val / 4 = s.val := by simp only [row]; omega
  rw [e]
  simp only [ite_and]
  rw [seg_sum s fun u => if u.val ≤ (row s t).val then f u else 0]
  refine Finset.sum_congr rfl fun u _ => ?_
  refine if_congr ?_ rfl rfl
  simp only [row, Fin.le_def]
  omega

/-- The gate's logarithm at an entry. -/
theorem lf_apply (v0 : Vec Ideal S64x128 .f32) (v2 : Vec Ideal S128x256 .bf16) (v5 : Vec Ideal S1x256 .f32) (r : Fin 64) (j : Fin 256) :
    k0_pay2 v0 v2 v5 (ix2 r j) = lf ((∑ k, v0 (ix2 r k) * v2 (ix2 k j)) + v5 (ix2 0 j)) := by
  unfold k0_pay2 lf lsig
  pointwise
  rfl

/-- The running sum of the gates' logarithms within a sequence. -/
theorem b_apply (w : FVec Ideal S64x256 .f32) (hw : ∀ r j, w (ix2 r j) ≠ ⊤) (s : Fin 16) (t : Fin 4) (j : Fin 256) :
    k0_pay35 w (ix2 (row s t) j) = ∑ u : Fin 4, if u ≤ t then w (ix2 (row s u) j) else 0 := by
  unfold k0_pay35
  pointwise
  rw [← sum_tril s t fun u => w (ix2 u j)]
  exact sel3 _ _ (fun u => by rw [pay33_apply, trilOf]) (fun u => w (ix2 u j)) (fun u => hw u j)

/-- The whole sum of the gates' logarithms of a sequence. -/
theorem bl_apply (w : FVec Ideal S64x256 .f32) (hw : ∀ r j, w (ix2 r j) ≠ ⊤) (s : Fin 16) (t : Fin 4) (j : Fin 256) :
    k0_pay40 k0_pay34 (k0_pay36 w) (k0_pay38 w) (k0_pay39 w) (ix2 (row s t) j) = ∑ u : Fin 4, w (ix2 (row s u) j) := by
  unfold k0_pay40 k0_pay34 k0_pay39 k0_pay38 k0_pay37 k0_pay36
  pointwise
  rw [← sum_same s t fun u => w (ix2 u j)]
  exact sel3 _ _ (fun u => pay33_apply _ u) (fun u => w (ix2 u j)) (fun u => hw u j)

/-- The whole sums, transposed. -/
theorem blt_apply (w : FVec Ideal S64x256 .f32) (r : Fin 64) (j : Fin 256) :
    k0_pay44 k0_pay34 (k0_pay36 w) (k0_pay38 w) (k0_pay39 w) (ix2 j ⟨r.val, by omega⟩) = k0_pay40 k0_pay34 (k0_pay36 w) (k0_pay38 w) (k0_pay39 w) (ix2 r j) := by
  unfold k0_pay44
  pointwise

/-- The decayed keys at an entry. -/
theorem kd_apply (k : Vec Ideal S64x256 .f32) (w : FVec Ideal S64x256 .f32) (hw : ∀ r j, w (ix2 r j) ≠ ⊤) (s : Fin 16) (t : Fin 4) (j : Fin 256) :
    k0_pay56 (k0_pay43 k k0_pay34 (k0_pay35 w) (k0_pay36 w) (k0_pay38 w) (k0_pay39 w)) (ix2 (row s t) j)
      = k (ix2 (row s t) j) * Ideal.exp ((∑ u : Fin 4, w (ix2 (row s u) j)) - ∑ u : Fin 4, if u ≤ t then w (ix2 (row s u) j) else 0) := by
  rw [← b_apply w hw s t j, ← bl_apply w hw s t j]
  unfold k0_pay56 k0_pay43
  pointwise

/-- The value columns, rounded. -/
theorem v_apply (v : Vec Ideal S64x512 .f32) (r : Fin 64) (j : Fin 512) : k0_pay55 v (ix2 r j) = v (ix2 r j) := by
  unfold k0_pay55
  pointwise

/-- A sequence's state as 256 rows. -/
theorem st_apply (v : Vec Ideal S1x4x64x128 .f32) (h : Fin 4) (d : Fin 64) (j : Fin 128) : k0_pay65 v (ix2 (kc h d) j) = v (ix4 0 h d j) := by
  have e1 : ∀ p, (⟨(kc h d).val / 64, p⟩ : Fin 4) = h := fun _ => Fin.ext (by simp only [kc]; omega)
  have e2 : ∀ p, (⟨(kc h d).val % 64, p⟩ : Fin 64) = d := fun _ => Fin.ext (by simp only [kc]; omega)
  unfold k0_pay65
  pointwise
  rw [e1, e2]

/-- What a sequence's state becomes, from the gates' logarithms, the keys, the values and the state's entry. -/
def newState (w k : Fin 64 → Fin 256 → EReal) (v : Fin 64 → Fin 512 → EReal) (st : EReal) (s : Fin 16) (h : Fin 4) (d : Fin 64) (j : Fin 128) : EReal :=
  Ideal.exp (∑ u : Fin 4, w (row s u) (kc h d)) * st
    + ∑ t : Fin 4, (k (row s t) (kc h d) * Ideal.exp ((∑ u : Fin 4, w (row s u) (kc h d)) - ∑ u : Fin 4, if u ≤ t then w (row s u) (kc h d) else 0)) * v (row s t) (vc h j)

/-- The update at an entry, from what the body loads. -/
theorem upd_new (w : FVec Ideal S64x256 .f32) (hw : ∀ r j, w (ix2 r j) ≠ ⊤) (k : Vec Ideal S64x256 .f32) (v : Vec Ideal S64x512 .f32) (st : FVec Ideal S256x128 .f32)
    (dcol : FVec Ideal S256x1 .f32) (m : IVec S64x256 1) (s : Fin 16) (hm : ∀ u j, m (ix2 u j) = if u.val / 4 = s.val then 1#1 else 0#1)
    (hd : ∀ j, dcol (ix2 j 0) = k0_pay44 k0_pay34 (k0_pay36 w) (k0_pay38 w) (k0_pay39 w) (ix2 j ⟨(row s 0).val, by omega⟩)) (h : Fin 4) (d : Fin 64) (j : Fin 128) :
    upd dcol m (k0_pay55 v) (k0_pay56 (k0_pay43 k k0_pay34 (k0_pay35 w) (k0_pay36 w) (k0_pay38 w) (k0_pay39 w))) st (ix4 0 h d j)
      = newState (fun r j => w (ix2 r j)) (fun r j => k (ix2 r j)) (fun r j => v (ix2 r j)) (st (ix2 (kc h d) j)) s h d j := by
  rw [upd_apply _ _ _ _ _ s hm, hd, blt_apply, bl_apply w hw]
  unfold newState
  simp only [kd_apply k w hw, v_apply]

end Cert.MixSPIdeal.Sam
end
-- ==== Proof.Sam.Spec.lean ====
module

public import proofs.«01_k».proof.Proof.Sam.Gates

@[expose] public section

set_option maxRecDepth 16384
noncomputable section

/-! The sample mixer's new state of the gated linear attention, as a function of the arguments. -/

namespace Cert.Sam
open Idealize.ShloMosaic Cert.SamMath Cert.MixSPIdeal.Sam

/-- The logarithm of the gate of row `u` of sequence `b` at key column `q`. -/
def rowGate (p : Fin 512 → Fin 3200 → EReal) (w : Fin 16 → Fin 256 → EReal) (bias : Fin 256 → EReal) (b : Fin 128) (u : Fin 4) (q : Fin 256) : EReal :=
  lf ((∑ k : Fin 16, p ⟨4 * b.val + u.val, by omega⟩ ⟨3072 + k.val, by omega⟩ * w k q) + bias q)

/-- The new state of sequence `b` at head `h`, key `d` and value `j`, from the old one at the same place. -/
def spec (p : Fin 512 → Fin 3200 → EReal) (st : EReal) (w : Fin 16 → Fin 256 → EReal) (bias : Fin 256 → EReal) (b : Fin 128) (h : Fin 4) (d : Fin 64) (j : Fin 128) : EReal :=
  Ideal.exp (∑ u : Fin 4, rowGate p w bias b u (kc h d)) * st
    + ∑ t : Fin 4, (p ⟨4 * b.val + t.val, by omega⟩ ⟨256 + (kc h d).val, by omega⟩
        * Ideal.exp ((∑ u : Fin 4, rowGate p w bias b u (kc h d)) - ∑ u : Fin 4, if u ≤ t then rowGate p w bias b u (kc h d) else 0))
      * p ⟨4 * b.val + t.val, by omega⟩ ⟨512 + (vc h j).val, by omega⟩

/-- A sum over 128 whose terms after the sixteenth are zero. -/
theorem sum16 (f : Fin 128 → EReal) (g : Fin 16 → EReal) (h : ∀ k : Fin 128, f k = if h : k.val < 16 then g ⟨k.val, h⟩ else 0) : ∑ k, f k = ∑ k, g k := by
  have e : (∑ k : Fin 128, f k) = ∑ k : Fin (16 + 112), f k := rfl
  rw [e, Fin.sum_univ_add]
  have z : (∑ k : Fin 112, f (Fin.natAdd 16 k)) = 0 := Finset.sum_eq_zero fun k _ => by
    rw [h, dif_neg (by simp)]
  rw [z, add_zero]
  refine Finset.sum_congr rfl fun k _ => ?_
  rw [h, dif_pos (by simp)]
  rfl

end Cert.Sam
end
-- ==== Proof.Sam.Tile14.lean ====
module

public import proofs.«01_k».proof.Proof.Sam.Gates
public import proofs.«01_k».proof.Proof.Gen.MixSPIdeal.Frame.RunA
public import Idealize.ShloMosaic.Lib.Pipeline.ReadBack
import Idealize.ShloMosaic.Lib.Pointwise.Tactic
import Idealize.ShloMosaic.Lib.Claim

@[expose] public section

set_option maxRecDepth 16384
noncomputable section

/-! What the sample mixer's body leaves as the linear attention's states of a block of sixteen sequences. -/

namespace Cert.MixSPIdeal.Sam
open Cert.MixSPIdeal Cert.MixSPIdeal.Gen Idealize.ShloMosaic Idealize.ShloMosaic.TcCoe Idealize.SL.Sem Cert.SamMath

/-- A sequence's state after the body, from the blocks. -/
def gla (x0 : Vec Ideal S64x3200 .f32) (x2 : Vec Ideal S16x4x64x128 .f32) (x4 : Vec Ideal S128x256 .bf16) (x5 : Vec Ideal S1x256 .f32) (s : Fin 16) (h : Fin 4) (d : Fin 64) (j : Fin 128) : EReal :=
  newState (fun r j => lf ((∑ k : Fin 128, x0 (ix2 r ⟨3072 + k.val, by omega⟩) * x4 (ix2 k j)) + x5 (ix2 0 j))) (fun r j => x0 (ix2 r ⟨256 + j.val, by omega⟩))
    (fun r j => x0 (ix2 r ⟨512 + j.val, by omega⟩)) (x2 (ix4 s h d j)) s h d j

/-- The stored update of sequence `s`, from the blocks. -/
theorem piece (x0 : Vec Ideal S64x3200 .f32) (x2 : Vec Ideal S16x4x64x128 .f32) (x4 : Vec Ideal S128x256 .bf16) (x5 : Vec Ideal S1x256 .f32) (st : FVec Ideal S256x128 .f32)
    (dcol : FVec Ideal S256x1 .f32) (lo hi : BitVec 32) (s : Fin 16) (hlo : lo = BitVec.ofNat 32 (4 * s.val)) (hhi : hi = BitVec.ofNat 32 (4 * s.val + 4))
    (hd : ∀ j, dcol (ix2 j 0) = k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (ix2 j ⟨(row s 0).val, by omega⟩))
    (h : Fin 4) (d : Fin 64) (j : Fin 128) (hst : st (ix2 (kc h d) j) = x2 (ix4 s h d j)) :
    upd dcol (andi (cmpi .sge (iota .tc S64x256 32 [0] iota_S64x256_d0_w32) (broadcast S64x256 lo)) (cmpi .slt (iota .tc S64x256 32 [0] iota_S64x256_d0_w32) (broadcast S64x256 hi)))
      (k0_pay55 (View.ld x0 (Rect.unit ![0, 512] ![64, 512] inb_S64x3200_S64x512_0_512))) (k0_pay56 (k0_pay43 (View.ld x0 (Rect.unit ![0, 256] ![64, 256] inb_S64x3200_S64x256_0_256)) k0_pay34 (k0_pay35 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))))) st (ix4 0 h d j)
      = gla x0 x2 x4 x5 s h d j := by
  have hl : ∀ r j, (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))) (ix2 r j) = lf ((∑ k : Fin 128, x0 (ix2 r ⟨3072 + k.val, by omega⟩) * x4 (ix2 k j)) + x5 (ix2 0 j)) := by
    intro r j
    rw [lf_apply]
    pointwise
  rw [upd_new _ (fun r j => by rw [lf_apply]; exact lf_ne_top _) _ _ _ _ _ s (mask_eq s lo hi hlo hhi) hd, hst]
  unfold gla
  congr 1
  · funext r j; exact hl r j
  · funext r j; pointwise
  · funext r j; pointwise

set_option maxHeartbeats 1600000 in
/-- What the body leaves in its second result's block. -/
theorem blk14 (c : Dev nD) (i : grid0.Coords) (arg1 : Memref sig .tc .vmem S64x3200 .f32) (harg1 : arg1.IsWhole) (arg2 : Memref sig .tc .vmem S64x1024 .f32) (harg2 : arg2.IsWhole) (arg3 : Memref sig .tc .vmem S16x4x64x128 .f32) (harg3 : arg3.IsWhole) (arg4 : Memref sig .tc .vmem S16x8x64x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S64x1024 .f32) (harg14 : arg14.IsWhole) (arg15 : Memref sig .tc .vmem S16x4x64x128 .f32) (harg15 : arg15.IsWhole) (arg16 : Memref sig .tc .vmem S16x8x64x128 .f32) (harg16 : arg16.IsWhole) (arg17 : Memref sig .tc .vmem S72x1024 .f32) (harg17 : arg17.IsWhole) (arg18 : Memref sig .tc .vmem S72x1024 .f32) (harg18 : arg18.IsWhole)
    (x0 : Vec Ideal S64x3200 .f32) (x1 : Vec Ideal S64x1024 .f32) (x2 : Vec Ideal S16x4x64x128 .f32) (x3 : Vec Ideal S16x8x64x128 .f32) (x4 : Vec Ideal S128x256 .bf16) (x5 : Vec Ideal S1x256 .f32) (x6 : Vec Ideal S1x128 .f32) (x7 : Vec Ideal S4x1024 .f32) (x8 : Vec Ideal S1x1024 .f32) (x9 : Vec Ideal S1x128 .f32) (x10 : Vec Ideal S1x128 .f32) (x11 : Vec Ideal S1x512 .f32) (x12 : Vec Ideal S1x512 .f32)
    (z : S16x4x64x128.Idx) : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).2.1 z = gla x0 x2 x4 x5 (z 0) (z 1) (z 2) (z 3) := by
  unfold kernelRun0_A
  dsimp only
  canon_tiles y h
  all_goals sl_unfold_words
  all_goals simp (disch := decide) only [↓ View.readCov_skip, ↓ View.readCov_cons_toLoadRect, View.readAt_eq_ld, Memref.IsWhole.read_unread]
  all_goals
    obtain ⟨p, d, v, rfl⟩ : ∃ (p : Fin 4) (d : Fin 64) (v : Fin 128), y = ix4 0 p d v :=
      ⟨y 1, y 2, y 3, by funext a; fin_cases a <;> first | rfl | exact Fin.ext (by have := (y 0).isLt; dsimp at this ⊢; omega)⟩
    have e1 : z 1 = p := Fin.ext (by dsimp at *; omega)
    have e2 : z 2 = d := Fin.ext (by dsimp at *; omega)
    have e3 : z 3 = v := Fin.ext (by dsimp at *; omega)
    rw [e1, e2, e3]
  · have e0 : z 0 = (15 : Fin 16) := Fin.ext (by dsimp at *; omega)
    rw [e0]
    refine (congrFun (?_ : _ = upd _ _ _ _ _) _).trans (piece x0 x2 x4 x5 (k0_pay65 (View.ld x2 (Rect.unit ![15, 0, 0, 0] ![1, 4, 64, 128] inb_S16x4x64x128_S1x4x64x128_15_0_0_0)))
      (extractStridedSlice S256x1 ![0, 60] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_60_S256x1) 60#32 64#32 15 rfl rfl
      (fun j => by pointwise) p d v (by rw [st_apply]; pointwise))
    rfl
  · have e0 : z 0 = (14 : Fin 16) := Fin.ext (by dsimp at *; omega)
    rw [e0]
    refine (congrFun (?_ : _ = upd _ _ _ _ _) _).trans (piece x0 x2 x4 x5 (k0_pay65 (View.ld x2 (Rect.unit ![14, 0, 0, 0] ![1, 4, 64, 128] inb_S16x4x64x128_S1x4x64x128_14_0_0_0)))
      (extractStridedSlice S256x1 ![0, 56] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_56_S256x1) 56#32 60#32 14 rfl rfl
      (fun j => by pointwise) p d v (by rw [st_apply]; pointwise))
    rfl
  · have e0 : z 0 = (13 : Fin 16) := Fin.ext (by dsimp at *; omega)
    rw [e0]
    refine (congrFun (?_ : _ = upd _ _ _ _ _) _).trans (piece x0 x2 x4 x5 (k0_pay65 (View.ld x2 (Rect.unit ![13, 0, 0, 0] ![1, 4, 64, 128] inb_S16x4x64x128_S1x4x64x128_13_0_0_0)))
      (extractStridedSlice S256x1 ![0, 52] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_52_S256x1) 52#32 56#32 13 rfl rfl
      (fun j => by pointwise) p d v (by rw [st_apply]; pointwise))
    rfl
  · have e0 : z 0 = (12 : Fin 16) := Fin.ext (by dsimp at *; omega)
    rw [e0]
    refine (congrFun (?_ : _ = upd _ _ _ _ _) _).trans (piece x0 x2 x4 x5 (k0_pay65 (View.ld x2 (Rect.unit ![12, 0, 0, 0] ![1, 4, 64, 128] inb_S16x4x64x128_S1x4x64x128_12_0_0_0)))
      (extractStridedSlice S256x1 ![0, 48] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_48_S256x1) 48#32 52#32 12 rfl rfl
      (fun j => by pointwise) p d v (by rw [st_apply]; pointwise))
    rfl
  · have e0 : z 0 = (11 : Fin 16) := Fin.ext (by dsimp at *; omega)
    rw [e0]
    refine (congrFun (?_ : _ = upd _ _ _ _ _) _).trans (piece x0 x2 x4 x5 (k0_pay65 (View.ld x2 (Rect.unit ![11, 0, 0, 0] ![1, 4, 64, 128] inb_S16x4x64x128_S1x4x64x128_11_0_0_0)))
      (extractStridedSlice S256x1 ![0, 44] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_44_S256x1) 44#32 48#32 11 rfl rfl
      (fun j => by pointwise) p d v (by rw [st_apply]; pointwise))
    rfl
  · have e0 : z 0 = (10 : Fin 16) := Fin.ext (by dsimp at *; omega)
    rw [e0]
    refine (congrFun (?_ : _ = upd _ _ _ _ _) _).trans (piece x0 x2 x4 x5 (k0_pay65 (View.ld x2 (Rect.unit ![10, 0, 0, 0] ![1, 4, 64, 128] inb_S16x4x64x128_S1x4x64x128_10_0_0_0)))
      (extractStridedSlice S256x1 ![0, 40] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_40_S256x1) 40#32 44#32 10 rfl rfl
      (fun j => by pointwise) p d v (by rw [st_apply]; pointwise))
    rfl
  · have e0 : z 0 = (9 : Fin 16) := Fin.ext (by dsimp at *; omega)
    rw [e0]
    refine (congrFun (?_ : _ = upd _ _ _ _ _) _).trans (piece x0 x2 x4 x5 (k0_pay65 (View.ld x2 (Rect.unit ![9, 0, 0, 0] ![1, 4, 64, 128] inb_S16x4x64x128_S1x4x64x128_9_0_0_0)))
      (extractStridedSlice S256x1 ![0, 36] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_36_S256x1) 36#32 40#32 9 rfl rfl
      (fun j => by pointwise) p d v (by rw [st_apply]; pointwise))
    rfl
  · have e0 : z 0 = (8 : Fin 16) := Fin.ext (by dsimp at *; omega)
    rw [e0]
    refine (congrFun (?_ : _ = upd _ _ _ _ _) _).trans (piece x0 x2 x4 x5 (k0_pay65 (View.ld x2 (Rect.unit ![8, 0, 0, 0] ![1, 4, 64, 128] inb_S16x4x64x128_S1x4x64x128_8_0_0_0)))
      (extractStridedSlice S256x1 ![0, 32] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_32_S256x1) 32#32 36#32 8 rfl rfl
      (fun j => by pointwise) p d v (by rw [st_apply]; pointwise))
    rfl
  · have e0 : z 0 = (7 : Fin 16) := Fin.ext (by dsimp at *; omega)
    rw [e0]
    refine (congrFun (?_ : _ = upd _ _ _ _ _) _).trans (piece x0 x2 x4 x5 (k0_pay65 (View.ld x2 (Rect.unit ![7, 0, 0, 0] ![1, 4, 64, 128] inb_S16x4x64x128_S1x4x64x128_7_0_0_0)))
      (extractStridedSlice S256x1 ![0, 28] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_28_S256x1) 28#32 32#32 7 rfl rfl
      (fun j => by pointwise) p d v (by rw [st_apply]; pointwise))
    rfl
  · have e0 : z 0 = (6 : Fin 16) := Fin.ext (by dsimp at *; omega)
    rw [e0]
    refine (congrFun (?_ : _ = upd _ _ _ _ _) _).trans (piece x0 x2 x4 x5 (k0_pay65 (View.ld x2 (Rect.unit ![6, 0, 0, 0] ![1, 4, 64, 128] inb_S16x4x64x128_S1x4x64x128_6_0_0_0)))
      (extractStridedSlice S256x1 ![0, 24] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_24_S256x1) 24#32 28#32 6 rfl rfl
      (fun j => by pointwise) p d v (by rw [st_apply]; pointwise))
    rfl
  · have e0 : z 0 = (5 : Fin 16) := Fin.ext (by dsimp at *; omega)
    rw [e0]
    refine (congrFun (?_ : _ = upd _ _ _ _ _) _).trans (piece x0 x2 x4 x5 (k0_pay65 (View.ld x2 (Rect.unit ![5, 0, 0, 0] ![1, 4, 64, 128] inb_S16x4x64x128_S1x4x64x128_5_0_0_0)))
      (extractStridedSlice S256x1 ![0, 20] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_20_S256x1) 20#32 24#32 5 rfl rfl
      (fun j => by pointwise) p d v (by rw [st_apply]; pointwise))
    rfl
  · have e0 : z 0 = (4 : Fin 16) := Fin.ext (by dsimp at *; omega)
    rw [e0]
    refine (congrFun (?_ : _ = upd _ _ _ _ _) _).trans (piece x0 x2 x4 x5 (k0_pay65 (View.ld x2 (Rect.unit ![4, 0, 0, 0] ![1, 4, 64, 128] inb_S16x4x64x128_S1x4x64x128_4_0_0_0)))
      (extractStridedSlice S256x1 ![0, 16] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_16_S256x1) 16#32 20#32 4 rfl rfl
      (fun j => by pointwise) p d v (by rw [st_apply]; pointwise))
    rfl
  · have e0 : z 0 = (3 : Fin 16) := Fin.ext (by dsimp at *; omega)
    rw [e0]
    refine (congrFun (?_ : _ = upd _ _ _ _ _) _).trans (piece x0 x2 x4 x5 (k0_pay65 (View.ld x2 (Rect.unit ![3, 0, 0, 0] ![1, 4, 64, 128] inb_S16x4x64x128_S1x4x64x128_3_0_0_0)))
      (extractStridedSlice S256x1 ![0, 12] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_12_S256x1) 12#32 16#32 3 rfl rfl
      (fun j => by pointwise) p d v (by rw [st_apply]; pointwise))
    rfl
  · have e0 : z 0 = (2 : Fin 16) := Fin.ext (by dsimp at *; omega)
    rw [e0]
    refine (congrFun (?_ : _ = upd _ _ _ _ _) _).trans (piece x0 x2 x4 x5 (k0_pay65 (View.ld x2 (Rect.unit ![2, 0, 0, 0] ![1, 4, 64, 128] inb_S16x4x64x128_S1x4x64x128_2_0_0_0)))
      (extractStridedSlice S256x1 ![0, 8] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_8_S256x1) 8#32 12#32 2 rfl rfl
      (fun j => by pointwise) p d v (by rw [st_apply]; pointwise))
    rfl
  · have e0 : z 0 = (1 : Fin 16) := Fin.ext (by dsimp at *; omega)
    rw [e0]
    refine (congrFun (?_ : _ = upd _ _ _ _ _) _).trans (piece x0 x2 x4 x5 (k0_pay65 (View.ld x2 (Rect.unit ![1, 0, 0, 0] ![1, 4, 64, 128] inb_S16x4x64x128_S1x4x64x128_1_0_0_0)))
      (extractStridedSlice S256x1 ![0, 4] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_4_S256x1) 4#32 8#32 1 rfl rfl
      (fun j => by pointwise) p d v (by rw [st_apply]; pointwise))
    rfl
  · have e0 : z 0 = (0 : Fin 16) := Fin.ext (by dsimp at *; omega)
    rw [e0]
    refine (congrFun (?_ : _ = upd _ _ _ _ _) _).trans (piece x0 x2 x4 x5 (k0_pay65 (View.ld x2 (Rect.unit ![0, 0, 0, 0] ![1, 4, 64, 128] inb_S16x4x64x128_S1x4x64x128_0_0_0_0)))
      (extractStridedSlice S256x1 ![0, 0] (k0_pay44 k0_pay34 (k0_pay36 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay38 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0)))) (k0_pay39 (k0_pay2 (View.ld x0 (Rect.unit ![0, 3072] ![64, 128] inb_S64x3200_S64x128_0_3072)) (View.ld x4 (Rect.unit ![0, 0] ![128, 256] inb_S128x256_S128x256_0_0)) (View.ld x5 (Rect.unit ![0, 0] ![1, 256] inb_S1x256_S1x256_0_0))))) slices_S256x128_o0_0_S256x1) 0#32 4#32 0 rfl rfl
      (fun j => by pointwise) p d v (by rw [st_apply]; pointwise))
    rfl

end Cert.MixSPIdeal.Sam
end
-- ==== Proof.Sam.Blocks.lean ====
module

public import proofs.«01_k».proof.Proof.Sam.In
public import proofs.«01_k».proof.Proof.Sam.Spec
public import proofs.«01_k».proof.Proof.Sam.Tile14
public import proofs.«01_k».proof.Proof.Gen.MixSPIdeal.Frame
import Idealize.ShloMosaic.Lib.Pointwise.Tactic
import Idealize.ShloMosaic.Lib.Claim

@[expose] public section

set_option maxRecDepth 16384
noncomputable section

/-! What the sample mixer's array of states holds after the run, as a function of the arguments. -/

namespace Cert.MixSPIdeal.Sam
open Cert.MixSPIdeal Cert.MixSPIdeal.Gen Cert.Sam Cert.SamMath Idealize.ShloMosaic Idealize.ShloMosaic.TcCoe Idealize.SL.Sem Cert.AttnMath

variable (m : (ℓ : Loc nD τ sig) → Buf (Elt Ideal) ℓ) (c : Dev nD) (t : Fin cfg0.N)

/-- The array of states. -/
def G (i : S128x4x64x128.Idx) : EReal :=
  spec (fun r j => A0 m c (ix2 r j)) (A2 m c (ix5 0 (i 0) (i 1) (i 2) (i 3))) (fun k q => A4 m c (ix3 0 k q)) (fun q => A5 m c (ix2 0 q)) (i 0) (i 1) (i 2) (i 3)

/-- A block's entry from the arguments, where the blocks read are the arguments' entries. -/
theorem gla_of (x0 : Vec Ideal S64x3200 .f32) (x2 : Vec Ideal S16x4x64x128 .f32) (x4 : Vec Ideal S128x256 .bf16) (x5 : Vec Ideal S1x256 .f32)
    (a0 : S512x3200.Idx → EReal) (a2 : EReal) (a4 : S1x16x256.Idx → EReal) (a5 : S1x256.Idx → EReal) (b : Fin 128) (s : Fin 16) (h : Fin 4) (d : Fin 64) (j : Fin 128)
    (e0 : ∀ u : Fin 4, ∀ q : Fin 3200, x0 (ix2 (row s u) q) = a0 (ix2 ⟨4 * b.val + u.val, by omega⟩ q)) (e2 : x2 (ix4 s h d j) = a2)
    (e4 : ∀ (k : Fin 128) (q : Fin 256), x4 (ix2 k q) = if h : k.val < 16 then a4 (ix3 0 ⟨k.val, h⟩ q) else 0) (e5 : ∀ q : Fin 256, x5 (ix2 0 q) = a5 (ix2 0 q)) :
    gla x0 x2 x4 x5 s h d j = spec (fun r j => a0 (ix2 r j)) a2 (fun k q => a4 (ix3 0 k q)) (fun q => a5 (ix2 0 q)) b h d j := by
  have eg : ∀ u : Fin 4, ∀ q : Fin 256, lf ((∑ k : Fin 128, x0 (ix2 (row s u) ⟨3072 + k.val, by omega⟩) * x4 (ix2 k q)) + x5 (ix2 0 q))
      = rowGate (fun r j => a0 (ix2 r j)) (fun k q => a4 (ix3 0 k q)) (fun q => a5 (ix2 0 q)) b u q := fun u q => by
    unfold rowGate
    refine congrArg lf (congr (congrArg HAdd.hAdd (sum16 _ _ fun k => ?_)) (e5 q))
    by_cases hk : k.val < 16
    · rw [dif_pos hk, e0, e4, dif_pos hk]
    · rw [dif_neg hk, e4, dif_neg hk, mul_zero]
  unfold gla newState spec
  simp only [eg, e2]
  simp only [e0]

/-- A block's entry from the arguments. -/
theorem gla_eq (s : Fin 16) (h : Fin 4) (d : Fin 64) (j : Fin 128) : gla (iblk m c 0 t) (iblk m c 2 t) (iblk m c 4 t) (iblk m c 5 t) s h d j
    = G m c (ix4 ⟨16 * t.val + s.val, by have := tlt t; omega⟩ h d j) :=
  gla_of (iblk m c 0 t) (iblk m c 2 t) (iblk m c 4 t) (iblk m c 5 t) (A0 m c) _ (A4 m c) (A5 m c) _ s h d j
    (fun u q => (b0 m c t (row s u) q).trans (congrArg (fun r => A0 m c (ix2 r q)) (Fin.ext (by
      show 64 * t.val + (4 * s.val + u.val) = 4 * (16 * t.val + s.val) + u.val
      omega)))) (b2 m c t s h d j) (b4 m c t) (b5 m c t)

/-- The block that a tile leaves. -/
theorem after14 (y : S16x4x64x128.Idx) : (outsAt0 m c t).2.1 y = G m c (ix4 ⟨16 * t.val + (y 0).val, by have := tlt t; have := (y 0).isLt; dsimp at this; omega⟩ (y 1) (y 2) (y 3)) := by
  refine Eq.trans ?_ (gla_eq m c t (y 0) (y 1) (y 2) (y 3))
  unfold outsAt0
  dsimp only
  unfold out0_A_14
  rw [View.read_writes_junk_eq_canon]
  exact blk14 ..

/-- The array of states after the run. -/
theorem final14 : (dats m 0 c).arrAt 14 cfg0.N = G m c := by
  refine (dats m 0 c).arrAt_eq_of_covers 14 _ (by decide +kernel) fun t hf y => ?_
  have hy := emb14 t y
  blk_simp
  rw [after0_14]
  exact (after14 m c t y).trans (congrArg (G m c) hy.symm)

end Cert.MixSPIdeal.Sam
end
-- ==== Proof.Sam.InS.lean ====
module

public import proofs.«01_k».proof.Proof.Sam.In
public import proofs.«01_k».proof.Proof.Sam.Math
import Idealize.ShloMosaic.Lib.Pointwise.Tactic
import Idealize.ShloMosaic.Lib.Claim

@[expose] public section

set_option maxRecDepth 16384
noncomputable section

/-! The blocks that the sample mixer's state space heads read, as functions of the arguments. -/

namespace Cert.MixSPIdeal.Sam
open Cert.MixSPIdeal Cert.MixSPIdeal.Gen Idealize.ShloMosaic Idealize.ShloMosaic.TcCoe Idealize.SL.Sem Cert.AttnMath Cert.SamMath

/-- The windows' block indices at grid point `t`. -/
theorem idxS : ∀ t : Fin cfg0.N, win0_1.index t = ![t.val, 0] ∧ win0_3.index t = ![t.val, 0, 0, 0] ∧ win0_7.index t = ![0, 0] ∧ win0_8.index t = ![0, 0] ∧ win0_9.index t = ![0, 0] ∧ win0_10.index t = ![0, 0] ∧ win0_15.index t = ![t.val, 0, 0, 0] :=
  (by decide +kernel : ∀ t : Fin grid0.N, win0_1.index t = ![t.val, 0] ∧ win0_3.index t = ![t.val, 0, 0, 0] ∧ win0_7.index t = ![0, 0] ∧ win0_8.index t = ![0, 0] ∧ win0_9.index t = ![0, 0] ∧ win0_10.index t = ![0, 0] ∧ win0_15.index t = ![t.val, 0, 0, 0])

variable (m : (ℓ : Loc nD τ sig) → Buf (Elt Ideal) ℓ) (c : Dev nD) (t : Fin cfg0.N)

/-- Argument 1 as launched. -/
abbrev A1 : S1x128x3x1024.Idx → EReal := m ((c : Thread nD τ).loc main_arg1)
/-- Argument 3 as launched. -/
abbrev A3 : S1x128x8x64x128.Idx → EReal := m ((c : Thread nD τ).loc main_arg3)
/-- Argument 7 as launched. -/
abbrev A7 : S1x4x1024.Idx → EReal := m ((c : Thread nD τ).loc main_arg7)
/-- Argument 8 as launched. -/
abbrev A8 : S1x1024.Idx → EReal := m ((c : Thread nD τ).loc main_arg8)
/-- Argument 9 as launched. -/
abbrev A9 : S1x8.Idx → EReal := m ((c : Thread nD τ).loc main_arg9)
/-- Argument 10 as launched. -/
abbrev A10 : S1x8.Idx → EReal := m ((c : Thread nD τ).loc main_arg10)

/-- The tails, each with a row of zeros before it. -/
theorem v34 : V m c main_v34 = shapeCast S512x1024 (pad S128x4x1024 ![0, 1, 0] ![0, 0, 0] ![0, 0, 0] (shapeCast S128x3x1024 (A1 m c) shapeCasts_S1x128x3x1024_S128x3x1024)
    (sitofp (F := Ideal) .f32 (constantI S_ 32 0#32)) pads_S128x3x1024_S128x4x1024_000_100_000 h_S_) shapeCasts_S128x4x1024_S512x1024 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_results
  rfl

/-- The states with the leading axis dropped. -/
theorem v36 : V m c main_v36 = shapeCast S128x8x64x128 (A3 m c) shapeCasts_S1x128x8x64x128_S128x8x64x128 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_results
  rfl

/-- The convolution's weights with the leading axis dropped. -/
theorem v3 : V m c main_v3 = shapeCast S4x1024 (A7 m c) shapeCasts_S1x4x1024_S4x1024 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_results
  rfl

/-- The convolution's bias. -/
theorem v15 : V m c main_v15 = shapeCast S1x1024 (shapeCast S1024 (A8 m c) shapeCasts_S1x1024_S1024) shapeCasts_S1024_S1x1024 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_results
  rfl

/-- Where the scattered lanes begin. -/
abbrev at16 : IVec S2 32 := concatenate S2 0 [⟨S1, broadcastInDim S1 ![] bcast_S_S1 (constantI S_ 32 0#32)⟩, ⟨S1, broadcastInDim S1 ![] bcast_S_S1 (constantI S_ 32 16#32)⟩] concatenates_S1_S1_S2_d0

/-- The steps' biases, in lanes of zeros. -/
theorem v20 : V m c main_v20 = Host.scatter scatter_S1x128_S2_S8_0_0_01_0 (fun _ b => b) (broadcastInDim S1x128 ![] bcast_S_S1x128 (constant (F := Ideal) S_ .f32 0x00000000#32)) at16
    (shapeCast S8 (A9 m c) shapeCasts_S1x8_S8) := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_results
  rfl

/-- The decay rates, in lanes of zeros. -/
theorem v27 : V m c main_v27 = Host.scatter scatter_S1x128_S2_S8_0_0_01_0 (fun _ b => b) (broadcastInDim S1x128 ![] bcast_S_S1x128 (constant (F := Ideal) S_ .f32 0x00000000#32)) at16
    (Host.negf (F := Ideal) (φ := .f32) (Host.exp (F := Ideal) (φ := .f32) (shapeCast S8 (A10 m c) shapeCasts_S1x8_S8))) := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  after_results
  rfl

/-- Window 1's block: the tails of sixteen sequences. -/
theorem b1 (s : Fin 16) (q : Fin 4) (q' : Fin 3) (hq : q.val = q'.val + 1) (j : Fin 1024) : iblk m c 1 t (ix2 (row s q) j) = A1 m c (ix4 0 ⟨16 * t.val + s.val, by have := tlt t; omega⟩ q' j) := by
  blk_simp [iblk]
  rw [v34 m c]
  have e : ((win0_1.blk t).view.emb (ix2 (row s q) j) : S512x1024.Idx) = ix2 ⟨4 * (16 * t.val + s.val) + q.val, by have := tlt t; omega⟩ j := by
    blk_ext [idxS t]
    simp only [row]
    omega
  generalize hX : pad S128x4x1024 _ _ _ _ _ _ _ = X
  refine (congrArg (shapeCast S512x1024 (X : S128x4x1024.Idx → EReal) shapeCasts_S128x4x1024_S512x1024) e).trans ?_
  have e' : shapeCast S512x1024 (X : S128x4x1024.Idx → EReal) shapeCasts_S128x4x1024_S512x1024 (ix2 ⟨4 * (16 * t.val + s.val) + q.val, by have := tlt t; omega⟩ j) = X (ix3 ⟨16 * t.val + s.val, by have := tlt t; omega⟩ q j) := by
    pointwise
    exact congrArg (fun b => X (ix3 b q j)) (Fin.ext (by dsimp; omega))
  rw [e', ← hX]
  unfold pad
  rw [dif_pos (fun a => by match a with | ⟨0, _⟩ => simp [ix3]; have := tlt t; omega | ⟨1, _⟩ => simp [ix3]; omega | ⟨2, _⟩ => simp [ix3]; omega)]
  refine Eq.trans (b := shapeCast S128x3x1024 (A1 m c) shapeCasts_S1x128x3x1024_S128x3x1024 (ix3 ⟨16 * t.val + s.val, by have := tlt t; omega⟩ q' j)) (congrArg _ (funext fun a => ?_)) (by pointwise)
  match a with
  | ⟨0, _⟩ => exact Fin.ext (by simp [ix3])
  | ⟨1, _⟩ => exact Fin.ext (by simp [ix3]; omega)
  | ⟨2, _⟩ => exact Fin.ext (by simp [ix3])

/-- Window 3's block: the states of sixteen sequences. -/
theorem b3 (s : Fin 16) (h : Fin 8) (d : Fin 64) (v : Fin 128) : iblk m c 3 t (ix4 s h d v)
    = A3 m c (ix5 0 ⟨16 * t.val + s.val, by have := tlt t; omega⟩ h d v) := by
  blk_simp [iblk]
  rw [v36 m c]
  have e : ((win0_3.blk t).view.emb (ix4 s h d v) : S128x8x64x128.Idx) = ix4 ⟨16 * t.val + s.val, by have := tlt t; omega⟩ h d v := by blk_ext [idxS t]
  refine (congrArg (shapeCast S128x8x64x128 (A3 m c) shapeCasts_S1x128x8x64x128_S128x8x64x128) e).trans ?_
  pointwise

/-- Window 7's block: the convolution's weights. -/
theorem b7 (k : Fin 4) (j : Fin 1024) : iblk m c 7 t (ix2 k j) = A7 m c (ix3 0 k j) := by
  blk_simp [iblk]
  rw [v3 m c]
  have e : ((win0_7.blk t).view.emb (ix2 k j) : S4x1024.Idx) = ix2 k j := by blk_ext [idxS t]
  refine (congrArg (shapeCast S4x1024 (A7 m c) shapeCasts_S1x4x1024_S4x1024) e).trans ?_
  pointwise

/-- Window 8's block: the convolution's bias. -/
theorem b8 (j : Fin 1024) : iblk m c 8 t (ix2 0 j) = A8 m c (ix2 0 j) := by
  blk_simp [iblk]
  rw [v15 m c]
  have e : ((win0_8.blk t).view.emb (ix2 0 j) : S1x1024.Idx) = ix2 0 j := by blk_ext [idxS t]
  refine (congrArg (shapeCast S1x1024 (shapeCast S1024 (A8 m c) shapeCasts_S1x1024_S1024) shapeCasts_S1024_S1x1024) e).trans ?_
  pointwise

/-- Where an update of eight lanes lands among the 128: from the sixteenth on. -/
theorem lands8 (k : S8.Idx) (j : Fin 128) :
    scatter_S1x128_S2_S8_0_0_01_0.resultIdx? k at16 = some (ix2 0 j) ↔ (k 0).val + 16 = j.val := by
  have hk : scatter_S1x128_S2_S8_0_0_01_0.sKept = [1] := by decide
  have w0 : scatter_S1x128_S2_S8_0_0_01_0.window k 0 = 0 := by
    unfold ScatterDims.window
    rw [dif_neg (by rw [hk]; simp)]
  have w1 : scatter_S1x128_S2_S8_0_0_01_0.window k 1 = (k 0).val := by
    unfold ScatterDims.window
    rw [dif_pos (by rw [hk]; simp)]
    rfl
  have s0 : scatter_S1x128_S2_S8_0_0_01_0.start k at16 0 = 0 := by
    unfold ScatterDims.start
    rw [dif_pos (by decide)]
    rfl
  have s1 : scatter_S1x128_S2_S8_0_0_01_0.start k at16 1 = 16 := by
    unfold ScatterDims.start
    rw [dif_pos (by decide)]
    rfl
  refine (Routing.resultIdx?_ix2 (R := 1) (C := 128) scatter_S1x128_S2_S8_0_0_01_0 k at16 0 j).trans ?_
  rw [s0, s1, w0, w1]
  dsimp
  omega

/-- The 128 lanes that hold eight values from the sixteenth on. -/
theorem lanes8 (x0 : S1x128.Idx → EReal) (u : S8.Idx → EReal) (j : Fin 128) :
    Host.scatter scatter_S1x128_S2_S8_0_0_01_0 (fun _ b => b) x0 at16 u (ix2 0 j) = if h : 16 ≤ j.val ∧ j.val < 24 then u (ix1 ⟨j.val - 16, by omega⟩) else x0 (ix2 0 j) := by
  by_cases h : 16 ≤ j.val ∧ j.val < 24
  · rw [dif_pos h]
    refine Routing.scatter_set_hit _ x0 at16 u _ _ (fun k hk => ?_) (ix1 ⟨j.val - 16, by omega⟩) ((lands8 _ j).mpr (by simp [ix1]; omega))
    have e := (lands8 k j).mp hk
    refine congrArg u (funext fun a => ?_)
    match a with
    | ⟨0, _⟩ => exact Fin.ext (by simp [ix1]; exact (by omega : (k 0).val = j.val - 16))
  · rw [dif_neg h]
    exact Routing.scatter_set_miss _ x0 at16 u _ fun k hk => h (by have := (lands8 k j).mp hk; have := (k 0).isLt; dsimp at this; omega)

/-- Window 9's block: the steps' biases, from the sixteenth lane on. -/
theorem b9 (h : Fin 8) : iblk m c 9 t (ix2 0 ⟨16 + h.val, by omega⟩) = A9 m c (ix2 0 h) := by
  blk_simp [iblk]
  rw [v20 m c]
  have e : ((win0_9.blk t).view.emb (ix2 0 ⟨16 + h.val, by omega⟩) : S1x128.Idx) = ix2 0 ⟨16 + h.val, by omega⟩ := by blk_ext [idxS t]
  generalize hX : Host.scatter scatter_S1x128_S2_S8_0_0_01_0 (fun _ b => b) _ _ _ = X
  refine (congrArg (X : S1x128.Idx → EReal) e).trans ?_
  rw [← hX, lanes8, dif_pos (by dsimp; omega)]
  simp only [Nat.add_sub_cancel_left]
  pointwise

/-- Window 10's block: the decay rates, from the sixteenth lane on, among zeros. -/
theorem b10 (l : Fin 128) : iblk m c 10 t (ix2 0 l) = if h : 16 ≤ l.val ∧ l.val < 24 then -Ideal.exp (A10 m c (ix2 0 ⟨l.val - 16, by omega⟩)) else 0 := by
  blk_simp [iblk]
  rw [v27 m c]
  have e : ((win0_10.blk t).view.emb (ix2 0 l) : S1x128.Idx) = ix2 0 l := by blk_ext [idxS t]
  generalize hX : Host.scatter scatter_S1x128_S2_S8_0_0_01_0 (fun _ b => b) _ _ _ = X
  refine (congrArg (X : S1x128.Idx → EReal) e).trans ?_
  rw [← hX, lanes8]
  by_cases h : 16 ≤ l.val ∧ l.val < 24
  · rw [dif_pos h, dif_pos h]
    pointwise
  · rw [dif_neg h, dif_neg h]
    pointwise

/-- A decay rate in its lane. -/
theorem b10_lane (h : Fin 8) : iblk m c 10 t (ix2 0 ⟨16 + h.val, by omega⟩) = -Ideal.exp (A10 m c (ix2 0 h)) := by
  refine (b10 m c t _).trans ?_
  rw [dif_pos (by dsimp; omega)]
  simp only [Nat.add_sub_cancel_left]

/-- No decay rate in window 10's block is positive. -/
theorem b10_nonpos (l : Fin 128) : @LE.le EReal _ (iblk m c 10 t (ix2 0 l)) 0 := by
  refine le_of_eq_of_le (b10 m c t l) ?_
  by_cases h : 16 ≤ l.val ∧ l.val < 24
  · rw [dif_pos h]
    simpa using EReal.neg_le_neg_iff.mpr (exp_nonneg (A10 m c (ix2 0 ⟨l.val - 16, by omega⟩)))
  · rw [dif_neg h]

/-- Where an element of window 15's block lies in the array. -/
theorem emb15 (y : S16x8x64x128.Idx) : ((cfg0.win 15).blk t).view.emb y
    = ix4 ⟨16 * t.val + (y 0).val, by have := tlt t; have := (y 0).isLt; dsimp at this; omega⟩ (y 1) (y 2) (y 3) := by
  blk_ext [idxS t]

end Cert.MixSPIdeal.Sam
end
-- ==== Proof.Sam.Ssm.lean ====
module

public import proofs.«01_k».proof.Proof.Sam.Gates
import Idealize.ShloMosaic.Lib.Pointwise.Tactic

@[expose] public section

set_option maxRecDepth 16384
noncomputable section

/-! The state space heads' state that the sample mixer's body stores for one sequence and one pair of heads, and its weights, entry by entry. -/

namespace Cert.MixSPIdeal.Sam
open Cert.MixSPIdeal Cert.MixSPIdeal.Gen Idealize.ShloMosaic Cert.SamMath

/-- The update a sequence's pair of states gets, with the rows it counts as a mask. -/
def supd (e0 e1 : FVec Ideal S1x1 .f32) (w0 w1 : FVec Ideal S64x1 .f32) (xp : FVec Ideal S64x128 .f32) (bg : FVec Ideal S64x128 .bf16) (m : IVec S64x128 1) (st : FVec Ideal S128x128 .f32) :
    FVec Ideal S1x2x64x128 .f32 :=
  have xw : FVec Ideal S64x128 .bf16 := truncf .bf16 (mulf xp (select k0_pay57 (broadcastTo S64x128 (shapeCast S64x1 w0 shapeCasts_S64x1_S64x1) broadcasts_S64x1_S64x128)
    (broadcastTo S64x128 (shapeCast S64x1 w1 shapeCasts_S64x1_S64x1) broadcasts_S64x1_S64x128))) bitsLt_bf16_f32
  have p : FVec Ideal S128x128 .f32 := matmul dot_S64x128_S64x128_S128x128_0_0_1_1_n_n none (select m xw (broadcast S64x128 (Scalar.ofBits .bf16 0x0000#16))) bg (constant S128x128 .f32 0x00000000#32)
  have e : FVec Ideal S128x128 .f32 := select k0_pay58 (broadcastTo S128x128 (shapeCast S1x1 e0 shapeCasts_S1x1_S1x1) broadcasts_S1x1_S128x128)
    (broadcastTo S128x128 (shapeCast S1x1 e1 shapeCasts_S1x1_S1x1) broadcasts_S1x1_S128x128)
  shapeCast S1x2x64x128 (shapeCast S2x64x128 (addf (mulf e st) p) shapeCasts_S128x128_S2x64x128) shapeCasts_S2x64x128_S1x2x64x128

/-- Column `d` of half `p` of a pair of heads. -/
def pc (p : Fin 2) (d : Fin 64) : Fin 128 := ⟨64 * p.val + d.val, by omega⟩

/-- Whether a position lies in the first half. -/
theorem lowOf : ∀ (p : Fin 2) (d : Fin 64), IntOp.cmpi .slt (BitVec.ofNat 32 (pc p d).val) 64#32 = if p = 0 then 1#1 else 0#1 := by decide +kernel

/-- The mask of the first half of the columns. -/
theorem pay57_apply (r : Fin 64) (p : Fin 2) (d : Fin 64) : k0_pay57 (ix2 r (pc p d)) = if p = 0 then 1#1 else 0#1 := by
  rw [← lowOf p d]
  unfold k0_pay57
  pointwise

/-- The mask of the first half of the rows. -/
theorem pay58_apply (n : Fin 128) (p : Fin 2) (d : Fin 64) : k0_pay58 (ix2 (pc p d) n) = if p = 0 then 1#1 else 0#1 := by
  rw [← lowOf p d]
  unfold k0_pay58
  pointwise

/-- A selection by a half. -/
theorem sel_half (p : Fin 2) (a b : EReal) : Scalar.select (if p = 0 then 1#1 else 0#1 : BitVec 1) a b = if p = 0 then a else b := by
  by_cases h : p = 0
  · rw [if_pos h, if_pos h]; rfl
  · rw [if_neg h, if_neg h]; rfl

set_option maxHeartbeats 1000000 in
/-- The update at an entry: the decayed state plus the sum over the sequence's four rows. -/
theorem supd_apply (e0 e1 : FVec Ideal S1x1 .f32) (w0 w1 : FVec Ideal S64x1 .f32) (xp : FVec Ideal S64x128 .f32) (bg : FVec Ideal S64x128 .bf16) (m : IVec S64x128 1) (st : FVec Ideal S128x128 .f32)
    (s : Fin 16) (hm : ∀ u j, m (ix2 u j) = if u.val / 4 = s.val then 1#1 else 0#1) (p : Fin 2) (d : Fin 64) (n : Fin 128) :
    supd e0 e1 w0 w1 xp bg m st (ix4 0 p d n) = (if p = 0 then e0 (ix2 0 0) else e1 (ix2 0 0)) * st (ix2 (pc p d) n)
      + ∑ t : Fin 4, (xp (ix2 (row s t) (pc p d)) * (if p = 0 then w0 (ix2 (row s t) 0) else w1 (ix2 (row s t) 0))) * bg (ix2 (row s t) n) := by
  have key : (∑ x : Fin 64, Scalar.select (m (ix2 x (pc p d))) ((xp (ix2 x (pc p d)) * Scalar.select (k0_pay57 (ix2 x (pc p d))) (w0 (ix2 x 0)) (w1 (ix2 x 0))) * bg (ix2 x n)) 0)
      = ∑ t : Fin 4, (xp (ix2 (row s t) (pc p d)) * (if p = 0 then w0 (ix2 (row s t) 0) else w1 (ix2 (row s t) 0))) * bg (ix2 (row s t) n) := by
    rw [← seg_sum s fun u => (xp (ix2 u (pc p d)) * (if p = 0 then w0 (ix2 u 0) else w1 (ix2 u 0))) * bg (ix2 u n)]
    refine Finset.sum_congr rfl fun u _ => ?_
    rw [hm, pay57_apply, sel_half]
    by_cases e : u.val / 4 = s.val
    · rw [if_pos e, if_pos e]; rfl
    · rw [if_neg e, if_neg e]; rfl
  rw [← key, ← sel_half, ← pay58_apply n p d]
  unfold supd
  pointwise
  have ek : ∀ q, (⟨p.val * 64 + d.val, q⟩ : Fin 128) = pc p d := fun _ => Fin.ext (by simp only [pc]; omega)
  simp only [ek]

/-- The step sizes at an entry. -/
theorem dt_apply (v0 : Vec Ideal S64x128 .f32) (b : FVec Ideal S1x128 .f32) (r : Fin 64) (l : Fin 128) : k0_pay20 v0 b (ix2 r l) = splus (v0 (ix2 r l) + b (ix2 0 l)) := by
  rw [← kplus_eq]
  unfold k0_pay20 kplus
  pointwise
  rfl

/-- The steps times the decay rates. -/
theorem dta_apply (v0 : Vec Ideal S64x128 .f32) (b a : FVec Ideal S1x128 .f32) (r : Fin 64) (l : Fin 128) : k0_pay21 v0 b a (ix2 r l) = splus (v0 (ix2 r l) + b (ix2 0 l)) * a (ix2 0 l) := by
  rw [← dt_apply]
  unfold k0_pay21
  pointwise

/-- The mask of the rows of one sequence. -/
theorem pay17_apply (r u : Fin 64) : k0_pay17 (ix2 r u) = if u.val / 4 = r.val / 4 then 1#1 else 0#1 := by
  rw [← sameOf r u]
  unfold k0_pay17
  pointwise

/-- The running sum of the steps within a sequence. -/
theorem lc_apply (v0 : Vec Ideal S64x128 .f32) (b a : FVec Ideal S1x128 .f32) (hw : ∀ r j, k0_pay21 v0 b a (ix2 r j) ≠ ⊤) (s : Fin 16) (t : Fin 4) (j : Fin 128) :
    k0_pay22 v0 b a k0_pay18 (FloatOps.ofBits .f32 0x3F800000#32) (FloatOps.ofBits .f32 0x00000000#32) (ix2 (row s t) j) = ∑ u : Fin 4, if u ≤ t then k0_pay21 v0 b a (ix2 (row s u) j) else 0 := by
  unfold k0_pay22
  generalize k0_pay21 v0 b a = w at hw ⊢
  unfold k0_pay18
  pointwise
  rw [← sum_tril s t fun u => w (ix2 u j)]
  exact sel3 _ _ (fun u => by rw [pay17_apply, trilOf]) (fun u => w (ix2 u j)) (fun u => hw u j)

/-- The whole sum of the steps of a sequence. -/
theorem ll_apply (v0 : Vec Ideal S64x128 .f32) (b a : FVec Ideal S1x128 .f32) (hw : ∀ r j, k0_pay21 v0 b a (ix2 r j) ≠ ⊤) (s : Fin 16) (t : Fin 4) (j : Fin 128) :
    k0_pay28 (k0_pay19 k0_pay17) (k0_pay25 v0 b a) (k0_pay26 v0 b a) (k0_pay27 v0 b a k0_pay17) (ix2 (row s t) j) = ∑ u : Fin 4, k0_pay21 v0 b a (ix2 (row s u) j) := by
  unfold k0_pay28 k0_pay27 k0_pay26 k0_pay25 k0_pay24 k0_pay23
  generalize k0_pay21 v0 b a = w at hw ⊢
  unfold k0_pay19
  pointwise
  rw [← sum_same s t fun u => w (ix2 u j)]
  exact sel3 _ _ (fun u => pay17_apply _ u) (fun u => w (ix2 u j)) (fun u => hw u j)

/-- The rows' weights: the decay from a row to the sequence's end times the row's step. -/
theorem w_apply (v0 : Vec Ideal S64x128 .f32) (b a : FVec Ideal S1x128 .f32) (hw : ∀ r j, k0_pay21 v0 b a (ix2 r j) ≠ ⊤) (s : Fin 16) (t : Fin 4) (j : Fin 128) :
    k0_pay30 (k0_pay19 k0_pay17) (k0_pay20 v0 b) (k0_pay22 v0 b a k0_pay18 (FloatOps.ofBits .f32 0x3F800000#32) (FloatOps.ofBits .f32 0x00000000#32)) (k0_pay25 v0 b a) (k0_pay26 v0 b a) (k0_pay27 v0 b a k0_pay17) (ix2 (row s t) j)
      = Ideal.exp ((∑ u : Fin 4, k0_pay21 v0 b a (ix2 (row s u) j)) - ∑ u : Fin 4, if u ≤ t then k0_pay21 v0 b a (ix2 (row s u) j) else 0) * k0_pay20 v0 b (ix2 (row s t) j) := by
  rw [← ll_apply v0 b a hw s t j, ← lc_apply v0 b a hw s t j]
  unfold k0_pay30
  pointwise

/-- The decay of a sequence's old state. -/
theorem ell_apply (v0 : Vec Ideal S64x128 .f32) (b a : FVec Ideal S1x128 .f32) (hw : ∀ r j, k0_pay21 v0 b a (ix2 r j) ≠ ⊤) (s : Fin 16) (t : Fin 4) (j : Fin 128) :
    k0_pay31 (k0_pay19 k0_pay17) (k0_pay25 v0 b a) (k0_pay26 v0 b a) (k0_pay27 v0 b a k0_pay17) (ix2 (row s t) j) = Ideal.exp (∑ u : Fin 4, k0_pay21 v0 b a (ix2 (row s u) j)) := by
  rw [← ll_apply v0 b a hw s t j]
  unfold k0_pay31
  pointwise

end Cert.MixSPIdeal.Sam
end
-- ==== Proof.Sam.Cover.lean ====
module

public import Idealize.ShloMosaic.Lib.Pipeline.ValueKit
public import Idealize.ShloMosaic.Lib.Pipeline.ReadBack
public import Idealize.ShloMosaic.Lib.Pointwise
import Idealize.ShloMosaic.Lib.Pointwise.Tactic

@[expose] public section

set_option maxRecDepth 16384
noncomputable section

/-! Reading, at an index, what a list of stored rectangles leaves in a buffer of two axes. -/

namespace Cert.SamCover
open Idealize.ShloMosaic

variable {Val : EltTy → Type} [∀ e, Nonempty (Val e)] {e : EltTy} {m n a b o p : ℕ}

/-- At an index in the last stored rectangle, its payload. -/
theorem hit (inb : ∀ k, ![o, p] k + ![a, b] k ≤ (⟨2, ![m, n]⟩ : Shape).size k) (w : (⟨2, ![a, b]⟩ : Shape).Idx → Val e) (L : List (View.Piece Val ⟨2, ![m, n]⟩ e))
    (R : Fin m) (J : Fin n) (r : Fin a) (j : Fin b) (hR : R.val = o + r.val) (hJ : J.val = p + j.val) :
    View.canon (⟨Rect.unit (s := ⟨2, ![m, n]⟩) ![o, p] ![a, b] inb, w⟩ :: L) (ix2 R J) = w (ix2 r j) := by
  have h : (ix2 R J : (⟨2, ![m, n]⟩ : Shape).Idx) = (Rect.unit (s := ⟨2, ![m, n]⟩) ![o, p] ![a, b] inb).emb (ix2 r j) := by
    funext k
    match k with
    | ⟨0, _⟩ => exact Fin.ext (by simpa [Rect.emb, Rect.unit] using hR)
    | ⟨1, _⟩ => exact Fin.ext (by simpa [Rect.emb, Rect.unit] using hJ)
  rw [h]
  exact View.canon_cons_emb (Rect.unit (s := ⟨2, ![m, n]⟩) ![o, p] ![a, b] inb) w L (ix2 r j)

/-- At an index outside it, what the earlier ones leave. -/
theorem miss (inb : ∀ k, ![o, p] k + ![a, b] k ≤ (⟨2, ![m, n]⟩ : Shape).size k) (w : (⟨2, ![a, b]⟩ : Shape).Idx → Val e) (L : List (View.Piece Val ⟨2, ![m, n]⟩ e))
    (R : Fin m) (J : Fin n) (h : R.val < o ∨ o + a ≤ R.val ∨ J.val < p ∨ p + b ≤ J.val) :
    View.canon (⟨Rect.unit (s := ⟨2, ![m, n]⟩) ![o, p] ![a, b] inb, w⟩ :: L) (ix2 R J) = View.canon L (ix2 R J) := by
  refine View.canon_cons_of_not_mem _ L ?_
  rw [Rect.mem_set_unit]
  intro hm
  have h0 := hm 0
  have h1 := hm 1
  simp at h0 h1
  omega

/-- A load of a rectangle, at an index. -/
theorem load {sig : RefSig} {κ : Kind} {sp : Space} (v : View sig κ sp ⟨2, ![m, n]⟩ e) (L : List (View.Piece Val ⟨2, ![m, n]⟩ e))
    (inb : ∀ k, ![o, p] k + ![a, b] k ≤ (⟨2, ![m, n]⟩ : Shape).size k) (R : Fin m) (J : Fin n) (r : Fin a) (j : Fin b) (hR : R.val = o + r.val) (hJ : J.val = p + j.val) :
    v.readCov L (Rect.unit (s := ⟨2, ![m, n]⟩) ![o, p] ![a, b] inb).toLoadRect (ix2 r j) = View.canon L (ix2 R J) := by
  rw [View.readCov_eq_canon']
  refine congrArg (View.canon L) ?_
  funext k
  match k with
  | ⟨0, _⟩ => exact Fin.ext (by simpa [Rect.unit, Rect.toLoadRect, LoadRect.idx] using hR.symm)
  | ⟨1, _⟩ => exact Fin.ext (by simpa [Rect.unit, Rect.toLoadRect, LoadRect.idx] using hJ.symm)

end Cert.SamCover
end
-- ==== Proof.Sam.Xa.lean ====
module

public import proofs.«01_k».proof.Proof.Sam.Ssm
public import proofs.«01_k».proof.Proof.Sam.Cover
import Idealize.ShloMosaic.Lib.Pointwise.Tactic

@[expose] public section

set_option maxRecDepth 16384
noncomputable section

/-! The sample mixer's convolution of four rows and its activation, entry by entry. -/

namespace Cert.MixSPIdeal.Sam
open Cert.MixSPIdeal Cert.MixSPIdeal.Gen Idealize.ShloMosaic Cert.SamMath

/-- A value times its logistic function. -/
def silu (x : EReal) : EReal := Ideal.div x (1 + Ideal.exp (0 - x))

/-- What tap `k` of the convolution reads at row `t` of sequence `s`: an earlier row of the sequence, or a row of its tail. -/
def tap (xr tr : Fin 64 → Fin 1024 → EReal) (s : Fin 16) (t : Fin 4) (k : Fin 3) (j : Fin 1024) : EReal :=
  if h : 3 ≤ t.val + k.val then xr (row s ⟨t.val + k.val - 3, by omega⟩) j else tr (row s ⟨t.val + k.val + 1, by omega⟩) j

/-- The activated convolution at row `t` of sequence `s`. -/
def act (xr tr : Fin 64 → Fin 1024 → EReal) (cw : Fin 4 → Fin 1024 → EReal) (cb : Fin 1024 → EReal) (s : Fin 16) (t : Fin 4) (j : Fin 1024) : EReal :=
  silu (cb j + tap xr tr s t 0 j * cw 0 j + tap xr tr s t 1 j * cw 1 j + tap xr tr s t 2 j * cw 2 j + xr (row s t) j * cw 3 j)

/-- Whether a row's place in its sequence is not before a bound. -/
theorem geOf : ∀ (s : Fin 16) (t : Fin 4) (k : Fin 3), IntOp.cmpi .sge (IntOp.andi (BitVec.ofNat 32 (row s t).val) 3#32) (BitVec.ofNat 32 (3 - k.val))
    = if 3 ≤ t.val + k.val then 1#1 else 0#1 := by decide +kernel

/-- The selection between the rows shifted down and the tail's rows shifted up is a tap. -/
theorem tap_of (c u : S64x1024.Idx → EReal) (xr tr : Fin 64 → Fin 1024 → EReal) (k : Fin 3)
    (hc : ∀ (r q : Fin 64) (j : Fin 1024), r.val = q.val + (3 - k.val) → c (ix2 r j) = xr q j) (hu : ∀ (r q : Fin 64) (j : Fin 1024), r.val + (k.val + 1) = q.val → u (ix2 r j) = tr q j)
    (s : Fin 16) (t : Fin 4) (j : Fin 1024) :
    Scalar.select (IntOp.cmpi .sge (IntOp.andi (BitVec.ofNat 32 (row s t).val) 3#32) (BitVec.ofNat 32 (3 - k.val))) (c (ix2 (row s t) j)) (u (ix2 (row s t) j)) = tap xr tr s t k j := by
  rw [geOf]
  unfold tap
  by_cases h : 3 ≤ t.val + k.val
  · rw [if_pos h, dif_pos h, ← hc (row s t) _ j (by simp only [row]; omega)]
    rfl
  · rw [if_neg h, dif_neg h, ← hu (row s t) _ j (by simp only [row]; omega)]
    rfl

/-- The activated convolution, from what the taps' buffers hold. -/
theorem act_of (W c0 c1 c2 u0 u1 u2 : Vec Ideal S64x1024 .f32) (cb w0 w1 w2 w3 : Vec Ideal S1x1024 .f32) (xr tr : Fin 64 → Fin 1024 → EReal)
    (hW : ∀ r j, W (ix2 r j) = xr r j)
    (hc0 : ∀ (r q : Fin 64) (j : Fin 1024), r.val = q.val + 3 → c0 (ix2 r j) = xr q j) (hu0 : ∀ (r q : Fin 64) (j : Fin 1024), r.val + 1 = q.val → u0 (ix2 r j) = tr q j)
    (hc1 : ∀ (r q : Fin 64) (j : Fin 1024), r.val = q.val + 2 → c1 (ix2 r j) = xr q j) (hu1 : ∀ (r q : Fin 64) (j : Fin 1024), r.val + 2 = q.val → u1 (ix2 r j) = tr q j)
    (hc2 : ∀ (r q : Fin 64) (j : Fin 1024), r.val = q.val + 1 → c2 (ix2 r j) = xr q j) (hu2 : ∀ (r q : Fin 64) (j : Fin 1024), r.val + 3 = q.val → u2 (ix2 r j) = tr q j)
    (cw : Fin 4 → Fin 1024 → EReal) (h0 : ∀ j, w0 (ix2 0 j) = cw 0 j) (h1 : ∀ j, w1 (ix2 0 j) = cw 1 j) (h2 : ∀ j, w2 (ix2 0 j) = cw 2 j) (h3 : ∀ j, w3 (ix2 0 j) = cw 3 j)
    (s : Fin 16) (t : Fin 4) (j : Fin 1024) :
    k0_pay10 W (k0_pay8 cb c0 u0 w0 c1 u1 w1) k0_pay9 c2 u2 w2 w3 (ix2 (row s t) j) = act xr tr cw (fun j => cb (ix2 0 j)) s t j := by
  unfold act
  rw [← tap_of c0 u0 xr tr 0 hc0 hu0, ← tap_of c1 u1 xr tr 1 hc1 hu1, ← tap_of c2 u2 xr tr 2 hc2 hu2, ← hW, ← h0, ← h1, ← h2, ← h3]
  unfold k0_pay10 k0_pay8 k0_pay9 k0_pay7 silu
  pointwise

end Cert.MixSPIdeal.Sam
end
-- ==== Proof.Sam.Tile15.lean ====
module

public import proofs.«01_k».proof.Proof.Sam.Xa
public import proofs.«01_k».proof.Proof.Gen.MixSPIdeal.Frame.RunA
public import Idealize.ShloMosaic.Lib.Pipeline.ReadBack
import Idealize.ShloMosaic.Lib.Pointwise.Tactic
import Idealize.ShloMosaic.Lib.Claim

@[expose] public section

set_option maxRecDepth 16384
noncomputable section

/-! What the sample mixer's body leaves as the state space heads' states of a block of sixteen sequences. -/

namespace Cert.MixSPIdeal.Sam
open Cert.MixSPIdeal Cert.MixSPIdeal.Gen Idealize.ShloMosaic Idealize.ShloMosaic.TcCoe Idealize.SL.Sem Cert.SamMath

/-- The convolution's columns of the projected rows. -/
abbrev xbcOf (x0 : Vec Ideal S64x3200 .f32) (r : Fin 64) (j : Fin 1024) : EReal := x0 (ix2 r ⟨2048 + j.val, by omega⟩)

/-- The block's activated convolution. -/
abbrev actOf (x0 : Vec Ideal S64x3200 .f32) (x1 : Vec Ideal S64x1024 .f32) (x7 : Vec Ideal S4x1024 .f32) (x8 : Vec Ideal S1x1024 .f32) : Fin 16 → Fin 4 → Fin 1024 → EReal :=
  act (xbcOf x0) (fun r j => x1 (ix2 r j)) (fun k j => x7 (ix2 k j)) (fun j => x8 (ix2 0 j))

/-- The step of row `r` at lane `l`. -/
def step (x0 : Vec Ideal S64x3200 .f32) (x9 : Vec Ideal S1x128 .f32) (r : Fin 64) (l : Fin 128) : EReal := splus (x0 (ix2 r ⟨3072 + l.val, by omega⟩) + x9 (ix2 0 l))

/-- The state of head `h` of sequence `s` after the body, at `d` and `n`, from the activated rows, the steps, the decay rates and the old entry. -/
def newSsm (a : Fin 16 → Fin 4 → Fin 1024 → EReal) (dt : Fin 64 → Fin 128 → EReal) (rate : Fin 128 → EReal) (st : EReal) (s : Fin 16) (h : Fin 8) (d : Fin 64) (n : Fin 128) : EReal :=
  Ideal.exp (∑ u : Fin 4, dt (row s u) ⟨16 + h.val, by omega⟩ * rate ⟨16 + h.val, by omega⟩) * st
    + ∑ t : Fin 4, (a s t ⟨64 * h.val + d.val, by omega⟩
        * (Ideal.exp ((∑ u : Fin 4, dt (row s u) ⟨16 + h.val, by omega⟩ * rate ⟨16 + h.val, by omega⟩)
            - ∑ u : Fin 4, if u ≤ t then dt (row s u) ⟨16 + h.val, by omega⟩ * rate ⟨16 + h.val, by omega⟩ else 0) * dt (row s t) ⟨16 + h.val, by omega⟩))
      * a s t ⟨512 + (128 * (h.val / 4) + n.val), by omega⟩

/-- The rows of the block, read back shifted down. -/
theorem readX (v : Memref sig .tc .vmem S72x1024 .f32) (W : Vec Ideal S64x1024 .f32) (o b : ℕ) (ho : o + b = 8) (i1 i2 i3) (r q : Fin 64) (j : Fin 1024) (h : r.val = q.val + b) :
    View.readCov (Val := Elt Ideal) v.view [⟨Rect.unit (s := S72x1024) ![8, 0] ![64, 1024] i1, k0_pay4 W⟩, ⟨Rect.unit (s := S72x1024) ![0, 0] ![8, 1024] i2, k0_pay3 (F := Ideal)⟩]
      (Rect.unit (s := S72x1024) ![o, 0] ![64, 1024] i3).toLoadRect (ix2 r j : (⟨2, ![64, 1024]⟩ : Shape).Idx) = W (ix2 q j) := by
  have hq := q.isLt
  refine (SamCover.load (m := 72) (n := 1024) (o := o) (p := 0) (a := 64) (b := 1024) v.view _ _ ⟨8 + q.val, by omega⟩ j r j (by dsimp; omega) (by omega)).trans ?_
  refine (SamCover.hit _ _ _ _ _ q j rfl (by omega)).trans ?_
  unfold k0_pay4
  pointwise

/-- The rows of the tail, read back shifted up. -/
theorem readT (v : Memref sig .tc .vmem S72x1024 .f32) (T : Vec Ideal S64x1024 .f32) (o : ℕ) (i1 i2 i3) (r q : Fin 64) (j : Fin 1024) (h : r.val + o = q.val) :
    View.readCov (Val := Elt Ideal) v.view [⟨Rect.unit (s := S72x1024) ![64, 0] ![8, 1024] i1, k0_pay6 (F := Ideal)⟩, ⟨Rect.unit (s := S72x1024) ![0, 0] ![64, 1024] i2, k0_pay5 T⟩]
      (Rect.unit (s := S72x1024) ![o, 0] ![64, 1024] i3).toLoadRect (ix2 r j : (⟨2, ![64, 1024]⟩ : Shape).Idx) = T (ix2 q j) := by
  have hq := q.isLt
  refine (SamCover.load (m := 72) (n := 1024) (o := o) (p := 0) (a := 64) (b := 1024) v.view _ _ ⟨q.val, by omega⟩ j r j (by dsimp; omega) (by omega)).trans ?_
  refine (SamCover.miss _ _ _ _ _ (by dsimp; omega)).trans ?_
  refine (SamCover.hit _ _ _ _ _ q j (by dsimp; omega) (by omega)).trans ?_
  unfold k0_pay5
  pointwise

/-- The first columns of the activated convolution. -/
theorem pay11_apply (a b : Vec Ideal S64x1024 .f32) (m : IVec S64x1024 1) (c d : Vec Ideal S64x1024 .f32) (e f : Vec Ideal S1x1024 .f32) (r : Fin 64) (j : Fin 512) :
    k0_pay11 a b m c d e f (ix2 r j) = k0_pay10 a b m c d e f (ix2 r ⟨j.val, by omega⟩) := by
  unfold k0_pay11
  generalize k0_pay10 a b m c d e f = y
  pointwise

/-- The next columns of the activated convolution. -/
theorem pay12_apply (a b : Vec Ideal S64x1024 .f32) (m : IVec S64x1024 1) (c d : Vec Ideal S64x1024 .f32) (e f : Vec Ideal S1x1024 .f32) (r : Fin 64) (j : Fin 256) :
    k0_pay12 a b m c d e f (ix2 r j) = k0_pay10 a b m c d e f (ix2 r ⟨512 + j.val, by omega⟩) := by
  unfold k0_pay12
  generalize k0_pay10 a b m c d e f = y
  pointwise

/-- The activated convolution that the body computes. -/
theorem conv_of (arg17 arg18 : Memref sig .tc .vmem S72x1024 .f32) (x0 : Vec Ideal S64x3200 .f32) (x1 : Vec Ideal S64x1024 .f32) (x7 : Vec Ideal S4x1024 .f32) (x8 : Vec Ideal S1x1024 .f32)
    (s : Fin 16) (t : Fin 4) (j : Fin 1024) :
    k0_pay10 (View.ld x0 (Rect.unit ![0, 2048] ![64, 1024] inb_S64x3200_S64x1024_0_2048))
      (k0_pay8 (View.ld x8 (Rect.unit ![0, 0] ![1, 1024] inb_S1x1024_S1x1024_0_0)) (arg17.view.readCov (Val := Elt Ideal) [⟨Rect.unit (s := S72x1024) ![8, 0] ![64, 1024] inb_S72x1024_S64x1024_8_0, k0_pay4 (View.ld x0 (Rect.unit ![0, 2048] ![64, 1024] inb_S64x3200_S64x1024_0_2048))⟩, ⟨Rect.unit (s := S72x1024) ![0, 0] ![8, 1024] inb_S72x1024_S8x1024_0_0, k0_pay3 (F := Ideal)⟩] (Rect.unit (s := S72x1024) ![5, 0] ![64, 1024] inb_S72x1024_S64x1024_5_0).toLoadRect)
        (arg18.view.readCov (Val := Elt Ideal) [⟨Rect.unit (s := S72x1024) ![64, 0] ![8, 1024] inb_S72x1024_S8x1024_64_0, k0_pay6 (F := Ideal)⟩, ⟨Rect.unit (s := S72x1024) ![0, 0] ![64, 1024] inb_S72x1024_S64x1024_0_0, k0_pay5 (View.ld x1 (Rect.unit ![0, 0] ![64, 1024] inb_S64x1024_S64x1024_0_0))⟩] (Rect.unit (s := S72x1024) ![1, 0] ![64, 1024] inb_S72x1024_S64x1024_1_0).toLoadRect) (View.ld x7 (Rect.unit ![0, 0] ![1, 1024] inb_S4x1024_S1x1024_0_0))
        (arg17.view.readCov (Val := Elt Ideal) [⟨Rect.unit (s := S72x1024) ![8, 0] ![64, 1024] inb_S72x1024_S64x1024_8_0, k0_pay4 (View.ld x0 (Rect.unit ![0, 2048] ![64, 1024] inb_S64x3200_S64x1024_0_2048))⟩, ⟨Rect.unit (s := S72x1024) ![0, 0] ![8, 1024] inb_S72x1024_S8x1024_0_0, k0_pay3 (F := Ideal)⟩] (Rect.unit (s := S72x1024) ![6, 0] ![64, 1024] inb_S72x1024_S64x1024_6_0).toLoadRect)
        (arg18.view.readCov (Val := Elt Ideal) [⟨Rect.unit (s := S72x1024) ![64, 0] ![8, 1024] inb_S72x1024_S8x1024_64_0, k0_pay6 (F := Ideal)⟩, ⟨Rect.unit (s := S72x1024) ![0, 0] ![64, 1024] inb_S72x1024_S64x1024_0_0, k0_pay5 (View.ld x1 (Rect.unit ![0, 0] ![64, 1024] inb_S64x1024_S64x1024_0_0))⟩] (Rect.unit (s := S72x1024) ![2, 0] ![64, 1024] inb_S72x1024_S64x1024_2_0).toLoadRect) (View.ld x7 (Rect.unit ![1, 0] ![1, 1024] inb_S4x1024_S1x1024_1_0)))
      k0_pay9 (arg17.view.readCov (Val := Elt Ideal) [⟨Rect.unit (s := S72x1024) ![8, 0] ![64, 1024] inb_S72x1024_S64x1024_8_0, k0_pay4 (View.ld x0 (Rect.unit ![0, 2048] ![64, 1024] inb_S64x3200_S64x1024_0_2048))⟩, ⟨Rect.unit (s := S72x1024) ![0, 0] ![8, 1024] inb_S72x1024_S8x1024_0_0, k0_pay3 (F := Ideal)⟩] (Rect.unit (s := S72x1024) ![7, 0] ![64, 1024] inb_S72x1024_S64x1024_7_0).toLoadRect)
        (arg18.view.readCov (Val := Elt Ideal) [⟨Rect.unit (s := S72x1024) ![64, 0] ![8, 1024] inb_S72x1024_S8x1024_64_0, k0_pay6 (F := Ideal)⟩, ⟨Rect.unit (s := S72x1024) ![0, 0] ![64, 1024] inb_S72x1024_S64x1024_0_0, k0_pay5 (View.ld x1 (Rect.unit ![0, 0] ![64, 1024] inb_S64x1024_S64x1024_0_0))⟩] (Rect.unit (s := S72x1024) ![3, 0] ![64, 1024] inb_S72x1024_S64x1024_3_0).toLoadRect) (View.ld x7 (Rect.unit ![2, 0] ![1, 1024] inb_S4x1024_S1x1024_2_0)) (View.ld x7 (Rect.unit ![3, 0] ![1, 1024] inb_S4x1024_S1x1024_3_0)) (ix2 (row s t) j) = actOf x0 x1 x7 x8 s t j := by
  have hx : ∀ (r : Fin 64) (j : Fin 1024), (View.ld x0 (Rect.unit ![0, 2048] ![64, 1024] inb_S64x3200_S64x1024_0_2048)) (ix2 r j : S64x1024.Idx) = xbcOf x0 r j := fun r j => by pointwise
  have ht : ∀ (r : Fin 64) (j : Fin 1024), (View.ld x1 (Rect.unit ![0, 0] ![64, 1024] inb_S64x1024_S64x1024_0_0)) (ix2 r j : S64x1024.Idx) = x1 (ix2 r j) := fun r j => by pointwise
  have hb : ∀ j : Fin 1024, (View.ld x8 (Rect.unit ![0, 0] ![1, 1024] inb_S1x1024_S1x1024_0_0)) (ix2 0 j : S1x1024.Idx) = x8 (ix2 0 j) := fun j => by pointwise
  refine (act_of (View.ld x0 (Rect.unit ![0, 2048] ![64, 1024] inb_S64x3200_S64x1024_0_2048)) _ _ _ _ _ _ (View.ld x8 (Rect.unit ![0, 0] ![1, 1024] inb_S1x1024_S1x1024_0_0)) _ _ _ _ (xbcOf x0) (fun r j => x1 (ix2 r j)) hx
    (fun r q j h => (readX _ _ 5 3 rfl _ _ _ r q j h).trans (hx q j)) (fun r q j h => (readT _ _ 1 _ _ _ r q j h).trans (ht q j))
    (fun r q j h => (readX _ _ 6 2 rfl _ _ _ r q j h).trans (hx q j)) (fun r q j h => (readT _ _ 2 _ _ _ r q j h).trans (ht q j))
    (fun r q j h => (readX _ _ 7 1 rfl _ _ _ r q j h).trans (hx q j)) (fun r q j h => (readT _ _ 3 _ _ _ r q j h).trans (ht q j))
    (fun k j => x7 (ix2 k j)) (fun j => by pointwise) (fun j => by pointwise) (fun j => by pointwise) (fun j => by pointwise) s t j).trans ?_
  exact congrArg (fun b => act (xbcOf x0) (fun r j => x1 (ix2 r j)) (fun k j => x7 (ix2 k j)) b s t j) (funext hb)

/-- The stored update of a pair of heads of sequence `s`, from what the body computes before. -/
theorem piece15 (a : Fin 16 → Fin 4 → Fin 1024 → EReal) (dt : Fin 64 → Fin 128 → EReal) (rate : Fin 128 → EReal)
    (xs : FVec Ideal S64x512 .f32) (bm : FVec Ideal S64x256 .f32) (W E : FVec Ideal S64x128 .f32)
    (hxs : ∀ s t (j : Fin 512), xs (ix2 (row s t) j) = a s t ⟨j.val, by omega⟩) (hbm : ∀ s t (j : Fin 256), bm (ix2 (row s t) j) = a s t ⟨512 + j.val, by omega⟩)
    (hW : ∀ s t l, W (ix2 (row s t) l) = Ideal.exp ((∑ u : Fin 4, dt (row s u) l * rate l) - ∑ u : Fin 4, if u ≤ t then dt (row s u) l * rate l else 0) * dt (row s t) l)
    (hE : ∀ s t l, E (ix2 (row s t) l) = Ideal.exp (∑ u : Fin 4, dt (row s u) l * rate l))
    (e0 e1 : FVec Ideal S1x1 .f32) (w0 w1 : FVec Ideal S64x1 .f32) (xp : FVec Ideal S64x128 .f32) (bg : FVec Ideal S64x128 .bf16) (st : FVec Ideal S128x128 .f32)
    (lo hi : BitVec 32) (s : Fin 16) (q : Fin 4) (hlo : lo = BitVec.ofNat 32 (4 * s.val)) (hhi : hi = BitVec.ofNat 32 (4 * s.val + 4))
    (he0 : e0 (ix2 0 0) = E (ix2 (row s 0) ⟨16 + 2 * q.val, by omega⟩)) (he1 : e1 (ix2 0 0) = E (ix2 (row s 0) ⟨17 + 2 * q.val, by omega⟩))
    (hw0 : ∀ r, w0 (ix2 r 0) = W (ix2 r ⟨16 + 2 * q.val, by omega⟩)) (hw1 : ∀ r, w1 (ix2 r 0) = W (ix2 r ⟨17 + 2 * q.val, by omega⟩))
    (hxp : ∀ r (l : Fin 128), xp (ix2 r l) = xs (ix2 r ⟨128 * q.val + l.val, by omega⟩)) (hbg : ∀ r (n : Fin 128), bg (ix2 r n) = bm (ix2 r ⟨128 * (q.val / 2) + n.val, by omega⟩))
    (p : Fin 2) (d : Fin 64) (n : Fin 128) (old : EReal) (hst : st (ix2 (pc p d) n) = old) :
    supd e0 e1 w0 w1 xp bg (andi (cmpi .sge (iota .tc S64x128 32 [0] iota_S64x128_d0_w32) (broadcast S64x128 lo)) (cmpi .slt (iota .tc S64x128 32 [0] iota_S64x128_d0_w32) (broadcast S64x128 hi))) st (ix4 0 p d n)
      = newSsm a dt rate old s ⟨2 * q.val + p.val, by omega⟩ d n := by
  have hm : ∀ (u : Fin 64) (j : Fin 128), andi (cmpi .sge (iota .tc S64x128 32 [0] iota_S64x128_d0_w32) (broadcast S64x128 lo)) (cmpi .slt (iota .tc S64x128 32 [0] iota_S64x128_d0_w32) (broadcast S64x128 hi)) (ix2 u j)
      = if u.val / 4 = s.val then 1#1 else 0#1 := fun u j => by
    rw [← rowsOf s u, hlo, hhi]
    pointwise
  have hl : ∀ f : Fin 128 → EReal, (if p = 0 then f ⟨16 + 2 * q.val, by omega⟩ else f ⟨17 + 2 * q.val, by omega⟩) = f ⟨16 + (2 * q.val + p.val), by omega⟩ := fun f => by
    by_cases h : p = 0
    · rw [if_pos h]
      exact congrArg f (Fin.ext (by subst h; rfl))
    · rw [if_neg h]
      exact congrArg f (Fin.ext (by have h' : p.val ≠ 0 := fun e => h (Fin.ext e); dsimp; omega))
  have ex : ∀ t, xs (ix2 (row s t) ⟨128 * q.val + (pc p d).val, by omega⟩) = a s t ⟨64 * (2 * q.val + p.val) + d.val, by omega⟩ := fun t =>
    (hxs s t _).trans (congrArg (a s t) (Fin.ext (by simp only [pc]; omega)))
  have eb : ∀ t, bm (ix2 (row s t) ⟨128 * (q.val / 2) + n.val, by omega⟩) = a s t ⟨512 + (128 * ((2 * q.val + p.val) / 4) + n.val), by omega⟩ := fun t =>
    (hbm s t _).trans (congrArg (a s t) (Fin.ext (by dsimp; omega)))
  rw [supd_apply _ _ _ _ _ _ _ _ s hm, hst, he0, he1, hl fun l => E (ix2 (row s 0) l), hE]
  unfold newSsm
  have h2 : ∀ t, (if p = 0 then W (ix2 (row s t) ⟨16 + 2 * q.val, by omega⟩) else W (ix2 (row s t) ⟨17 + 2 * q.val, by omega⟩)) = W (ix2 (row s t) ⟨16 + (2 * q.val + p.val), by omega⟩) :=
    fun t => hl fun l => W (ix2 (row s t) l)
  simp only [hxp, hbg, hw0, hw1, ex, eb, h2]
  simp only [hW]

set_option maxHeartbeats 6400000 in
/-- What the body leaves in its third result's block, where the decay rates are not positive. -/
theorem blk15 (c : Dev nD) (i : grid0.Coords) (arg1 : Memref sig .tc .vmem S64x3200 .f32) (harg1 : arg1.IsWhole) (arg2 : Memref sig .tc .vmem S64x1024 .f32) (harg2 : arg2.IsWhole) (arg3 : Memref sig .tc .vmem S16x4x64x128 .f32) (harg3 : arg3.IsWhole) (arg4 : Memref sig .tc .vmem S16x8x64x128 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S64x1024 .f32) (harg14 : arg14.IsWhole) (arg15 : Memref sig .tc .vmem S16x4x64x128 .f32) (harg15 : arg15.IsWhole) (arg16 : Memref sig .tc .vmem S16x8x64x128 .f32) (harg16 : arg16.IsWhole) (arg17 : Memref sig .tc .vmem S72x1024 .f32) (harg17 : arg17.IsWhole) (arg18 : Memref sig .tc .vmem S72x1024 .f32) (harg18 : arg18.IsWhole)
    (x0 : Vec Ideal S64x3200 .f32) (x1 : Vec Ideal S64x1024 .f32) (x2 : Vec Ideal S16x4x64x128 .f32) (x3 : Vec Ideal S16x8x64x128 .f32) (x4 : Vec Ideal S128x256 .bf16) (x5 : Vec Ideal S1x256 .f32) (x6 : Vec Ideal S1x128 .f32) (x7 : Vec Ideal S4x1024 .f32) (x8 : Vec Ideal S1x1024 .f32) (x9 : Vec Ideal S1x128 .f32) (x10 : Vec Ideal S1x128 .f32) (x11 : Vec Ideal S1x512 .f32) (x12 : Vec Ideal S1x512 .f32)
    (hr : ∀ l, x10 (ix2 0 l) ≤ 0)
    (z : S16x8x64x128.Idx) : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).2.2.1 z
      = newSsm (actOf x0 x1 x7 x8) (step x0 x9) (fun l => x10 (ix2 0 l)) (x3 (ix4 (z 0) (z 1) (z 2) (z 3))) (z 0) (z 1) (z 2) (z 3) := by
  have hs : ∀ r l, k0_pay20 (View.ld x0 (Rect.unit ![0, 3072] ![64, 128] inb_S64x3200_S64x128_0_3072)) (k0_pay14 (View.ld x9 (Rect.unit ![0, 0] ![1, 128] inb_S1x128_S1x128_0_0))) (ix2 r l) = step x0 x9 r l := fun r l => by
    rw [dt_apply]
    unfold step k0_pay14
    pointwise
  have hd : ∀ r l, k0_pay21 (View.ld x0 (Rect.unit ![0, 3072] ![64, 128] inb_S64x3200_S64x128_0_3072)) (k0_pay14 (View.ld x9 (Rect.unit ![0, 0] ![1, 128] inb_S1x128_S1x128_0_0))) (k0_pay15 (View.ld x10 (Rect.unit ![0, 0] ![1, 128] inb_S1x128_S1x128_0_0))) (ix2 r l) = step x0 x9 r l * x10 (ix2 0 l) := fun r l => by
    rw [dta_apply]
    unfold step k0_pay14 k0_pay15
    pointwise
  have hn : ∀ r l, k0_pay21 (View.ld x0 (Rect.unit ![0, 3072] ![64, 128] inb_S64x3200_S64x128_0_3072)) (k0_pay14 (View.ld x9 (Rect.unit ![0, 0] ![1, 128] inb_S1x128_S1x128_0_0))) (k0_pay15 (View.ld x10 (Rect.unit ![0, 0] ![1, 128] inb_S1x128_S1x128_0_0))) (ix2 r l) ≠ ⊤ := fun r l e => by
    have h : step x0 x9 r l * x10 (ix2 0 l) ≤ 0 := EReal.mul_nonpos_iff.mpr (Or.inl ⟨splus_nonneg _, hr l⟩)
    rw [hd] at e
    rw [e] at h
    exact absurd h (by decide)
  have hw := w_apply _ _ _ hn
  have he := ell_apply _ _ _ hn
  simp only [hd, hs] at hw he
  have hA := conv_of arg17 arg18 x0 x1 x7 x8
  unfold kernelRun0_A
  dsimp only
  canon_tiles y h
  all_goals sl_unfold_words
  all_goals simp only [View.readAt_eq_ld, Memref.IsWhole.read_unread]
  all_goals
    generalize k0_pay30 (F := Ideal) _ _ _ _ _ _ = W at hw ⊢
    generalize k0_pay31 (F := Ideal) _ _ _ _ = E at he ⊢
    generalize hX : k0_pay11 (F := Ideal) _ _ _ _ _ _ _ = xs
    generalize hB : k0_pay12 (F := Ideal) _ _ _ _ _ _ _ = bm
    have hxs : ∀ s t (j : Fin 512), xs (ix2 (row s t) j) = actOf x0 x1 x7 x8 s t ⟨j.val, by omega⟩ := fun s t j => by
      rw [← hX]
      exact (pay11_apply ..).trans (hA s t _)
    have hbm : ∀ s t (j : Fin 256), bm (ix2 (row s t) j) = actOf x0 x1 x7 x8 s t ⟨512 + j.val, by omega⟩ := fun s t j => by
      rw [← hB]
      exact (pay12_apply ..).trans (hA s t _)
    clear hX hB hA
    obtain ⟨p, d, v, rfl⟩ : ∃ (p : Fin 2) (d : Fin 64) (v : Fin 128), y = ix4 0 p d v :=
      ⟨y 1, y 2, y 3, by funext a; fin_cases a <;> first | rfl | exact Fin.ext (by have := (y 0).isLt; dsimp at this ⊢; omega)⟩
    have e2 : z 2 = d := Fin.ext (by dsimp at *; omega)
    have e3 : z 3 = v := Fin.ext (by dsimp at *; omega)
    rw [e2, e3]
  · have e0 : z 0 = (15 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![60, 22] E slices_S64x128_o60_22_S1x1) (extractStridedSlice S1x1 ![60, 23] E slices_S64x128_o60_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![15, 6, 0, 0] ![1, 2, 64, 128] inb_S16x8x64x128_S1x2x64x128_15_6_0_0)) shapeCasts_S1x2x64x128_S2x64x128) shapeCasts_S2x64x128_S128x128)
      60#32 64#32 15 3 rfl rfl (by pointwise; rfl) (by pointwise; rfl) (fun r => by pointwise) (fun r => by pointwise) (fun r l => by pointwise) (fun r n => by unfold k0_pay45; pointwise) p d v _ (by unfold pc; pointwise))
    rfl
  · have e0 : z 0 = (14 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![56, 22] E slices_S64x128_o56_22_S1x1) (extractStridedSlice S1x1 ![56, 23] E slices_S64x128_o56_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![14, 6, 0, 0] ![1, 2, 64, 128] inb_S16x8x64x128_S1x2x64x128_14_6_0_0)) shapeCasts_S1x2x64x128_S2x64x128) shapeCasts_S2x64x128_S128x128)
      56#32 60#32 14 3 rfl rfl (by pointwise; rfl) (by pointwise; rfl) (fun r => by pointwise) (fun r => by pointwise) (fun r l => by pointwise) (fun r n => by unfold k0_pay45; pointwise) p d v _ (by unfold pc; pointwise))
    rfl
  · have e0 : z 0 = (13 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![52, 22] E slices_S64x128_o52_22_S1x1) (extractStridedSlice S1x1 ![52, 23] E slices_S64x128_o52_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![13, 6, 0, 0] ![1, 2, 64, 128] inb_S16x8x64x128_S1x2x64x128_13_6_0_0)) shapeCasts_S1x2x64x128_S2x64x128) shapeCasts_S2x64x128_S128x128)
      52#32 56#32 13 3 rfl rfl (by pointwise; rfl) (by pointwise; rfl) (fun r => by pointwise) (fun r => by pointwise) (fun r l => by pointwise) (fun r n => by unfold k0_pay45; pointwise) p d v _ (by unfold pc; pointwise))
    rfl
  · have e0 : z 0 = (12 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![48, 22] E slices_S64x128_o48_22_S1x1) (extractStridedSlice S1x1 ![48, 23] E slices_S64x128_o48_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![12, 6, 0, 0] ![1, 2, 64, 128] inb_S16x8x64x128_S1x2x64x128_12_6_0_0)) shapeCasts_S1x2x64x128_S2x64x128) shapeCasts_S2x64x128_S128x128)
      48#32 52#32 12 3 rfl rfl (by pointwise; rfl) (by pointwise; rfl) (fun r => by pointwise) (fun r => by pointwise) (fun r l => by pointwise) (fun r n => by unfold k0_pay45; pointwise) p d v _ (by unfold pc; pointwise))
    rfl
  · have e0 : z 0 = (11 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![44, 22] E slices_S64x128_o44_22_S1x1) (extractStridedSlice S1x1 ![44, 23] E slices_S64x128_o44_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![11, 6, 0, 0] ![1, 2, 64, 128] inb_S16x8x64x128_S1x2x64x128_11_6_0_0)) shapeCasts_S1x2x64x128_S2x64x128) shapeCasts_S2x64x128_S128x128)
      44#32 48#32 11 3 rfl rfl (by pointwise; rfl) (by pointwise; rfl) (fun r => by pointwise) (fun r => by pointwise) (fun r l => by pointwise) (fun r n => by unfold k0_pay45; pointwise) p d v _ (by unfold pc; pointwise))
    rfl
  · have e0 : z 0 = (10 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![40, 22] E slices_S64x128_o40_22_S1x1) (extractStridedSlice S1x1 ![40, 23] E slices_S64x128_o40_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![10, 6, 0, 0] ![1, 2, 64, 128] inb_S16x8x64x128_S1x2x64x128_10_6_0_0)) shapeCasts_S1x2x64x128_S2x64x128) shapeCasts_S2x64x128_S128x128)
      40#32 44#32 10 3 rfl rfl (by pointwise; rfl) (by pointwise; rfl) (fun r => by pointwise) (fun r => by pointwise) (fun r l => by pointwise) (fun r n => by unfold k0_pay45; pointwise) p d v _ (by unfold pc; pointwise))
    rfl
  · have e0 : z 0 = (9 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![36, 22] E slices_S64x128_o36_22_S1x1) (extractStridedSlice S1x1 ![36, 23] E slices_S64x128_o36_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![9, 6, 0, 0] ![1, 2, 64, 128] inb_S16x8x64x128_S1x2x64x128_9_6_0_0)) shapeCasts_S1x2x64x128_S2x64x128) shapeCasts_S2x64x128_S128x128)
      36#32 40#32 9 3 rfl rfl (by pointwise; rfl) (by pointwise; rfl) (fun r => by pointwise) (fun r => by pointwise) (fun r l => by pointwise) (fun r n => by unfold k0_pay45; pointwise) p d v _ (by unfold pc; pointwise))
    rfl
  · have e0 : z 0 = (8 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![32, 22] E slices_S64x128_o32_22_S1x1) (extractStridedSlice S1x1 ![32, 23] E slices_S64x128_o32_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![8, 6, 0, 0] ![1, 2, 64, 128] inb_S16x8x64x128_S1x2x64x128_8_6_0_0)) shapeCasts_S1x2x64x128_S2x64x128) shapeCasts_S2x64x128_S128x128)
      32#32 36#32 8 3 rfl rfl (by pointwise; rfl) (by pointwise; rfl) (fun r => by pointwise) (fun r => by pointwise) (fun r l => by pointwise) (fun r n => by unfold k0_pay45; pointwise) p d v _ (by unfold pc; pointwise))
    rfl
  · have e0 : z 0 = (7 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![28, 22] E slices_S64x128_o28_22_S1x1) (extractStridedSlice S1x1 ![28, 23] E slices_S64x128_o28_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![7, 6, 0, 0] ![1, 2, 64, 128] inb_S16x8x64x128_S1x2x64x128_7_6_0_0)) shapeCasts_S1x2x64x128_S2x64x128) shapeCasts_S2x64x128_S128x128)
      28#32 32#32 7 3 rfl rfl (by pointwise; rfl) (by pointwise; rfl) (fun r => by pointwise) (fun r => by pointwise) (fun r l => by pointwise) (fun r n => by unfold k0_pay45; pointwise) p d v _ (by unfold pc; pointwise))
    rfl
  · have e0 : z 0 = (6 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![24, 22] E slices_S64x128_o24_22_S1x1) (extractStridedSlice S1x1 ![24, 23] E slices_S64x128_o24_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![6, 6, 0, 0] ![1, 2, 64, 128] inb_S16x8x64x128_S1x2x64x128_6_6_0_0)) shapeCasts_S1x2x64x128_S2x64x128) shapeCasts_S2x64x128_S128x128)
      24#32 28#32 6 3 rfl rfl (by pointwise; rfl) (by pointwise; rfl) (fun r => by pointwise) (fun r => by pointwise) (fun r l => by pointwise) (fun r n => by unfold k0_pay45; pointwise) p d v _ (by unfold pc; pointwise))
    rfl
  · have e0 : z 0 = (5 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![20, 22] E slices_S64x128_o20_22_S1x1) (extractStridedSlice S1x1 ![20, 23] E slices_S64x128_o20_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![5, 6, 0, 0] ![1, 2, 64, 128] inb_S16x8x64x128_S1x2x64x128_5_6_0_0)) shapeCasts_S1x2x64x128_S2x64x128) shapeCasts_S2x64x128_S128x128)
      20#32 24#32 5 3 rfl rfl (by pointwise; rfl) (by pointwise; rfl) (fun r => by pointwise) (fun r => by pointwise) (fun r l => by pointwise) (fun r n => by unfold k0_pay45; pointwise) p d v _ (by unfold pc; pointwise))
    rfl
  · have e0 : z 0 = (4 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![16, 22] E slices_S64x128_o16_22_S1x1) (extractStridedSlice S1x1 ![16, 23] E slices_S64x128_o16_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![4, 6, 0, 0] ![1, 2, 64, 128] inb_S16x8x64x128_S1x2x64x128_4_6_0_0)) shapeCasts_S1x2x64x128_S2x64x128) shapeCasts_S2x64x128_S128x128)
      16#32 20#32 4 3 rfl rfl (by pointwise; rfl) (by pointwise; rfl) (fun r => by pointwise) (fun r => by pointwise) (fun r l => by pointwise) (fun r n => by unfold k0_pay45; pointwise) p d v _ (by unfold pc; pointwise))
    rfl
  · have e0 : z 0 = (3 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![12, 22] E slices_S64x128_o12_22_S1x1) (extractStridedSlice S1x1 ![12, 23] E slices_S64x128_o12_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![3, 6, 0, 0] ![1, 2, 64, 128] inb_S16x8x64x128_S1x2x64x128_3_6_0_0)) shapeCasts_S1x2x64x128_S2x64x128) shapeCasts_S2x64x128_S128x128)
      12#32 16#32 3 3 rfl rfl (by pointwise; rfl) (by pointwise; rfl) (fun r => by pointwise) (fun r => by pointwise) (fun r l => by pointwise) (fun r n => by unfold k0_pay45; pointwise) p d v _ (by unfold pc; pointwise))
    rfl
  · have e0 : z 0 = (2 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![8, 22] E slices_S64x128_o8_22_S1x1) (extractStridedSlice S1x1 ![8, 23] E slices_S64x128_o8_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![2, 6, 0, 0] ![1, 2, 64, 128] inb_S16x8x64x128_S1x2x64x128_2_6_0_0)) shapeCasts_S1x2x64x128_S2x64x128) shapeCasts_S2x64x128_S128x128)
      8#32 12#32 2 3 rfl rfl (by pointwise; rfl) (by pointwise; rfl) (fun r => by pointwise) (fun r => by pointwise) (fun r l => by pointwise) (fun r n => by unfold k0_pay45; pointwise) p d v _ (by unfold pc; pointwise))
    rfl
  · have e0 : z 0 = (1 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![4, 22] E slices_S64x128_o4_22_S1x1) (extractStridedSlice S1x1 ![4, 23] E slices_S64x128_o4_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![1, 6, 0, 0] ![1, 2, 64, 128] inb_S16x8x64x128_S1x2x64x128_1_6_0_0)) shapeCasts_S1x2x64x128_S2x64x128) shapeCasts_S2x64x128_S128x128)
      4#32 8#32 1 3 rfl rfl (by pointwise; rfl) (by pointwise; rfl) (fun r => by pointwise) (fun r => by pointwise) (fun r l => by pointwise) (fun r n => by unfold k0_pay45; pointwise) p d v _ (by unfold pc; pointwise))
    rfl
  · have e0 : z 0 = (0 : Fin 16) := Fin.ext (by dsimp at *; omega)
    have e1 : z 1 = ⟨2 * ((3 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![0, 22] E slices_S64x128_o0_22_S1x1) (extractStridedSlice S1x1 ![0, 23] E slices_S64x128_o0_23_S1x1)
      (extractStridedSlice S64x1 ![0, 22] W slices_S64x128_o0_22_S64x1) (extractStridedSlice S64x1 ![0, 23] W slices_S64x128_o0_23_S64x1)
      (extractStridedSlice S64x128 ![0, 384] xs slices_S64x512_o0_384_S64x128) (extractStridedSlice S64x128 ![0, 128] (k0_pay45 bm) slices_S64x256_o0_128_S64x128)
      (shapeCast S128x128 (shapeCast S2x64x128 (View.ld x3 (Rect.unit ![0, 6, 0, 0] ![1, 2, 64, 128] inb_S16x8x64x128_S1x2x64x128_0_6_0_0)) shapeCasts_S1x2x64x128_S2x64x128) shapeCasts_S2x64x128_S128x128)
      0#32 4#32 0 3 rfl rfl (by pointwise; rfl) (by pointwise; rfl) (fun r => by pointwise) (fun r => by pointwise) (fun r l => by pointwise) (fun r n => by unfold k0_pay45; pointwise) p d v _ (by unfold pc; pointwise))
    rfl
  · have e0 : z 0 = (15 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![60, 20] E slices_S64x128_o60_20_S1x1) (extractStridedSlice S1x1 ![60, 21] E slices_S64x128_o60_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![15, 4, 0, 0] ![1, 2, 64, 128] inb_S16x8x64x128_S1x2x64x128_15_4_0_0)) shapeCasts_S1x2x64x128_S2x64x128) shapeCasts_S2x64x128_S128x128)
      60#32 64#32 15 2 rfl rfl (by pointwise; rfl) (by pointwise; rfl) (fun r => by pointwise) (fun r => by pointwise) (fun r l => by pointwise) (fun r n => by unfold k0_pay45; pointwise) p d v _ (by unfold pc; pointwise))
    rfl
  · have e0 : z 0 = (14 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![56, 20] E slices_S64x128_o56_20_S1x1) (extractStridedSlice S1x1 ![56, 21] E slices_S64x128_o56_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![14, 4, 0, 0] ![1, 2, 64, 128] inb_S16x8x64x128_S1x2x64x128_14_4_0_0)) shapeCasts_S1x2x64x128_S2x64x128) shapeCasts_S2x64x128_S128x128)
      56#32 60#32 14 2 rfl rfl (by pointwise; rfl) (by pointwise; rfl) (fun r => by pointwise) (fun r => by pointwise) (fun r l => by pointwise) (fun r n => by unfold k0_pay45; pointwise) p d v _ (by unfold pc; pointwise))
    rfl
  · have e0 : z 0 = (13 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![52, 20] E slices_S64x128_o52_20_S1x1) (extractStridedSlice S1x1 ![52, 21] E slices_S64x128_o52_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![13, 4, 0, 0] ![1, 2, 64, 128] inb_S16x8x64x128_S1x2x64x128_13_4_0_0)) shapeCasts_S1x2x64x128_S2x64x128) shapeCasts_S2x64x128_S128x128)
      52#32 56#32 13 2 rfl rfl (by pointwise; rfl) (by pointwise; rfl) (fun r => by pointwise) (fun r => by pointwise) (fun r l => by pointwise) (fun r n => by unfold k0_pay45; pointwise) p d v _ (by unfold pc; pointwise))
    rfl
  · have e0 : z 0 = (12 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![48, 20] E slices_S64x128_o48_20_S1x1) (extractStridedSlice S1x1 ![48, 21] E slices_S64x128_o48_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![12, 4, 0, 0] ![1, 2, 64, 128] inb_S16x8x64x128_S1x2x64x128_12_4_0_0)) shapeCasts_S1x2x64x128_S2x64x128) shapeCasts_S2x64x128_S128x128)
      48#32 52#32 12 2 rfl rfl (by pointwise; rfl) (by pointwise; rfl) (fun r => by pointwise) (fun r => by pointwise) (fun r l => by pointwise) (fun r n => by unfold k0_pay45; pointwise) p d v _ (by unfold pc; pointwise))
    rfl
  · have e0 : z 0 = (11 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![44, 20] E slices_S64x128_o44_20_S1x1) (extractStridedSlice S1x1 ![44, 21] E slices_S64x128_o44_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![11, 4, 0, 0] ![1, 2, 64, 128] inb_S16x8x64x128_S1x2x64x128_11_4_0_0)) shapeCasts_S1x2x64x128_S2x64x128) shapeCasts_S2x64x128_S128x128)
      44#32 48#32 11 2 rfl rfl (by pointwise; rfl) (by pointwise; rfl) (fun r => by pointwise) (fun r => by pointwise) (fun r l => by pointwise) (fun r n => by unfold k0_pay45; pointwise) p d v _ (by unfold pc; pointwise))
    rfl
  · have e0 : z 0 = (10 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![40, 20] E slices_S64x128_o40_20_S1x1) (extractStridedSlice S1x1 ![40, 21] E slices_S64x128_o40_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![10, 4, 0, 0] ![1, 2, 64, 128] inb_S16x8x64x128_S1x2x64x128_10_4_0_0)) shapeCasts_S1x2x64x128_S2x64x128) shapeCasts_S2x64x128_S128x128)
      40#32 44#32 10 2 rfl rfl (by pointwise; rfl) (by pointwise; rfl) (fun r => by pointwise) (fun r => by pointwise) (fun r l => by pointwise) (fun r n => by unfold k0_pay45; pointwise) p d v _ (by unfold pc; pointwise))
    rfl
  · have e0 : z 0 = (9 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![36, 20] E slices_S64x128_o36_20_S1x1) (extractStridedSlice S1x1 ![36, 21] E slices_S64x128_o36_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![9, 4, 0, 0] ![1, 2, 64, 128] inb_S16x8x64x128_S1x2x64x128_9_4_0_0)) shapeCasts_S1x2x64x128_S2x64x128) shapeCasts_S2x64x128_S128x128)
      36#32 40#32 9 2 rfl rfl (by pointwise; rfl) (by pointwise; rfl) (fun r => by pointwise) (fun r => by pointwise) (fun r l => by pointwise) (fun r n => by unfold k0_pay45; pointwise) p d v _ (by unfold pc; pointwise))
    rfl
  · have e0 : z 0 = (8 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![32, 20] E slices_S64x128_o32_20_S1x1) (extractStridedSlice S1x1 ![32, 21] E slices_S64x128_o32_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![8, 4, 0, 0] ![1, 2, 64, 128] inb_S16x8x64x128_S1x2x64x128_8_4_0_0)) shapeCasts_S1x2x64x128_S2x64x128) shapeCasts_S2x64x128_S128x128)
      32#32 36#32 8 2 rfl rfl (by pointwise; rfl) (by pointwise; rfl) (fun r => by pointwise) (fun r => by pointwise) (fun r l => by pointwise) (fun r n => by unfold k0_pay45; pointwise) p d v _ (by unfold pc; pointwise))
    rfl
  · have e0 : z 0 = (7 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![28, 20] E slices_S64x128_o28_20_S1x1) (extractStridedSlice S1x1 ![28, 21] E slices_S64x128_o28_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![7, 4, 0, 0] ![1, 2, 64, 128] inb_S16x8x64x128_S1x2x64x128_7_4_0_0)) shapeCasts_S1x2x64x128_S2x64x128) shapeCasts_S2x64x128_S128x128)
      28#32 32#32 7 2 rfl rfl (by pointwise; rfl) (by pointwise; rfl) (fun r => by pointwise) (fun r => by pointwise) (fun r l => by pointwise) (fun r n => by unfold k0_pay45; pointwise) p d v _ (by unfold pc; pointwise))
    rfl
  · have e0 : z 0 = (6 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![24, 20] E slices_S64x128_o24_20_S1x1) (extractStridedSlice S1x1 ![24, 21] E slices_S64x128_o24_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![6, 4, 0, 0] ![1, 2, 64, 128] inb_S16x8x64x128_S1x2x64x128_6_4_0_0)) shapeCasts_S1x2x64x128_S2x64x128) shapeCasts_S2x64x128_S128x128)
      24#32 28#32 6 2 rfl rfl (by pointwise; rfl) (by pointwise; rfl) (fun r => by pointwise) (fun r => by pointwise) (fun r l => by pointwise) (fun r n => by unfold k0_pay45; pointwise) p d v _ (by unfold pc; pointwise))
    rfl
  · have e0 : z 0 = (5 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![20, 20] E slices_S64x128_o20_20_S1x1) (extractStridedSlice S1x1 ![20, 21] E slices_S64x128_o20_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![5, 4, 0, 0] ![1, 2, 64, 128] inb_S16x8x64x128_S1x2x64x128_5_4_0_0)) shapeCasts_S1x2x64x128_S2x64x128) shapeCasts_S2x64x128_S128x128)
      20#32 24#32 5 2 rfl rfl (by pointwise; rfl) (by pointwise; rfl) (fun r => by pointwise) (fun r => by pointwise) (fun r l => by pointwise) (fun r n => by unfold k0_pay45; pointwise) p d v _ (by unfold pc; pointwise))
    rfl
  · have e0 : z 0 = (4 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![16, 20] E slices_S64x128_o16_20_S1x1) (extractStridedSlice S1x1 ![16, 21] E slices_S64x128_o16_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![4, 4, 0, 0] ![1, 2, 64, 128] inb_S16x8x64x128_S1x2x64x128_4_4_0_0)) shapeCasts_S1x2x64x128_S2x64x128) shapeCasts_S2x64x128_S128x128)
      16#32 20#32 4 2 rfl rfl (by pointwise; rfl) (by pointwise; rfl) (fun r => by pointwise) (fun r => by pointwise) (fun r l => by pointwise) (fun r n => by unfold k0_pay45; pointwise) p d v _ (by unfold pc; pointwise))
    rfl
  · have e0 : z 0 = (3 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![12, 20] E slices_S64x128_o12_20_S1x1) (extractStridedSlice S1x1 ![12, 21] E slices_S64x128_o12_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![3, 4, 0, 0] ![1, 2, 64, 128] inb_S16x8x64x128_S1x2x64x128_3_4_0_0)) shapeCasts_S1x2x64x128_S2x64x128) shapeCasts_S2x64x128_S128x128)
      12#32 16#32 3 2 rfl rfl (by pointwise; rfl) (by pointwise; rfl) (fun r => by pointwise) (fun r => by pointwise) (fun r l => by pointwise) (fun r n => by unfold k0_pay45; pointwise) p d v _ (by unfold pc; pointwise))
    rfl
  · have e0 : z 0 = (2 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![8, 20] E slices_S64x128_o8_20_S1x1) (extractStridedSlice S1x1 ![8, 21] E slices_S64x128_o8_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![2, 4, 0, 0] ![1, 2, 64, 128] inb_S16x8x64x128_S1x2x64x128_2_4_0_0)) shapeCasts_S1x2x64x128_S2x64x128) shapeCasts_S2x64x128_S128x128)
      8#32 12#32 2 2 rfl rfl (by pointwise; rfl) (by pointwise; rfl) (fun r => by pointwise) (fun r => by pointwise) (fun r l => by pointwise) (fun r n => by unfold k0_pay45; pointwise) p d v _ (by unfold pc; pointwise))
    rfl
  · have e0 : z 0 = (1 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![4, 20] E slices_S64x128_o4_20_S1x1) (extractStridedSlice S1x1 ![4, 21] E slices_S64x128_o4_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![1, 4, 0, 0] ![1, 2, 64, 128] inb_S16x8x64x128_S1x2x64x128_1_4_0_0)) shapeCasts_S1x2x64x128_S2x64x128) shapeCasts_S2x64x128_S128x128)
      4#32 8#32 1 2 rfl rfl (by pointwise; rfl) (by pointwise; rfl) (fun r => by pointwise) (fun r => by pointwise) (fun r l => by pointwise) (fun r n => by unfold k0_pay45; pointwise) p d v _ (by unfold pc; pointwise))
    rfl
  · have e0 : z 0 = (0 : Fin 16) := Fin.ext (by dsimp at *; omega)
    have e1 : z 1 = ⟨2 * ((2 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![0, 20] E slices_S64x128_o0_20_S1x1) (extractStridedSlice S1x1 ![0, 21] E slices_S64x128_o0_21_S1x1)
      (extractStridedSlice S64x1 ![0, 20] W slices_S64x128_o0_20_S64x1) (extractStridedSlice S64x1 ![0, 21] W slices_S64x128_o0_21_S64x1)
      (extractStridedSlice S64x128 ![0, 256] xs slices_S64x512_o0_256_S64x128) (extractStridedSlice S64x128 ![0, 128] (k0_pay45 bm) slices_S64x256_o0_128_S64x128)
      (shapeCast S128x128 (shapeCast S2x64x128 (View.ld x3 (Rect.unit ![0, 4, 0, 0] ![1, 2, 64, 128] inb_S16x8x64x128_S1x2x64x128_0_4_0_0)) shapeCasts_S1x2x64x128_S2x64x128) shapeCasts_S2x64x128_S128x128)
      0#32 4#32 0 2 rfl rfl (by pointwise; rfl) (by pointwise; rfl) (fun r => by pointwise) (fun r => by pointwise) (fun r l => by pointwise) (fun r n => by unfold k0_pay45; pointwise) p d v _ (by unfold pc; pointwise))
    rfl
  · have e0 : z 0 = (15 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![60, 18] E slices_S64x128_o60_18_S1x1) (extractStridedSlice S1x1 ![60, 19] E slices_S64x128_o60_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![15, 2, 0, 0] ![1, 2, 64, 128] inb_S16x8x64x128_S1x2x64x128_15_2_0_0)) shapeCasts_S1x2x64x128_S2x64x128) shapeCasts_S2x64x128_S128x128)
      60#32 64#32 15 1 rfl rfl (by pointwise; rfl) (by pointwise; rfl) (fun r => by pointwise) (fun r => by pointwise) (fun r l => by pointwise) (fun r n => by unfold k0_pay45; pointwise) p d v _ (by unfold pc; pointwise))
    rfl
  · have e0 : z 0 = (14 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![56, 18] E slices_S64x128_o56_18_S1x1) (extractStridedSlice S1x1 ![56, 19] E slices_S64x128_o56_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![14, 2, 0, 0] ![1, 2, 64, 128] inb_S16x8x64x128_S1x2x64x128_14_2_0_0)) shapeCasts_S1x2x64x128_S2x64x128) shapeCasts_S2x64x128_S128x128)
      56#32 60#32 14 1 rfl rfl (by pointwise; rfl) (by pointwise; rfl) (fun r => by pointwise) (fun r => by pointwise) (fun r l => by pointwise) (fun r n => by unfold k0_pay45; pointwise) p d v _ (by unfold pc; pointwise))
    rfl
  · have e0 : z 0 = (13 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![52, 18] E slices_S64x128_o52_18_S1x1) (extractStridedSlice S1x1 ![52, 19] E slices_S64x128_o52_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![13, 2, 0, 0] ![1, 2, 64, 128] inb_S16x8x64x128_S1x2x64x128_13_2_0_0)) shapeCasts_S1x2x64x128_S2x64x128) shapeCasts_S2x64x128_S128x128)
      52#32 56#32 13 1 rfl rfl (by pointwise; rfl) (by pointwise; rfl) (fun r => by pointwise) (fun r => by pointwise) (fun r l => by pointwise) (fun r n => by unfold k0_pay45; pointwise) p d v _ (by unfold pc; pointwise))
    rfl
  · have e0 : z 0 = (12 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![48, 18] E slices_S64x128_o48_18_S1x1) (extractStridedSlice S1x1 ![48, 19] E slices_S64x128_o48_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![12, 2, 0, 0] ![1, 2, 64, 128] inb_S16x8x64x128_S1x2x64x128_12_2_0_0)) shapeCasts_S1x2x64x128_S2x64x128) shapeCasts_S2x64x128_S128x128)
      48#32 52#32 12 1 rfl rfl (by pointwise; rfl) (by pointwise; rfl) (fun r => by pointwise) (fun r => by pointwise) (fun r l => by pointwise) (fun r n => by unfold k0_pay45; pointwise) p d v _ (by unfold pc; pointwise))
    rfl
  · have e0 : z 0 = (11 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![44, 18] E slices_S64x128_o44_18_S1x1) (extractStridedSlice S1x1 ![44, 19] E slices_S64x128_o44_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![11, 2, 0, 0] ![1, 2, 64, 128] inb_S16x8x64x128_S1x2x64x128_11_2_0_0)) shapeCasts_S1x2x64x128_S2x64x128) shapeCasts_S2x64x128_S128x128)
      44#32 48#32 11 1 rfl rfl (by pointwise; rfl) (by pointwise; rfl) (fun r => by pointwise) (fun r => by pointwise) (fun r l => by pointwise) (fun r n => by unfold k0_pay45; pointwise) p d v _ (by unfold pc; pointwise))
    rfl
  · have e0 : z 0 = (10 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![40, 18] E slices_S64x128_o40_18_S1x1) (extractStridedSlice S1x1 ![40, 19] E slices_S64x128_o40_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![10, 2, 0, 0] ![1, 2, 64, 128] inb_S16x8x64x128_S1x2x64x128_10_2_0_0)) shapeCasts_S1x2x64x128_S2x64x128) shapeCasts_S2x64x128_S128x128)
      40#32 44#32 10 1 rfl rfl (by pointwise; rfl) (by pointwise; rfl) (fun r => by pointwise) (fun r => by pointwise) (fun r l => by pointwise) (fun r n => by unfold k0_pay45; pointwise) p d v _ (by unfold pc; pointwise))
    rfl
  · have e0 : z 0 = (9 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![36, 18] E slices_S64x128_o36_18_S1x1) (extractStridedSlice S1x1 ![36, 19] E slices_S64x128_o36_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![9, 2, 0, 0] ![1, 2, 64, 128] inb_S16x8x64x128_S1x2x64x128_9_2_0_0)) shapeCasts_S1x2x64x128_S2x64x128) shapeCasts_S2x64x128_S128x128)
      36#32 40#32 9 1 rfl rfl (by pointwise; rfl) (by pointwise; rfl) (fun r => by pointwise) (fun r => by pointwise) (fun r l => by pointwise) (fun r n => by unfold k0_pay45; pointwise) p d v _ (by unfold pc; pointwise))
    rfl
  · have e0 : z 0 = (8 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![32, 18] E slices_S64x128_o32_18_S1x1) (extractStridedSlice S1x1 ![32, 19] E slices_S64x128_o32_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![8, 2, 0, 0] ![1, 2, 64, 128] inb_S16x8x64x128_S1x2x64x128_8_2_0_0)) shapeCasts_S1x2x64x128_S2x64x128) shapeCasts_S2x64x128_S128x128)
      32#32 36#32 8 1 rfl rfl (by pointwise; rfl) (by pointwise; rfl) (fun r => by pointwise) (fun r => by pointwise) (fun r l => by pointwise) (fun r n => by unfold k0_pay45; pointwise) p d v _ (by unfold pc; pointwise))
    rfl
  · have e0 : z 0 = (7 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![28, 18] E slices_S64x128_o28_18_S1x1) (extractStridedSlice S1x1 ![28, 19] E slices_S64x128_o28_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![7, 2, 0, 0] ![1, 2, 64, 128] inb_S16x8x64x128_S1x2x64x128_7_2_0_0)) shapeCasts_S1x2x64x128_S2x64x128) shapeCasts_S2x64x128_S128x128)
      28#32 32#32 7 1 rfl rfl (by pointwise; rfl) (by pointwise; rfl) (fun r => by pointwise) (fun r => by pointwise) (fun r l => by pointwise) (fun r n => by unfold k0_pay45; pointwise) p d v _ (by unfold pc; pointwise))
    rfl
  · have e0 : z 0 = (6 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![24, 18] E slices_S64x128_o24_18_S1x1) (extractStridedSlice S1x1 ![24, 19] E slices_S64x128_o24_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![6, 2, 0, 0] ![1, 2, 64, 128] inb_S16x8x64x128_S1x2x64x128_6_2_0_0)) shapeCasts_S1x2x64x128_S2x64x128) shapeCasts_S2x64x128_S128x128)
      24#32 28#32 6 1 rfl rfl (by pointwise; rfl) (by pointwise; rfl) (fun r => by pointwise) (fun r => by pointwise) (fun r l => by pointwise) (fun r n => by unfold k0_pay45; pointwise) p d v _ (by unfold pc; pointwise))
    rfl
  · have e0 : z 0 = (5 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![20, 18] E slices_S64x128_o20_18_S1x1) (extractStridedSlice S1x1 ![20, 19] E slices_S64x128_o20_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![5, 2, 0, 0] ![1, 2, 64, 128] inb_S16x8x64x128_S1x2x64x128_5_2_0_0)) shapeCasts_S1x2x64x128_S2x64x128) shapeCasts_S2x64x128_S128x128)
      20#32 24#32 5 1 rfl rfl (by pointwise; rfl) (by pointwise; rfl) (fun r => by pointwise) (fun r => by pointwise) (fun r l => by pointwise) (fun r n => by unfold k0_pay45; pointwise) p d v _ (by unfold pc; pointwise))
    rfl
  · have e0 : z 0 = (4 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![16, 18] E slices_S64x128_o16_18_S1x1) (extractStridedSlice S1x1 ![16, 19] E slices_S64x128_o16_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![4, 2, 0, 0] ![1, 2, 64, 128] inb_S16x8x64x128_S1x2x64x128_4_2_0_0)) shapeCasts_S1x2x64x128_S2x64x128) shapeCasts_S2x64x128_S128x128)
      16#32 20#32 4 1 rfl rfl (by pointwise; rfl) (by pointwise; rfl) (fun r => by pointwise) (fun r => by pointwise) (fun r l => by pointwise) (fun r n => by unfold k0_pay45; pointwise) p d v _ (by unfold pc; pointwise))
    rfl
  · have e0 : z 0 = (3 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![12, 18] E slices_S64x128_o12_18_S1x1) (extractStridedSlice S1x1 ![12, 19] E slices_S64x128_o12_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![3, 2, 0, 0] ![1, 2, 64, 128] inb_S16x8x64x128_S1x2x64x128_3_2_0_0)) shapeCasts_S1x2x64x128_S2x64x128) shapeCasts_S2x64x128_S128x128)
      12#32 16#32 3 1 rfl rfl (by pointwise; rfl) (by pointwise; rfl) (fun r => by pointwise) (fun r => by pointwise) (fun r l => by pointwise) (fun r n => by unfold k0_pay45; pointwise) p d v _ (by unfold pc; pointwise))
    rfl
  · have e0 : z 0 = (2 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![8, 18] E slices_S64x128_o8_18_S1x1) (extractStridedSlice S1x1 ![8, 19] E slices_S64x128_o8_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![2, 2, 0, 0] ![1, 2, 64, 128] inb_S16x8x64x128_S1x2x64x128_2_2_0_0)) shapeCasts_S1x2x64x128_S2x64x128) shapeCasts_S2x64x128_S128x128)
      8#32 12#32 2 1 rfl rfl (by pointwise; rfl) (by pointwise; rfl) (fun r => by pointwise) (fun r => by pointwise) (fun r l => by pointwise) (fun r n => by unfold k0_pay45; pointwise) p d v _ (by unfold pc; pointwise))
    rfl
  · have e0 : z 0 = (1 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![4, 18] E slices_S64x128_o4_18_S1x1) (extractStridedSlice S1x1 ![4, 19] E slices_S64x128_o4_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![1, 2, 0, 0] ![1, 2, 64, 128] inb_S16x8x64x128_S1x2x64x128_1_2_0_0)) shapeCasts_S1x2x64x128_S2x64x128) shapeCasts_S2x64x128_S128x128)
      4#32 8#32 1 1 rfl rfl (by pointwise; rfl) (by pointwise; rfl) (fun r => by pointwise) (fun r => by pointwise) (fun r l => by pointwise) (fun r n => by unfold k0_pay45; pointwise) p d v _ (by unfold pc; pointwise))
    rfl
  · have e0 : z 0 = (0 : Fin 16) := Fin.ext (by dsimp at *; omega)
    have e1 : z 1 = ⟨2 * ((1 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![0, 18] E slices_S64x128_o0_18_S1x1) (extractStridedSlice S1x1 ![0, 19] E slices_S64x128_o0_19_S1x1)
      (extractStridedSlice S64x1 ![0, 18] W slices_S64x128_o0_18_S64x1) (extractStridedSlice S64x1 ![0, 19] W slices_S64x128_o0_19_S64x1)
      (extractStridedSlice S64x128 ![0, 128] xs slices_S64x512_o0_128_S64x128) (extractStridedSlice S64x128 ![0, 0] (k0_pay45 bm) slices_S64x256_o0_0_S64x128)
      (shapeCast S128x128 (shapeCast S2x64x128 (View.ld x3 (Rect.unit ![0, 2, 0, 0] ![1, 2, 64, 128] inb_S16x8x64x128_S1x2x64x128_0_2_0_0)) shapeCasts_S1x2x64x128_S2x64x128) shapeCasts_S2x64x128_S128x128)
      0#32 4#32 0 1 rfl rfl (by pointwise; rfl) (by pointwise; rfl) (fun r => by pointwise) (fun r => by pointwise) (fun r l => by pointwise) (fun r n => by unfold k0_pay45; pointwise) p d v _ (by unfold pc; pointwise))
    rfl
  · have e0 : z 0 = (15 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![60, 16] E slices_S64x128_o60_16_S1x1) (extractStridedSlice S1x1 ![60, 17] E slices_S64x128_o60_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![15, 0, 0, 0] ![1, 2, 64, 128] inb_S16x8x64x128_S1x2x64x128_15_0_0_0)) shapeCasts_S1x2x64x128_S2x64x128) shapeCasts_S2x64x128_S128x128)
      60#32 64#32 15 0 rfl rfl (by pointwise; rfl) (by pointwise; rfl) (fun r => by pointwise) (fun r => by pointwise) (fun r l => by pointwise) (fun r n => by unfold k0_pay45; pointwise) p d v _ (by unfold pc; pointwise))
    rfl
  · have e0 : z 0 = (14 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![56, 16] E slices_S64x128_o56_16_S1x1) (extractStridedSlice S1x1 ![56, 17] E slices_S64x128_o56_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![14, 0, 0, 0] ![1, 2, 64, 128] inb_S16x8x64x128_S1x2x64x128_14_0_0_0)) shapeCasts_S1x2x64x128_S2x64x128) shapeCasts_S2x64x128_S128x128)
      56#32 60#32 14 0 rfl rfl (by pointwise; rfl) (by pointwise; rfl) (fun r => by pointwise) (fun r => by pointwise) (fun r l => by pointwise) (fun r n => by unfold k0_pay45; pointwise) p d v _ (by unfold pc; pointwise))
    rfl
  · have e0 : z 0 = (13 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![52, 16] E slices_S64x128_o52_16_S1x1) (extractStridedSlice S1x1 ![52, 17] E slices_S64x128_o52_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![13, 0, 0, 0] ![1, 2, 64, 128] inb_S16x8x64x128_S1x2x64x128_13_0_0_0)) shapeCasts_S1x2x64x128_S2x64x128) shapeCasts_S2x64x128_S128x128)
      52#32 56#32 13 0 rfl rfl (by pointwise; rfl) (by pointwise; rfl) (fun r => by pointwise) (fun r => by pointwise) (fun r l => by pointwise) (fun r n => by unfold k0_pay45; pointwise) p d v _ (by unfold pc; pointwise))
    rfl
  · have e0 : z 0 = (12 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![48, 16] E slices_S64x128_o48_16_S1x1) (extractStridedSlice S1x1 ![48, 17] E slices_S64x128_o48_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![12, 0, 0, 0] ![1, 2, 64, 128] inb_S16x8x64x128_S1x2x64x128_12_0_0_0)) shapeCasts_S1x2x64x128_S2x64x128) shapeCasts_S2x64x128_S128x128)
      48#32 52#32 12 0 rfl rfl (by pointwise; rfl) (by pointwise; rfl) (fun r => by pointwise) (fun r => by pointwise) (fun r l => by pointwise) (fun r n => by unfold k0_pay45; pointwise) p d v _ (by unfold pc; pointwise))
    rfl
  · have e0 : z 0 = (11 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![44, 16] E slices_S64x128_o44_16_S1x1) (extractStridedSlice S1x1 ![44, 17] E slices_S64x128_o44_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![11, 0, 0, 0] ![1, 2, 64, 128] inb_S16x8x64x128_S1x2x64x128_11_0_0_0)) shapeCasts_S1x2x64x128_S2x64x128) shapeCasts_S2x64x128_S128x128)
      44#32 48#32 11 0 rfl rfl (by pointwise; rfl) (by pointwise; rfl) (fun r => by pointwise) (fun r => by pointwise) (fun r l => by pointwise) (fun r n => by unfold k0_pay45; pointwise) p d v _ (by unfold pc; pointwise))
    rfl
  · have e0 : z 0 = (10 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![40, 16] E slices_S64x128_o40_16_S1x1) (extractStridedSlice S1x1 ![40, 17] E slices_S64x128_o40_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![10, 0, 0, 0] ![1, 2, 64, 128] inb_S16x8x64x128_S1x2x64x128_10_0_0_0)) shapeCasts_S1x2x64x128_S2x64x128) shapeCasts_S2x64x128_S128x128)
      40#32 44#32 10 0 rfl rfl (by pointwise; rfl) (by pointwise; rfl) (fun r => by pointwise) (fun r => by pointwise) (fun r l => by pointwise) (fun r n => by unfold k0_pay45; pointwise) p d v _ (by unfold pc; pointwise))
    rfl
  · have e0 : z 0 = (9 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![36, 16] E slices_S64x128_o36_16_S1x1) (extractStridedSlice S1x1 ![36, 17] E slices_S64x128_o36_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![9, 0, 0, 0] ![1, 2, 64, 128] inb_S16x8x64x128_S1x2x64x128_9_0_0_0)) shapeCasts_S1x2x64x128_S2x64x128) shapeCasts_S2x64x128_S128x128)
      36#32 40#32 9 0 rfl rfl (by pointwise; rfl) (by pointwise; rfl) (fun r => by pointwise) (fun r => by pointwise) (fun r l => by pointwise) (fun r n => by unfold k0_pay45; pointwise) p d v _ (by unfold pc; pointwise))
    rfl
  · have e0 : z 0 = (8 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![32, 16] E slices_S64x128_o32_16_S1x1) (extractStridedSlice S1x1 ![32, 17] E slices_S64x128_o32_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![8, 0, 0, 0] ![1, 2, 64, 128] inb_S16x8x64x128_S1x2x64x128_8_0_0_0)) shapeCasts_S1x2x64x128_S2x64x128) shapeCasts_S2x64x128_S128x128)
      32#32 36#32 8 0 rfl rfl (by pointwise; rfl) (by pointwise; rfl) (fun r => by pointwise) (fun r => by pointwise) (fun r l => by pointwise) (fun r n => by unfold k0_pay45; pointwise) p d v _ (by unfold pc; pointwise))
    rfl
  · have e0 : z 0 = (7 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![28, 16] E slices_S64x128_o28_16_S1x1) (extractStridedSlice S1x1 ![28, 17] E slices_S64x128_o28_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![7, 0, 0, 0] ![1, 2, 64, 128] inb_S16x8x64x128_S1x2x64x128_7_0_0_0)) shapeCasts_S1x2x64x128_S2x64x128) shapeCasts_S2x64x128_S128x128)
      28#32 32#32 7 0 rfl rfl (by pointwise; rfl) (by pointwise; rfl) (fun r => by pointwise) (fun r => by pointwise) (fun r l => by pointwise) (fun r n => by unfold k0_pay45; pointwise) p d v _ (by unfold pc; pointwise))
    rfl
  · have e0 : z 0 = (6 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![24, 16] E slices_S64x128_o24_16_S1x1) (extractStridedSlice S1x1 ![24, 17] E slices_S64x128_o24_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![6, 0, 0, 0] ![1, 2, 64, 128] inb_S16x8x64x128_S1x2x64x128_6_0_0_0)) shapeCasts_S1x2x64x128_S2x64x128) shapeCasts_S2x64x128_S128x128)
      24#32 28#32 6 0 rfl rfl (by pointwise; rfl) (by pointwise; rfl) (fun r => by pointwise) (fun r => by pointwise) (fun r l => by pointwise) (fun r n => by unfold k0_pay45; pointwise) p d v _ (by unfold pc; pointwise))
    rfl
  · have e0 : z 0 = (5 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![20, 16] E slices_S64x128_o20_16_S1x1) (extractStridedSlice S1x1 ![20, 17] E slices_S64x128_o20_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![5, 0, 0, 0] ![1, 2, 64, 128] inb_S16x8x64x128_S1x2x64x128_5_0_0_0)) shapeCasts_S1x2x64x128_S2x64x128) shapeCasts_S2x64x128_S128x128)
      20#32 24#32 5 0 rfl rfl (by pointwise; rfl) (by pointwise; rfl) (fun r => by pointwise) (fun r => by pointwise) (fun r l => by pointwise) (fun r n => by unfold k0_pay45; pointwise) p d v _ (by unfold pc; pointwise))
    rfl
  · have e0 : z 0 = (4 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![16, 16] E slices_S64x128_o16_16_S1x1) (extractStridedSlice S1x1 ![16, 17] E slices_S64x128_o16_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![4, 0, 0, 0] ![1, 2, 64, 128] inb_S16x8x64x128_S1x2x64x128_4_0_0_0)) shapeCasts_S1x2x64x128_S2x64x128) shapeCasts_S2x64x128_S128x128)
      16#32 20#32 4 0 rfl rfl (by pointwise; rfl) (by pointwise; rfl) (fun r => by pointwise) (fun r => by pointwise) (fun r l => by pointwise) (fun r n => by unfold k0_pay45; pointwise) p d v _ (by unfold pc; pointwise))
    rfl
  · have e0 : z 0 = (3 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![12, 16] E slices_S64x128_o12_16_S1x1) (extractStridedSlice S1x1 ![12, 17] E slices_S64x128_o12_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![3, 0, 0, 0] ![1, 2, 64, 128] inb_S16x8x64x128_S1x2x64x128_3_0_0_0)) shapeCasts_S1x2x64x128_S2x64x128) shapeCasts_S2x64x128_S128x128)
      12#32 16#32 3 0 rfl rfl (by pointwise; rfl) (by pointwise; rfl) (fun r => by pointwise) (fun r => by pointwise) (fun r l => by pointwise) (fun r n => by unfold k0_pay45; pointwise) p d v _ (by unfold pc; pointwise))
    rfl
  · have e0 : z 0 = (2 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![8, 16] E slices_S64x128_o8_16_S1x1) (extractStridedSlice S1x1 ![8, 17] E slices_S64x128_o8_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![2, 0, 0, 0] ![1, 2, 64, 128] inb_S16x8x64x128_S1x2x64x128_2_0_0_0)) shapeCasts_S1x2x64x128_S2x64x128) shapeCasts_S2x64x128_S128x128)
      8#32 12#32 2 0 rfl rfl (by pointwise; rfl) (by pointwise; rfl) (fun r => by pointwise) (fun r => by pointwise) (fun r l => by pointwise) (fun r n => by unfold k0_pay45; pointwise) p d v _ (by unfold pc; pointwise))
    rfl
  · have e0 : z 0 = (1 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![4, 16] E slices_S64x128_o4_16_S1x1) (extractStridedSlice S1x1 ![4, 17] E slices_S64x128_o4_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![1, 0, 0, 0] ![1, 2, 64, 128] inb_S16x8x64x128_S1x2x64x128_1_0_0_0)) shapeCasts_S1x2x64x128_S2x64x128) shapeCasts_S2x64x128_S128x128)
      4#32 8#32 1 0 rfl rfl (by pointwise; rfl) (by pointwise; rfl) (fun r => by pointwise) (fun r => by pointwise) (fun r l => by pointwise) (fun r n => by unfold k0_pay45; pointwise) p d v _ (by unfold pc; pointwise))
    rfl
  · have e0 : z 0 = (0 : Fin 16) := Fin.ext (by dsimp at *; omega)
    have e1 : z 1 = ⟨2 * ((0 : Fin 4) : ℕ) + p.val, by dsimp; omega⟩ := Fin.ext (by dsimp at *; omega)
    rw [e0, e1]
    refine (congrFun (?_ : _ = supd _ _ _ _ _ _ _ _) _).trans (piece15 _ _ _ xs bm W E hxs hbm hw he (extractStridedSlice S1x1 ![0, 16] E slices_S64x128_o0_16_S1x1) (extractStridedSlice S1x1 ![0, 17] E slices_S64x128_o0_17_S1x1)
      (extractStridedSlice S64x1 ![0, 16] W slices_S64x128_o0_16_S64x1) (extractStridedSlice S64x1 ![0, 17] W slices_S64x128_o0_17_S64x1)
      (extractStridedSlice S64x128 ![0, 0] xs slices_S64x512_o0_0_S64x128) (extractStridedSlice S64x128 ![0, 0] (k0_pay45 bm) slices_S64x256_o0_0_S64x128)
      (shapeCast S128x128 (shapeCast S2x64x128 (View.ld x3 (Rect.unit ![0, 0, 0, 0] ![1, 2, 64, 128] inb_S16x8x64x128_S1x2x64x128_0_0_0_0)) shapeCasts_S1x2x64x128_S2x64x128) shapeCasts_S2x64x128_S128x128)
      0#32 4#32 0 0 rfl rfl (by pointwise; rfl) (by pointwise; rfl) (fun r => by pointwise) (fun r => by pointwise) (fun r l => by pointwise) (fun r n => by unfold k0_pay45; pointwise) p d v _ (by unfold pc; pointwise))
    rfl

end Cert.MixSPIdeal.Sam
end
-- ==== Proof.Sam.SpecS.lean ====
module

public import proofs.«01_k».proof.Proof.Sam.Tile15

@[expose] public section

set_option maxRecDepth 16384
noncomputable section

/-! The sample mixer's new state of the state space heads, as a function of the arguments. -/

namespace Cert.Sam
open Idealize.ShloMosaic Cert.SamMath Cert.MixSPIdeal.Sam

/-- What tap `k` of the convolution reads at row `t` of sequence `b`. -/
def tapS (p : Fin 512 → Fin 3200 → EReal) (tail : Fin 128 → Fin 3 → Fin 1024 → EReal) (b : Fin 128) (t : Fin 4) (k : Fin 3) (j : Fin 1024) : EReal :=
  if h : 3 ≤ t.val + k.val then p ⟨4 * b.val + (t.val + k.val - 3), by omega⟩ ⟨2048 + j.val, by omega⟩ else tail b ⟨t.val + k.val, by omega⟩ j

/-- The activated convolution at row `t` of sequence `b`. -/
def actS (p : Fin 512 → Fin 3200 → EReal) (tail : Fin 128 → Fin 3 → Fin 1024 → EReal) (cw : Fin 4 → Fin 1024 → EReal) (cb : Fin 1024 → EReal) (b : Fin 128) (t : Fin 4) (j : Fin 1024) : EReal :=
  silu (cb j + tapS p tail b t 0 j * cw 0 j + tapS p tail b t 1 j * cw 1 j + tapS p tail b t 2 j * cw 2 j + p ⟨4 * b.val + t.val, by omega⟩ ⟨2048 + j.val, by omega⟩ * cw 3 j)

/-- The step of head `h` at row `t` of sequence `b`. -/
def dtS (p : Fin 512 → Fin 3200 → EReal) (db : Fin 8 → EReal) (b : Fin 128) (t : Fin 4) (h : Fin 8) : EReal :=
  splus (p ⟨4 * b.val + t.val, by omega⟩ ⟨3072 + (16 + h.val), by omega⟩ + db h)

/-- The new state of sequence `b` at head `h`, place `d` and state column `n`, from the old one at the same place. -/
def specS (p : Fin 512 → Fin 3200 → EReal) (tail : Fin 128 → Fin 3 → Fin 1024 → EReal) (cw : Fin 4 → Fin 1024 → EReal) (cb : Fin 1024 → EReal) (db al : Fin 8 → EReal) (st : EReal)
    (b : Fin 128) (h : Fin 8) (d : Fin 64) (n : Fin 128) : EReal :=
  Ideal.exp (∑ u : Fin 4, dtS p db b u h * -Ideal.exp (al h)) * st
    + ∑ t : Fin 4, (actS p tail cw cb b t ⟨64 * h.val + d.val, by omega⟩
        * (Ideal.exp ((∑ u : Fin 4, dtS p db b u h * -Ideal.exp (al h)) - ∑ u : Fin 4, if u ≤ t then dtS p db b u h * -Ideal.exp (al h) else 0) * dtS p db b t h))
      * actS p tail cw cb b t ⟨512 + (128 * (h.val / 4) + n.val), by omega⟩

/-- A block's entry from the arguments, where the blocks read are the arguments' entries. -/
theorem ssm_of (x0 : Vec Ideal Cert.MixSPIdeal.S64x3200 .f32) (x1 : Vec Ideal Cert.MixSPIdeal.S64x1024 .f32) (x3 : EReal) (x7 : Vec Ideal Cert.MixSPIdeal.S4x1024 .f32) (x8 : Vec Ideal Cert.MixSPIdeal.S1x1024 .f32)
    (x9 x10 : Vec Ideal Cert.MixSPIdeal.S1x128 .f32)
    (p : Fin 512 → Fin 3200 → EReal) (tail : Fin 128 → Fin 3 → Fin 1024 → EReal) (cw : Fin 4 → Fin 1024 → EReal) (cb : Fin 1024 → EReal) (db al : Fin 8 → EReal) (st : EReal)
    (b : Fin 128) (s : Fin 16) (h : Fin 8) (d : Fin 64) (n : Fin 128)
    (e0 : ∀ (u : Fin 4) (q : Fin 3200), x0 (ix2 (row s u) q) = p ⟨4 * b.val + u.val, by omega⟩ q)
    (e1 : ∀ (q : Fin 4) (q' : Fin 3), q.val = q'.val + 1 → ∀ j, x1 (ix2 (row s q) j) = tail b q' j)
    (e3 : x3 = st) (e7 : ∀ k j, x7 (ix2 k j) = cw k j) (e8 : ∀ j, x8 (ix2 0 j) = cb j)
    (e9 : ∀ h : Fin 8, x9 (ix2 0 ⟨16 + h.val, by omega⟩) = db h) (e10 : ∀ h : Fin 8, x10 (ix2 0 ⟨16 + h.val, by omega⟩) = -Ideal.exp (al h)) :
    newSsm (actOf x0 x1 x7 x8) (step x0 x9) (fun l => x10 (ix2 0 l)) x3 s h d n = specS p tail cw cb db al st b h d n := by
  have et : ∀ (t : Fin 4) (k : Fin 3) (j : Fin 1024), tap (xbcOf x0) (fun r j => x1 (ix2 r j)) s t k j = tapS p tail b t k j := fun t k j => by
    unfold tap tapS
    by_cases hk : 3 ≤ t.val + k.val
    · rw [dif_pos hk, dif_pos hk]
      exact e0 _ _
    · rw [dif_neg hk, dif_neg hk]
      exact e1 _ _ rfl _
  have ea : ∀ (t : Fin 4) (j : Fin 1024), actOf x0 x1 x7 x8 s t j = actS p tail cw cb b t j := fun t j => by
    unfold actOf act actS
    simp only [et, e7, e8, e0]
  have ed : ∀ t : Fin 4, step x0 x9 (row s t) ⟨16 + h.val, by omega⟩ = dtS p db b t h := fun t => by
    unfold step dtS
    rw [e0, e9]
  unfold newSsm specS
  simp only [ea, ed, e10, e3]

end Cert.Sam
end
-- ==== Proof.Sam.BlocksS.lean ====
module

public import proofs.«01_k».proof.Proof.Sam.InS
public import proofs.«01_k».proof.Proof.Sam.SpecS
public import proofs.«01_k».proof.Proof.Gen.MixSPIdeal.Frame
import Idealize.ShloMosaic.Lib.Pointwise.Tactic
import Idealize.ShloMosaic.Lib.Claim

@[expose] public section

set_option maxRecDepth 16384
noncomputable section

/-! What the sample mixer's array of state space states holds after the run, as a function of the arguments. -/

namespace Cert.MixSPIdeal.Sam
open Cert.MixSPIdeal Cert.MixSPIdeal.Gen Cert.Sam Cert.SamMath Idealize.ShloMosaic Idealize.ShloMosaic.TcCoe Idealize.SL.Sem Cert.AttnMath

variable (m : (ℓ : Loc nD τ sig) → Buf (Elt Ideal) ℓ) (c : Dev nD) (t : Fin cfg0.N)

/-- The array of state space states. -/
def GS (i : S128x8x64x128.Idx) : EReal :=
  specS (fun r j => A0 m c (ix2 r j)) (fun b q j => A1 m c (ix4 0 b q j)) (fun k j => A7 m c (ix3 0 k j)) (fun j => A8 m c (ix2 0 j)) (fun h => A9 m c (ix2 0 h)) (fun h => A10 m c (ix2 0 h))
    (A3 m c (ix5 0 (i 0) (i 1) (i 2) (i 3))) (i 0) (i 1) (i 2) (i 3)

/-- A block's entry from the arguments. -/
theorem ssm_eq (s : Fin 16) (h : Fin 8) (d : Fin 64) (n : Fin 128) :
    newSsm (actOf (iblk m c 0 t) (iblk m c 1 t) (iblk m c 7 t) (iblk m c 8 t)) (step (iblk m c 0 t) (iblk m c 9 t)) (fun l => iblk m c 10 t (ix2 0 l)) (iblk m c 3 t (ix4 s h d n)) s h d n
      = GS m c (ix4 ⟨16 * t.val + s.val, by have := tlt t; omega⟩ h d n) :=
  ssm_of (iblk m c 0 t) (iblk m c 1 t) (iblk m c 3 t (ix4 s h d n)) (iblk m c 7 t) (iblk m c 8 t) (iblk m c 9 t) (iblk m c 10 t) (fun r j => A0 m c (ix2 r j)) _ _ _ _ _ _ _ s h d n
    (fun u q => (b0 m c t (row s u) q).trans (congrArg (fun r => A0 m c (ix2 r q)) (Fin.ext (by
      show 64 * t.val + (4 * s.val + u.val) = 4 * (16 * t.val + s.val) + u.val
      omega)))) (fun q q' hq j => b1 m c t s q q' hq j) (b3 m c t s h d n) (b7 m c t) (b8 m c t) (b9 m c t) (b10_lane m c t)

/-- The block that a tile leaves. -/
theorem after15 (y : S16x8x64x128.Idx) : (outsAt0 m c t).2.2 y = GS m c (ix4 ⟨16 * t.val + (y 0).val, by have := tlt t; have := (y 0).isLt; dsimp at this; omega⟩ (y 1) (y 2) (y 3)) := by
  refine Eq.trans ?_ (ssm_eq m c t (y 0) (y 1) (y 2) (y 3))
  unfold outsAt0
  dsimp only
  unfold out0_A_15
  rw [View.read_writes_junk_eq_canon]
  exact blk15 (hr := b10_nonpos m c t) ..

/-- The array of state space states after the run. -/
theorem final15 : (dats m 0 c).arrAt 15 cfg0.N = GS m c := by
  refine (dats m 0 c).arrAt_eq_of_covers 15 _ (by decide +kernel) fun t hf y => ?_
  have hy := emb15 t y
  blk_simp
  rw [after0_15]
  exact (after15 m c t y).trans (congrArg (GS m c) hy.symm)

end Cert.MixSPIdeal.Sam
end
-- ==== Proof.Sam.Ref.lean ====
module

public import proofs.«01_k».proof.Proof.Sam.Spec
public import proofs.«01_k».proof.Proof.Gen.MixSRIdeal.Run
public import proofs.«01_k».proof.Proof.Gen.MixSRIdeal.Read
public import Idealize.ShloMosaic.Lib.Pipeline.ValueKit
import Idealize.ShloMosaic.Lib.Pointwise.Tactic

@[expose] public section

set_option maxRecDepth 16384
noncomputable section

/-! The sample mixer's reference, entry by entry. -/

namespace Cert.SamRef
open Idealize.ShloMosaic Idealize.SL.Sem Cert.SamMath Cert.Sam Cert.MixSPIdeal.Sam
open Cert.MixSRIdeal Cert.MixSRIdeal.Gen Cert.MixSRIdeal.Read

/-- A running sum over the second of four axes, of four entries. -/
theorem cumsum4 {A B C : Nat} (x : (⟨4, ![A, 4, B, C]⟩ : Shape).Idx → EReal) (init : (⟨0, ![]⟩ : Shape).Idx → EReal) (hinit : ∀ i, init i = 0)
    (h : (⟨4, ![A, 4, B, C]⟩ : Shape).ReduceWindows (![1, 4, 1, 1] : Fin 4 → Nat) ![1, 1, 1, 1] ![0, 3, 0, 0] ![0, 0, 0, 0] (⟨4, ![A, 4, B, C]⟩ : Shape)) (hu : 0 < (⟨0, ![]⟩ : Shape).numel)
    (a : Fin A) (t : Fin 4) (b : Fin B) (c : Fin C) :
    Host.reduceWindow (α := EReal) (· + ·) ![1, 4, 1, 1] ![1, 1, 1, 1] ![0, 3, 0, 0] ![0, 0, 0, 0] x init h hu (ix4 a t b c)
      = ∑ u : Fin 4, if u ≤ t then x (ix4 a u b c) else 0 := by
  have hw : ∀ n : Fin (⟨4, ![1, 4, 1, 1]⟩ : Shape).numel, ∀ q : Fin 4, ((⟨4, ![1, 4, 1, 1]⟩ : Shape).rowMajor.symm n q).val = if q = 1 then n.val else 0 := by decide +kernel
  have hN : (⟨4, ![1, 4, 1, 1]⟩ : Shape).numel = 4 := by decide
  have h0 := hinit (Shape.Idx.first hu)
  have step : ∀ n : Fin (⟨4, ![1, 4, 1, 1]⟩ : Shape).numel,
      (if hin : ∀ q : Fin 4, (![0, 3, 0, 0] : Fin 4 → Nat) q ≤ (fun q : Fin 4 => (ix4 a t b c q).val * (![1, 1, 1, 1] : Fin 4 → Nat) q + ((⟨4, ![1, 4, 1, 1]⟩ : Shape).rowMajor.symm n q).val) q
          ∧ (fun q : Fin 4 => (ix4 a t b c q).val * (![1, 1, 1, 1] : Fin 4 → Nat) q + ((⟨4, ![1, 4, 1, 1]⟩ : Shape).rowMajor.symm n q).val) q - (![0, 3, 0, 0] : Fin 4 → Nat) q < (⟨4, ![A, 4, B, C]⟩ : Shape).size q then
        x (fun q => ⟨(fun q : Fin 4 => (ix4 a t b c q).val * (![1, 1, 1, 1] : Fin 4 → Nat) q + ((⟨4, ![1, 4, 1, 1]⟩ : Shape).rowMajor.symm n q).val) q - (![0, 3, 0, 0] : Fin 4 → Nat) q, (hin q).2⟩) else 0)
      = if h : 3 ≤ t.val + n.val then x (ix4 a ⟨t.val + n.val - 3, by have := n.isLt; omega⟩ b c) else 0 := by
    intro n
    have hn : n.val < 4 := lt_of_lt_of_eq n.isLt hN
    have w1 : ((⟨4, ![1, 4, 1, 1]⟩ : Shape).rowMajor.symm n 1).val = n.val := (hw n 1).trans (if_pos rfl)
    by_cases hc : 3 ≤ t.val + n.val
    · rw [dif_pos hc, dif_pos]
      · refine congrArg x (funext fun q => Fin.ext ?_)
        have := hw n q
        match q with
        | ⟨0, _⟩ => simp [this, ix4]
        | ⟨1, _⟩ => simp [w1, ix4]
        | ⟨2, _⟩ => simp [this, ix4]
        | ⟨3, _⟩ => simp [this, ix4]
      · intro q
        have := hw n q
        match q with
        | ⟨0, _⟩ => simp [this, ix4]
        | ⟨1, _⟩ => simp [w1, ix4]; omega
        | ⟨2, _⟩ => simp [this, ix4]
        | ⟨3, _⟩ => simp [this, ix4]
    · rw [dif_neg hc, dif_neg]
      intro hq
      have e := (hq 1).1
      have := hw n 1
      simp [this, ix4] at e
      omega
  unfold Host.reduceWindow
  refine Eq.trans (b := List.foldl (fun r (n : Fin (⟨4, ![1, 4, 1, 1]⟩ : Shape).numel) => r + if h : 3 ≤ t.val + n.val then x (ix4 a ⟨t.val + n.val - 3, by have := n.isLt; omega⟩ b c) else 0) 0 (List.finRange (⟨4, ![1, 4, 1, 1]⟩ : Shape).numel)) ?_ ?_
  · rw [h0]
    refine List.foldl_ext _ _ _ fun r n _ => ?_
    exact congrArg (r + ·) ((dite_congr rfl (fun _ => rfl) (fun _ => rfl)).trans (step n))
  · have hl : List.finRange (⟨4, ![1, 4, 1, 1]⟩ : Shape).numel = [⟨0, by decide⟩, ⟨1, by decide⟩, ⟨2, by decide⟩, ⟨3, by decide⟩] := by decide
    rw [hl]
    simp only [List.foldl_cons, List.foldl_nil, Fin.sum_univ_four]
    fin_cases t <;> simp
variable (x0 : (⟨S512x3200, .f32⟩ : BufTy).Contents (Elt Ideal)) (x2 : (⟨S1x128x4x64x128, .f32⟩ : BufTy).Contents (Elt Ideal))
  (x4 : (⟨S1x16x256, .f32⟩ : BufTy).Contents (Elt Ideal)) (x5 : (⟨S1x256, .f32⟩ : BufTy).Contents (Elt Ideal))

/-- The reference's gate before its logarithm. -/
theorem v13_apply (b : Fin 128) (u : Fin 4) (q : Fin 256) : val_main_v13 (F := Ideal) x0 x4 x5 (ix3 b u q)
    = (∑ k : Fin 16, x0 (ix2 ⟨4 * b.val + u.val, by omega⟩ ⟨3072 + k.val, by omega⟩) * x4 (ix3 0 k q)) + x5 (ix2 0 q) := by
  unfold val_main_v13 val_main_v12 val_main_v11 val_main_v10 val_main_v9 val_main_v8 val_main_v6 val_main_v0
  pointwise
  simp only [Nat.mul_comm]

/-- The reference's logarithm of the gate. -/
theorem v16_apply (b : Fin 128) (u : Fin 4) (q : Fin 256) : val_main_v16 (F := Ideal) x0 x4 x5 (ix3 b u q)
    = rowGate (fun r j => x0 (ix2 r j)) (fun k q => x4 (ix3 0 k q)) (fun q => x5 (ix2 0 q)) b u q := by
  refine Eq.trans ?_ (lf_eq _)
  rw [← v13_apply]
  unfold val_main_v16 val_main_v15 val_main_cst val_main_v14 val_main_call0_v1 val_main_call0_call0_v11 val_main_call0_call0_v10 val_main_call0_call0_v9 val_main_call0_call0_v8
    val_main_call0_call0_v7 val_main_call0_call0_v6 val_main_call0_call0_v5 val_main_call0_call0_v4 val_main_call0_call0_v3 val_main_call0_call0_v2 val_main_call0_call0_v1 val_main_call0_call0_v0
    val_main_call0_call0_cst val_main_call0_v0
  generalize val_main_v13 (F := Ideal) x0 x4 x5 = y
  pointwise
  rw [if_neg (fun h => h rfl)]
  rfl

/-- The reference's gates with the key columns split into heads. -/
theorem v17_apply (b : Fin 128) (u : Fin 4) (h : Fin 4) (d : Fin 64) : val_main_v17 (F := Ideal) x0 x4 x5 (ix4 b u h d)
    = val_main_v16 (F := Ideal) x0 x4 x5 (ix3 b u (kc h d)) := by
  unfold val_main_v17
  generalize val_main_v16 (F := Ideal) x0 x4 x5 = y
  pointwise
  simp only [kc, vc, Nat.mul_comm]

/-- The reference's running sums. -/
theorem v18_apply (b : Fin 128) (t : Fin 4) (h : Fin 4) (d : Fin 64) : val_main_v18 (F := Ideal) x0 x4 x5 (ix4 b t h d)
    = ∑ u : Fin 4, if u ≤ t then rowGate (fun r j => x0 (ix2 r j)) (fun k q => x4 (ix3 0 k q)) (fun q => x5 (ix2 0 q)) b u (kc h d) else 0 := by
  unfold val_main_v18
  have e := v17_apply x0 x4 x5
  generalize val_main_v17 (F := Ideal) x0 x4 x5 = y at e ⊢
  have hs : Host.reduceWindowAdd (F := Ideal) (φ := .f32) ![1, 4, 1, 1] ![1, 1, 1, 1] ![0, 3, 0, 0] ![0, 0, 0, 0] y (val_main_call1_call0_v0 (F := Ideal)) reduceWindows_S128x4x4x64_S128x4x4x64_w1s1p0_0_w4s1p3_0_w1s1p0_0_w1s1p0_0 h_S_
      = Host.reduceWindow (α := EReal) (· + ·) ![1, 4, 1, 1] ![1, 1, 1, 1] ![0, 3, 0, 0] ![0, 0, 0, 0] y (val_main_call1_call0_v0 (F := Ideal)) reduceWindows_S128x4x4x64_S128x4x4x64_w1s1p0_0_w4s1p3_0_w1s1p0_0_w1s1p0_0 h_S_ := by
    rfl
  refine (congrFun hs _).trans ((cumsum4 y (val_main_call1_call0_v0 (F := Ideal)) (fun i => ?_) reduceWindows_S128x4x4x64_S128x4x4x64_w1s1p0_0_w4s1p3_0_w1s1p0_0_w1s1p0_0 h_S_ b t h d).trans (Finset.sum_congr rfl fun u _ => ?_))
  · rw [val_main_call1_call0_v0_apply, val_main_call1_call0_cst_apply]
    exact Ideal.ofBits_zero_f32
  · rw [e, v16_apply]

/-- The last running sum is the whole sum. -/
theorem v20_apply (b : Fin 128) (h : Fin 4) (d : Fin 64) : val_main_v20 (F := Ideal) x0 x4 x5 (ix3 b h d)
    = ∑ u : Fin 4, rowGate (fun r j => x0 (ix2 r j)) (fun k q => x4 (ix3 0 k q)) (fun q => x5 (ix2 0 q)) b u (kc h d) := by
  refine Eq.trans ?_ ((v18_apply x0 x4 x5 b 3 h d).trans (Finset.sum_congr rfl fun u _ => if_pos (Fin.le_last u)))
  unfold val_main_v20 val_main_v19
  generalize val_main_v18 (F := Ideal) x0 x4 x5 = y
  pointwise

/-- The reference's old state, decayed. -/
theorem v25_apply (b : Fin 128) (h : Fin 4) (d : Fin 64) (j : Fin 128) : val_main_v25 (F := Ideal) x0 x2 x4 x5 (ix4 b h d j)
    = Ideal.exp (∑ u : Fin 4, rowGate (fun r j => x0 (ix2 r j)) (fun k q => x4 (ix3 0 k q)) (fun q => x5 (ix2 0 q)) b u (kc h d)) * x2 (ix5 0 b h d j) := by
  rw [← v20_apply]
  unfold val_main_v25 val_main_v24 val_main_v23 val_main_v22 val_main_v21
  generalize val_main_v20 (F := Ideal) x0 x4 x5 = y
  pointwise

/-- The reference's weighted keys. -/
theorem v30_apply (b : Fin 128) (t : Fin 4) (h : Fin 4) (d : Fin 64) : val_main_v30 (F := Ideal) x0 x4 x5 (ix4 b t h d)
    = x0 (ix2 ⟨4 * b.val + t.val, by omega⟩ ⟨256 + (kc h d).val, by omega⟩) * Ideal.exp (val_main_v20 (F := Ideal) x0 x4 x5 (ix3 b h d) - val_main_v18 (F := Ideal) x0 x4 x5 (ix4 b t h d)) := by
  unfold val_main_v30 val_main_v29 val_main_v28 val_main_v27 val_main_v26 val_main_v2 val_main_v1 val_main_v0
  generalize val_main_v20 (F := Ideal) x0 x4 x5 = y
  generalize val_main_v18 (F := Ideal) x0 x4 x5 = z
  pointwise
  simp only [kc, vc, Nat.mul_comm]

/-- The reference's values. -/
theorem v4_apply (b : Fin 128) (t : Fin 4) (h : Fin 4) (j : Fin 128) : val_main_v4 (F := Ideal) x0 (ix4 b t h j)
    = x0 (ix2 ⟨4 * b.val + t.val, by omega⟩ ⟨512 + (vc h j).val, by omega⟩) := by
  unfold val_main_v4 val_main_v3 val_main_v0
  pointwise
  simp only [kc, vc, Nat.mul_comm]

/-- The reference's new state. -/
theorem v32_apply (b : Fin 128) (h : Fin 4) (d : Fin 64) (j : Fin 128) : val_main_v32 (F := Ideal) x0 x2 x4 x5 (ix4 b h d j)
    = spec (fun r j => x0 (ix2 r j)) (x2 (ix5 0 b h d j)) (fun k q => x4 (ix3 0 k q)) (fun q => x5 (ix2 0 q)) b h d j := by
  have e : ∀ k : Fin 4, lidx_main_v31 (ix4 b h d j) k = ix4 b k h d := fun k => funext fun a => by
    match a with | ⟨0, _⟩ => rfl | ⟨1, _⟩ => rfl | ⟨2, _⟩ => rfl | ⟨3, _⟩ => rfl
  have e' : ∀ k : Fin 4, ridx_main_v31 (ix4 b h d j) k = ix4 b k h j := fun k => funext fun a => by
    match a with | ⟨0, _⟩ => rfl | ⟨1, _⟩ => rfl | ⟨2, _⟩ => rfl | ⟨3, _⟩ => rfl
  refine (val_main_v32_apply x0 x2 x4 x5 _).trans ?_
  rw [v25_apply, val_main_v31_apply]
  unfold spec
  refine congrArg (Ideal.exp _ * _ + ·) (Finset.sum_congr rfl fun k _ => ?_)
  rw [e, e', v30_apply, v4_apply, v20_apply, v18_apply]

/-- Equal arguments give equal states. -/
theorem congr4 {a a' : S512x3200.Idx → EReal} {s s' : S1x128x4x64x128.Idx → EReal} {w w' : S1x16x256.Idx → EReal} {b b' : S1x256.Idx → EReal}
    (e0 : a = a') (e2 : s = s') (e4 : w = w') (e5 : b = b') : val_main_v32 (F := Ideal) a s w b = val_main_v32 (F := Ideal) a' s' w' b' := by
  subst e0 e2 e4 e5
  rfl

end Cert.SamRef
end
-- ==== Proof.Sam.RefS.lean ====
module

public import proofs.«01_k».proof.Proof.Sam.SpecS
public import proofs.«01_k».proof.Proof.Sam.Ref
import Idealize.ShloMosaic.Lib.Pointwise.Tactic

@[expose] public section

set_option maxRecDepth 16384
noncomputable section

/-! The sample mixer's reference for the state space heads, entry by entry. -/

namespace Cert.SamRef
open Idealize.ShloMosaic Idealize.SL.Sem Cert.SamMath Cert.Sam Cert.MixSPIdeal.Sam
open Cert.MixSRIdeal Cert.MixSRIdeal.Gen Cert.MixSRIdeal.Read

/-- A running sum over the second of three axes, of four entries. -/
theorem cumsum3 {A B : Nat} (x : (⟨3, ![A, 4, B]⟩ : Shape).Idx → EReal) (init : (⟨0, ![]⟩ : Shape).Idx → EReal) (hinit : ∀ i, init i = 0)
    (h : (⟨3, ![A, 4, B]⟩ : Shape).ReduceWindows (![1, 4, 1] : Fin 3 → Nat) ![1, 1, 1] ![0, 3, 0] ![0, 0, 0] (⟨3, ![A, 4, B]⟩ : Shape)) (hu : 0 < (⟨0, ![]⟩ : Shape).numel)
    (a : Fin A) (t : Fin 4) (b : Fin B) :
    Host.reduceWindow (α := EReal) (· + ·) ![1, 4, 1] ![1, 1, 1] ![0, 3, 0] ![0, 0, 0] x init h hu (ix3 a t b)
      = ∑ u : Fin 4, if u ≤ t then x (ix3 a u b) else 0 := by
  have hw : ∀ n : Fin (⟨3, ![1, 4, 1]⟩ : Shape).numel, ∀ q : Fin 3, ((⟨3, ![1, 4, 1]⟩ : Shape).rowMajor.symm n q).val = if q = 1 then n.val else 0 := by decide +kernel
  have hN : (⟨3, ![1, 4, 1]⟩ : Shape).numel = 4 := by decide
  have h0 := hinit (Shape.Idx.first hu)
  have step : ∀ n : Fin (⟨3, ![1, 4, 1]⟩ : Shape).numel,
      (if hin : ∀ q : Fin 3, (![0, 3, 0] : Fin 3 → Nat) q ≤ (fun q : Fin 3 => (ix3 a t b q).val * (![1, 1, 1] : Fin 3 → Nat) q + ((⟨3, ![1, 4, 1]⟩ : Shape).rowMajor.symm n q).val) q
          ∧ (fun q : Fin 3 => (ix3 a t b q).val * (![1, 1, 1] : Fin 3 → Nat) q + ((⟨3, ![1, 4, 1]⟩ : Shape).rowMajor.symm n q).val) q - (![0, 3, 0] : Fin 3 → Nat) q < (⟨3, ![A, 4, B]⟩ : Shape).size q then
        x (fun q => ⟨(fun q : Fin 3 => (ix3 a t b q).val * (![1, 1, 1] : Fin 3 → Nat) q + ((⟨3, ![1, 4, 1]⟩ : Shape).rowMajor.symm n q).val) q - (![0, 3, 0] : Fin 3 → Nat) q, (hin q).2⟩) else 0)
      = if h : 3 ≤ t.val + n.val then x (ix3 a ⟨t.val + n.val - 3, by have := n.isLt; omega⟩ b) else 0 := by
    intro n
    have hn : n.val < 4 := lt_of_lt_of_eq n.isLt hN
    have w1 : ((⟨3, ![1, 4, 1]⟩ : Shape).rowMajor.symm n 1).val = n.val := (hw n 1).trans (if_pos rfl)
    by_cases hc : 3 ≤ t.val + n.val
    · rw [dif_pos hc, dif_pos]
      · refine congrArg x (funext fun q => Fin.ext ?_)
        have := hw n q
        match q with
        | ⟨0, _⟩ => simp [this, ix3]
        | ⟨1, _⟩ => simp [w1, ix3]
        | ⟨2, _⟩ => simp [this, ix3]
      · intro q
        have := hw n q
        match q with
        | ⟨0, _⟩ => simp [this, ix3]
        | ⟨1, _⟩ => simp [w1, ix3]; omega
        | ⟨2, _⟩ => simp [this, ix3]
    · rw [dif_neg hc, dif_neg]
      intro hq
      have e := (hq 1).1
      have := hw n 1
      simp [this, ix3] at e
      omega
  unfold Host.reduceWindow
  refine Eq.trans (b := List.foldl (fun r (n : Fin (⟨3, ![1, 4, 1]⟩ : Shape).numel) => r + if h : 3 ≤ t.val + n.val then x (ix3 a ⟨t.val + n.val - 3, by have := n.isLt; omega⟩ b) else 0) 0 (List.finRange (⟨3, ![1, 4, 1]⟩ : Shape).numel)) ?_ ?_
  · rw [h0]
    refine List.foldl_ext _ _ _ fun r n _ => ?_
    exact congrArg (r + ·) ((dite_congr rfl (fun _ => rfl) (fun _ => rfl)).trans (step n))
  · have hl : List.finRange (⟨3, ![1, 4, 1]⟩ : Shape).numel = [⟨0, by decide⟩, ⟨1, by decide⟩, ⟨2, by decide⟩, ⟨3, by decide⟩] := by decide
    rw [hl]
    simp only [List.foldl_cons, List.foldl_nil, Fin.sum_univ_four]
    fin_cases t <;> simp

/-- A value times the reciprocal that the reference takes is the kernel's quotient. -/
theorem silu_eq (x : EReal) : x * Ideal.div 1 (1 + Ideal.exp (-x)) = silu x := by
  have h : (1 : EReal) + Ideal.exp (-x) ≠ 0 := fun e => by
    have h1 : (1 : EReal) ≤ 1 + Ideal.exp (-x) := by simpa using add_le_add_right (exp_nonneg (-x)) (1 : EReal)
    rw [e] at h1
    exact absurd h1 (by norm_num)
  unfold silu Ideal.div
  rw [zero_sub, if_neg h, if_neg h, one_mul]

variable (x0 : (⟨S512x3200, .f32⟩ : BufTy).Contents (Elt Ideal)) (x1 : (⟨S1x128x3x1024, .f32⟩ : BufTy).Contents (Elt Ideal)) (x3 : (⟨S1x128x8x64x128, .f32⟩ : BufTy).Contents (Elt Ideal))
  (x7 : (⟨S1x4x1024, .f32⟩ : BufTy).Contents (Elt Ideal)) (x8 : (⟨S1x1024, .f32⟩ : BufTy).Contents (Elt Ideal)) (x9 x10 : (⟨S1x8, .f32⟩ : BufTy).Contents (Elt Ideal))

/-- The tail's rows, then the sequence's. -/
theorem v34_apply (b : Fin 128) (r : Fin 7) (j : Fin 1024) : val_main_v34 (F := Ideal) x0 x1 (ix3 b r j)
    = if h : r.val < 3 then x1 (ix4 0 b ⟨r.val, h⟩ j) else x0 (ix2 ⟨4 * b.val + (r.val - 3), by omega⟩ ⟨2048 + j.val, by omega⟩) := by
  by_cases h : r.val < 3
  · rw [dif_pos h]
    unfold val_main_v34 val_main_v33 val_main_v5 val_main_v0
    pointwise
    rw [dif_pos h]
  · rw [dif_neg h]
    unfold val_main_v34 val_main_v33 val_main_v5 val_main_v0
    pointwise
    rw [dif_neg h]
    simp only [Nat.mul_comm]

/-- Tap 0 of the reference's convolution. -/
theorem v36_apply (b : Fin 128) (t : Fin 4) (j : Fin 1024) : val_main_v36 (F := Ideal) x0 x1 (ix3 b t j) = tapS (fun r j => x0 (ix2 r j)) (fun b q j => x1 (ix4 0 b q j)) b t 0 j := by
  refine Eq.trans (b := val_main_v34 (F := Ideal) x0 x1 (ix3 b ⟨t.val + 0, by omega⟩ j)) ?_ ?_
  · unfold val_main_v36
    generalize val_main_v34 (F := Ideal) x0 x1 = y
    pointwise
  · rw [v34_apply]
    unfold tapS
    by_cases h : t.val + 0 < 3
    · rw [dif_pos h, dif_neg (by dsimp; omega)]
      rfl
    · rw [dif_neg h, dif_pos (by dsimp; omega)]
      rfl

/-- Tap 1 of the reference's convolution. -/
theorem v46_apply (b : Fin 128) (t : Fin 4) (j : Fin 1024) : val_main_v46 (F := Ideal) x0 x1 (ix3 b t j) = tapS (fun r j => x0 (ix2 r j)) (fun b q j => x1 (ix4 0 b q j)) b t 1 j := by
  refine Eq.trans (b := val_main_v34 (F := Ideal) x0 x1 (ix3 b ⟨t.val + 1, by omega⟩ j)) ?_ ?_
  · unfold val_main_v46
    generalize val_main_v34 (F := Ideal) x0 x1 = y
    pointwise
    simp only [Nat.add_comm]
  · rw [v34_apply]
    unfold tapS
    by_cases h : t.val + 1 < 3
    · rw [dif_pos h, dif_neg (by dsimp; omega)]
      rfl
    · rw [dif_neg h, dif_pos (by dsimp; omega)]
      rfl

/-- Tap 2 of the reference's convolution. -/
theorem v54_apply (b : Fin 128) (t : Fin 4) (j : Fin 1024) : val_main_v54 (F := Ideal) x0 x1 (ix3 b t j) = tapS (fun r j => x0 (ix2 r j)) (fun b q j => x1 (ix4 0 b q j)) b t 2 j := by
  refine Eq.trans (b := val_main_v34 (F := Ideal) x0 x1 (ix3 b ⟨t.val + 2, by omega⟩ j)) ?_ ?_
  · unfold val_main_v54
    generalize val_main_v34 (F := Ideal) x0 x1 = y
    pointwise
    simp only [Nat.add_comm]
  · rw [v34_apply]
    unfold tapS
    by_cases h : t.val + 2 < 3
    · rw [dif_pos h, dif_neg (by dsimp; omega)]
      rfl
    · rw [dif_neg h, dif_pos (by dsimp; omega)]
      rfl

/-- The last tap of the reference's convolution. -/
theorem v62_apply (b : Fin 128) (t : Fin 4) (j : Fin 1024) : val_main_v62 (F := Ideal) x0 x1 (ix3 b t j) = x0 (ix2 ⟨4 * b.val + t.val, by omega⟩ ⟨2048 + j.val, by omega⟩) := by
  refine Eq.trans (b := val_main_v34 (F := Ideal) x0 x1 (ix3 b ⟨t.val + 3, by omega⟩ j)) ?_ ?_
  · unfold val_main_v62
    generalize val_main_v34 (F := Ideal) x0 x1 = y
    pointwise
    simp only [Nat.add_comm]
  · rw [v34_apply, dif_neg (by dsimp; omega)]
    rfl

/-- The reference's activated convolution. -/
theorem v70_apply (b : Fin 128) (t : Fin 4) (j : Fin 1024) : val_main_v70 (F := Ideal) x0 x1 x7 x8 (ix3 b t j)
    = actS (fun r j => x0 (ix2 r j)) (fun b q j => x1 (ix4 0 b q j)) (fun k j => x7 (ix3 0 k j)) (fun j => x8 (ix2 0 j)) b t j := by
  have e : val_main_v69 (F := Ideal) x0 x1 x7 x8 (ix3 b t j) = x8 (ix2 0 j) + tapS (fun r j => x0 (ix2 r j)) (fun b q j => x1 (ix4 0 b q j)) b t 0 j * x7 (ix3 0 0 j)
      + tapS (fun r j => x0 (ix2 r j)) (fun b q j => x1 (ix4 0 b q j)) b t 1 j * x7 (ix3 0 1 j) + tapS (fun r j => x0 (ix2 r j)) (fun b q j => x1 (ix4 0 b q j)) b t 2 j * x7 (ix3 0 2 j)
      + x0 (ix2 ⟨4 * b.val + t.val, by omega⟩ ⟨2048 + j.val, by omega⟩) * x7 (ix3 0 3 j) := by
    rw [← v36_apply, ← v46_apply, ← v54_apply, ← v62_apply x0 x1]
    unfold val_main_v69 val_main_v68 val_main_v67 val_main_v66 val_main_v65 val_main_v64 val_main_v63 val_main_v61 val_main_v60 val_main_v59 val_main_v58 val_main_v57 val_main_v56 val_main_v55
      val_main_v53 val_main_v52 val_main_v51 val_main_v50 val_main_v49 val_main_v48 val_main_v47 val_main_v45 val_main_v44 val_main_v43 val_main_v42 val_main_v41 val_main_v40 val_main_v39 val_main_v38 val_main_v37 val_main_v35
    generalize val_main_v36 (F := Ideal) x0 x1 = y0
    generalize val_main_v46 (F := Ideal) x0 x1 = y1
    generalize val_main_v54 (F := Ideal) x0 x1 = y2
    generalize val_main_v62 (F := Ideal) x0 x1 = y3
    pointwise
  refine Eq.trans ?_ ((silu_eq _).trans (congrArg silu e))
  unfold val_main_v70 val_main_call2_v5 val_main_call2_v4 val_main_call2_cst_0 val_main_call2_v3 val_main_call2_v2 val_main_call2_cst val_main_call2_v1 val_main_call2_v0
  generalize val_main_v69 (F := Ideal) x0 x1 x7 x8 = y
  pointwise

/-- The head's inputs. -/
theorem v72_apply (b : Fin 128) (t : Fin 4) (h : Fin 8) (d : Fin 64) : val_main_v72 (F := Ideal) x0 x1 x7 x8 (ix4 b t h d)
    = val_main_v70 (F := Ideal) x0 x1 x7 x8 (ix3 b t ⟨64 * h.val + d.val, by omega⟩) := by
  unfold val_main_v72 val_main_v71
  generalize val_main_v70 (F := Ideal) x0 x1 x7 x8 = y
  pointwise
  simp only [Nat.mul_comm]

/-- The head's group's input matrix. -/
theorem v76_apply (b : Fin 128) (t : Fin 4) (h : Fin 8) (n : Fin 128) : val_main_v76 (F := Ideal) x0 x1 x7 x8 (ix4 b t h n)
    = val_main_v70 (F := Ideal) x0 x1 x7 x8 (ix3 b t ⟨512 + (128 * (h.val / 4) + n.val), by omega⟩) := by
  unfold val_main_v76 val_main_v75 val_main_v74 val_main_v73
  generalize val_main_v70 (F := Ideal) x0 x1 x7 x8 = y
  pointwise
  simp only [Nat.mul_comm]

/-- The reference's step. -/
theorem v81_apply (b : Fin 128) (t : Fin 4) (h : Fin 8) : val_main_v81 (F := Ideal) x0 x9 (ix3 b t h) = dtS (fun r j => x0 (ix2 r j)) (fun h => x9 (ix2 0 h)) b t h := by
  have e : val_main_v80 (F := Ideal) x0 x9 (ix3 b t h) = x0 (ix2 ⟨4 * b.val + t.val, by omega⟩ ⟨3072 + (16 + h.val), by omega⟩) + x9 (ix2 0 h) := by
    unfold val_main_v80 val_main_v79 val_main_v78 val_main_v77 val_main_v7 val_main_v0
    pointwise
    exact congrArg (· + x9 (ix2 0 h)) (congrArg x0 (congr (congrArg ix2 (Fin.ext (by dsimp; omega))) (Fin.ext (by dsimp; omega))))
  unfold dtS
  refine Eq.trans ?_ (congrArg splus e)
  unfold val_main_v81 val_main_call3_v11 val_main_call3_v10 val_main_call3_v9 val_main_call3_v8 val_main_call3_v7 val_main_call3_v6 val_main_call3_v5 val_main_call3_v4 val_main_call3_v3
    val_main_call3_v2 val_main_call3_v1 val_main_call3_v0 val_main_call3_cst
  generalize val_main_v80 (F := Ideal) x0 x9 = y
  pointwise
  rw [if_neg (fun h => h rfl)]
  rfl

/-- The reference's logarithm of the decay. -/
theorem v87_apply (b : Fin 128) (t : Fin 4) (h : Fin 8) : val_main_v87 (F := Ideal) x0 x9 x10 (ix3 b t h)
    = dtS (fun r j => x0 (ix2 r j)) (fun h => x9 (ix2 0 h)) b t h * -Ideal.exp (x10 (ix2 0 h)) := by
  rw [← v81_apply]
  unfold val_main_v87 val_main_v86 val_main_v85 val_main_v84 val_main_v83 val_main_v82
  generalize val_main_v81 (F := Ideal) x0 x9 = y
  pointwise

/-- The reference's running sums. -/
theorem v88_apply (b : Fin 128) (t : Fin 4) (h : Fin 8) : val_main_v88 (F := Ideal) x0 x9 x10 (ix3 b t h)
    = ∑ u : Fin 4, if u ≤ t then dtS (fun r j => x0 (ix2 r j)) (fun h => x9 (ix2 0 h)) b u h * -Ideal.exp (x10 (ix2 0 h)) else 0 := by
  unfold val_main_v88
  have e := v87_apply x0 x9 x10
  generalize val_main_v87 (F := Ideal) x0 x9 x10 = y at e ⊢
  have hs : Host.reduceWindowAdd (F := Ideal) (φ := .f32) ![1, 4, 1] ![1, 1, 1] ![0, 3, 0] ![0, 0, 0] y (val_main_call4_call0_v0 (F := Ideal)) reduceWindows_S128x4x8_S128x4x8_w1s1p0_0_w4s1p3_0_w1s1p0_0 h_S_
      = Host.reduceWindow (α := EReal) (· + ·) ![1, 4, 1] ![1, 1, 1] ![0, 3, 0] ![0, 0, 0] y (val_main_call4_call0_v0 (F := Ideal)) reduceWindows_S128x4x8_S128x4x8_w1s1p0_0_w4s1p3_0_w1s1p0_0 h_S_ := by
    rfl
  refine (congrFun hs _).trans ((cumsum3 y (val_main_call4_call0_v0 (F := Ideal)) (fun i => ?_) reduceWindows_S128x4x8_S128x4x8_w1s1p0_0_w4s1p3_0_w1s1p0_0 h_S_ b t h).trans (Finset.sum_congr rfl fun u _ => ?_))
  · rw [val_main_call4_call0_v0_apply, val_main_call4_call0_cst_apply]
    exact Ideal.ofBits_zero_f32
  · rw [e]

/-- The last running sum is the whole sum. -/
theorem v90_apply (b : Fin 128) (h : Fin 8) : val_main_v90 (F := Ideal) x0 x9 x10 (ix2 b h)
    = ∑ u : Fin 4, dtS (fun r j => x0 (ix2 r j)) (fun h => x9 (ix2 0 h)) b u h * -Ideal.exp (x10 (ix2 0 h)) := by
  refine Eq.trans ?_ ((v88_apply x0 x9 x10 b 3 h).trans (Finset.sum_congr rfl fun u _ => if_pos (Fin.le_last u)))
  unfold val_main_v90 val_main_v89
  generalize val_main_v88 (F := Ideal) x0 x9 x10 = y
  pointwise

/-- The reference's old state, decayed. -/
theorem v100_apply (b : Fin 128) (h : Fin 8) (d : Fin 64) (n : Fin 128) : val_main_v100 (F := Ideal) x0 x3 x9 x10 (ix4 b h d n)
    = Ideal.exp (∑ u : Fin 4, dtS (fun r j => x0 (ix2 r j)) (fun h => x9 (ix2 0 h)) b u h * -Ideal.exp (x10 (ix2 0 h))) * x3 (ix5 0 b h d n) := by
  rw [← v90_apply]
  unfold val_main_v100 val_main_v99 val_main_v98 val_main_v97 val_main_v96
  generalize val_main_v90 (F := Ideal) x0 x9 x10 = y
  pointwise

/-- The reference's weighted inputs. -/
theorem v103_apply (b : Fin 128) (t : Fin 4) (h : Fin 8) (d : Fin 64) : val_main_v103 (F := Ideal) x0 x1 x7 x8 x9 x10 (ix4 b t h d)
    = val_main_v72 (F := Ideal) x0 x1 x7 x8 (ix4 b t h d) * (Ideal.exp (val_main_v90 (F := Ideal) x0 x9 x10 (ix2 b h) - val_main_v88 (F := Ideal) x0 x9 x10 (ix3 b t h)) * val_main_v81 (F := Ideal) x0 x9 (ix3 b t h)) := by
  refine Eq.trans ?_ (mul_comm _ _)
  unfold val_main_v103 val_main_v102 val_main_v101 val_main_v95 val_main_v94 val_main_v93 val_main_v92 val_main_v91
  generalize val_main_v90 (F := Ideal) x0 x9 x10 = y
  generalize val_main_v88 (F := Ideal) x0 x9 x10 = z
  generalize val_main_v81 (F := Ideal) x0 x9 = w
  generalize val_main_v72 (F := Ideal) x0 x1 x7 x8 = v
  pointwise

/-- The reference's new state. -/
theorem v105_apply (b : Fin 128) (h : Fin 8) (d : Fin 64) (n : Fin 128) : val_main_v105 (F := Ideal) x0 x1 x3 x7 x8 x9 x10 (ix4 b h d n)
    = specS (fun r j => x0 (ix2 r j)) (fun b q j => x1 (ix4 0 b q j)) (fun k j => x7 (ix3 0 k j)) (fun j => x8 (ix2 0 j)) (fun h => x9 (ix2 0 h)) (fun h => x10 (ix2 0 h)) (x3 (ix5 0 b h d n)) b h d n := by
  have e : ∀ k : Fin 4, lidx_main_v104 (ix4 b h d n) k = ix4 b k h d := fun k => funext fun a => by
    match a with | ⟨0, _⟩ => rfl | ⟨1, _⟩ => rfl | ⟨2, _⟩ => rfl | ⟨3, _⟩ => rfl
  have e' : ∀ k : Fin 4, ridx_main_v104 (ix4 b h d n) k = ix4 b k h n := fun k => funext fun a => by
    match a with | ⟨0, _⟩ => rfl | ⟨1, _⟩ => rfl | ⟨2, _⟩ => rfl | ⟨3, _⟩ => rfl
  refine (val_main_v105_apply x0 x1 x3 x7 x8 x9 x10 _).trans ?_
  rw [v100_apply, val_main_v104_apply]
  unfold specS
  refine congrArg (Ideal.exp _ * _ + ·) (Finset.sum_congr rfl fun k _ => ?_)
  rw [e, e', v103_apply, v72_apply, v76_apply, v70_apply, v70_apply, v90_apply, v88_apply, v81_apply]

/-- Equal arguments give equal states. -/
theorem congr7 {a a' : S512x3200.Idx → EReal} {p p' : S1x128x3x1024.Idx → EReal} {s s' : S1x128x8x64x128.Idx → EReal} {w w' : S1x4x1024.Idx → EReal} {b b' : S1x1024.Idx → EReal} {u u' v v' : S1x8.Idx → EReal}
    (e0 : a = a') (e1 : p = p') (e3 : s = s') (e7 : w = w') (e8 : b = b') (e9 : u = u') (e10 : v = v') :
    val_main_v105 (F := Ideal) a p s w b u v = val_main_v105 (F := Ideal) a' p' s' w' b' u' v' := by
  subst e0 e1 e3 e7 e8 e9 e10
  rfl

end Cert.SamRef
end
-- ==== Proof.Sam.Equal.lean ====
module

public import proofs.«01_k».proof.Defs
public import proofs.«01_k».proof.Proof.Sam.Blocks
public import proofs.«01_k».proof.Proof.Sam.BlocksS
public import proofs.«01_k».proof.Proof.Sam.Ref
public import proofs.«01_k».proof.Proof.Sam.RefS

@[expose] public section

set_option maxRecDepth 16384
noncomputable section

/-! The sample mixer's call and its reference end with the same states of the gated linear attention and of the state space heads. -/

namespace Cert.SamEqual
open Idealize.ShloMosaic Idealize.SL.Sem Cert.MixSPIdeal.Sam Cert.SamRef
open Cert.MixSRIdeal Cert.MixSRIdeal.Gen Cert.MixSRIdeal.Read

/-- The reference's states are the kernel's. -/
theorem value (m : (ℓ : Loc Cert.MixSPIdeal.nD Cert.MixSPIdeal.τ Cert.MixSPIdeal.sig) → Buf (Elt Ideal) ℓ) (c : Dev Cert.MixSPIdeal.nD) :
    val_main_v32 (F := Ideal) (A0 m c) (A2 m c) (A4 m c) (A5 m c) = G m c := by
  funext i
  have hi : i = ix4 (i 0) (i 1) (i 2) (i 3) := funext fun a => by match a with | ⟨0, _⟩ => rfl | ⟨1, _⟩ => rfl | ⟨2, _⟩ => rfl | ⟨3, _⟩ => rfl
  rw [hi]
  exact v32_apply _ _ _ _ _ _ _ _

/-- The reference's state space states are the kernel's. -/
theorem valueS (m : (ℓ : Loc Cert.MixSPIdeal.nD Cert.MixSPIdeal.τ Cert.MixSPIdeal.sig) → Buf (Elt Ideal) ℓ) (c : Dev Cert.MixSPIdeal.nD) :
    val_main_v105 (F := Ideal) (A0 m c) (A1 m c) (A3 m c) (A7 m c) (A8 m c) (A9 m c) (A10 m c) = GS m c := by
  funext i
  have hi : i = ix4 (i 0) (i 1) (i 2) (i 3) := funext fun a => by match a with | ⟨0, _⟩ => rfl | ⟨1, _⟩ => rfl | ⟨2, _⟩ => rfl | ⟨3, _⟩ => rfl
  rw [hi]
  exact v105_apply _ _ _ _ _ _ _ _ _ _ _

/-- The kernel's and the reference's results are equal, on every device, from memories that agree on the arguments. -/
theorem algebraic : Cert.algebraic_MixSPIdeal_MixSRIdeal := by
  intro m ρ m' ρ' _ hagree
  refine ⟨fun c => G m c, fun c => GS m c, ?_, ?_⟩
  · exact (θ_run Cert.MixSPIdeal.defs _ _).mono (fun _ h c => ⟨((h.1 c).1 14).trans (final14 m c), ((h.1 c).1 15).trans (final15 m c), h.2 c⟩)
      (θ_run_and (Cert.MixSPIdeal.Gen.run_main m ρ) (Cert.MixSPIdeal.Gen.unchanged m ρ))
  · refine (θ_run Cert.MixSRIdeal.defs _ _).mono (fun _ h c => ⟨?_, ?_, (h c).2.2⟩) (Cert.MixSRIdeal.Value.run m' ρ')
    · obtain ⟨e0, _, e2, _, e4, e5, _⟩ := hagree c
      exact ((h c).1.trans (val_main_v32_eq _ _)).trans ((congr4 e0 e2 e4 e5).trans (value m c))
    · obtain ⟨e0, e1, _, e3, _, _, _, e7, e8, e9, e10, _⟩ := hagree c
      exact ((h c).2.1.trans (val_main_v105_eq _ _)).trans ((congr7 e0 e1 e3 e7 e8 e9 e10).trans (valueS m c))

end Cert.SamEqual
end
-- ==== Proof.lean ====
module

public import proofs.«01_k».proof.Defs
public import proofs.«01_k».proof.Proof.Gen.AttnP
public import proofs.«01_k».proof.Proof.Gen.AttnP.Skeleton
public import proofs.«01_k».proof.Proof.Gen.AttnP.Launch
public import proofs.«01_k».proof.Proof.Gen.AttnP.Points
public import proofs.«01_k».proof.Proof.Gen.AttnP.Frame
public import proofs.«01_k».proof.Proof.Gen.AttnPIdeal
public import proofs.«01_k».proof.Proof.Gen.AttnPIdeal.Skeleton
public import proofs.«01_k».proof.Proof.Gen.AttnPIdeal.Launch
public import proofs.«01_k».proof.Proof.Gen.AttnPIdeal.Points
public import proofs.«01_k».proof.Proof.Gen.AttnPIdeal.Frame
public import proofs.«01_k».proof.Proof.Gen.AttnRIdeal
public import proofs.«01_k».proof.Proof.Gen.AttnPIdeal.Value
public import proofs.«01_k».proof.Proof.Gen.AttnRIdeal.Run
public import proofs.«01_k».proof.Proof.Gen.AttnRIdeal.Read
public import proofs.«01_k».proof.Proof.Gen.KvP
public import proofs.«01_k».proof.Proof.Gen.KvP.Skeleton
public import proofs.«01_k».proof.Proof.Gen.KvP.Launch
public import proofs.«01_k».proof.Proof.Gen.KvP.Points
public import proofs.«01_k».proof.Proof.Gen.KvP.Frame
public import proofs.«01_k».proof.Proof.Gen.KvPIdeal
public import proofs.«01_k».proof.Proof.Gen.KvPIdeal.Skeleton
public import proofs.«01_k».proof.Proof.Gen.KvPIdeal.Launch
public import proofs.«01_k».proof.Proof.Gen.KvPIdeal.Points
public import proofs.«01_k».proof.Proof.Gen.KvPIdeal.Frame
public import proofs.«01_k».proof.Proof.Gen.KvPIdeal.Value
public import proofs.«01_k».proof.Proof.Gen.KvRIdeal
public import proofs.«01_k».proof.Proof.Gen.KvRIdeal.Run
public import proofs.«01_k».proof.Proof.Gen.KvRIdeal.Read
public import proofs.«01_k».proof.Proof.Gen.FfnP
public import proofs.«01_k».proof.Proof.Gen.FfnP.Skeleton
public import proofs.«01_k».proof.Proof.Gen.FfnP.Launch
public import proofs.«01_k».proof.Proof.Gen.FfnP.Points
public import proofs.«01_k».proof.Proof.Gen.FfnP.Frame
public import proofs.«01_k».proof.Proof.Gen.FfnPIdeal
public import proofs.«01_k».proof.Proof.Gen.FfnPIdeal.Skeleton
public import proofs.«01_k».proof.Proof.Gen.FfnPIdeal.Launch
public import proofs.«01_k».proof.Proof.Gen.FfnPIdeal.Points
public import proofs.«01_k».proof.Proof.Gen.FfnPIdeal.Frame
public import proofs.«01_k».proof.Proof.Gen.FfnPIdeal.Value
public import proofs.«01_k».proof.Proof.Gen.FfnRIdeal
public import proofs.«01_k».proof.Proof.Gen.FfnRIdeal.Run
public import proofs.«01_k».proof.Proof.Gen.FfnRIdeal.Read
public import proofs.«01_k».proof.Proof.Gen.PostP
public import proofs.«01_k».proof.Proof.Gen.PostP.Skeleton
public import proofs.«01_k».proof.Proof.Gen.PostP.Launch
public import proofs.«01_k».proof.Proof.Gen.PostP.Points
public import proofs.«01_k».proof.Proof.Gen.PostP.Frame
public import proofs.«01_k».proof.Proof.Gen.PostPIdeal
public import proofs.«01_k».proof.Proof.Gen.PostPIdeal.Skeleton
public import proofs.«01_k».proof.Proof.Gen.PostPIdeal.Launch
public import proofs.«01_k».proof.Proof.Gen.PostPIdeal.Points
public import proofs.«01_k».proof.Proof.Gen.PostPIdeal.Frame
public import proofs.«01_k».proof.Proof.Gen.PostPIdeal.Value
public import proofs.«01_k».proof.Proof.Gen.PostRIdeal
public import proofs.«01_k».proof.Proof.Gen.PostRIdeal.Run
public import proofs.«01_k».proof.Proof.Gen.PostRIdeal.Read
public import proofs.«01_k».proof.Proof.Gen.ProjP
public import proofs.«01_k».proof.Proof.Gen.ProjP.Skeleton
public import proofs.«01_k».proof.Proof.Gen.ProjP.Launch
public import proofs.«01_k».proof.Proof.Gen.ProjP.Points
public import proofs.«01_k».proof.Proof.Gen.ProjP.Frame
public import proofs.«01_k».proof.Proof.Gen.ProjPIdeal
public import proofs.«01_k».proof.Proof.Gen.ProjPIdeal.Skeleton
public import proofs.«01_k».proof.Proof.Gen.ProjPIdeal.Launch
public import proofs.«01_k».proof.Proof.Gen.ProjPIdeal.Points
public import proofs.«01_k».proof.Proof.Gen.ProjPIdeal.Frame
public import proofs.«01_k».proof.Proof.Gen.ProjRIdeal
public import proofs.«01_k».proof.Proof.Gen.ProjRIdeal.Run
public import proofs.«01_k».proof.Proof.Gen.ProjRIdeal.Read
public import proofs.«01_k».proof.Proof.Attn.Equal
public import proofs.«01_k».proof.Proof.Kv.Equal
public import proofs.«01_k».proof.Proof.Ffn.Equal
public import proofs.«01_k».proof.Proof.Post.Equal
public import proofs.«01_k».proof.Proof.Proj.Equal
public import proofs.«01_k».proof.Proof.Gen.MixSP
public import proofs.«01_k».proof.Proof.Gen.MixSP.Frame
public import proofs.«01_k».proof.Proof.Sam.Equal
public import Idealize.ShloMosaic.Adequacy
public import Idealize.ShloMosaic.Init

@[expose] public section

noncomputable section

namespace Cert.Proof

open Idealize.ShloMosaic Idealize.SL.Sem Cert.AttnP

/-- The attention reference runs, leaves its arguments as they were and declares no semaphore. -/
theorem attn_ref_frame : Cert.quiescent_AttnRIdeal := fun m ρ _ =>
  (θ_run Cert.AttnRIdeal.defs _ _).mono (fun r h => ⟨fun c => (h c).2, Idealize.ShloMosaic.sem_eq_zero_of_no_sems (by decide) r.2⟩) (Cert.AttnRIdeal.Value.run m ρ)

/-- The memory's keys and values reference runs, leaves its arguments as they were and declares no semaphore. -/
theorem kv_ref_frame : Cert.quiescent_KvRIdeal := fun m ρ _ =>
  (θ_run Cert.KvRIdeal.defs _ _).mono (fun r h => ⟨fun c => (h c).2.2, Idealize.ShloMosaic.sem_eq_zero_of_no_sems (by decide) r.2⟩) (Cert.KvRIdeal.Value.run m ρ)

/-- The sample rows' feed-forward reference runs, leaves its arguments as they were and declares no semaphore. -/
theorem ffn_ref_frame : Cert.quiescent_FfnRIdeal := fun m ρ _ =>
  (θ_run Cert.FfnRIdeal.defs _ _).mono (fun r h => ⟨fun c => (h c).2, Idealize.ShloMosaic.sem_eq_zero_of_no_sems (by decide) r.2⟩) (Cert.FfnRIdeal.Value.run m ρ)

/-- The residual and query reference runs, leaves its arguments as they were and declares no semaphore. -/
theorem post_ref_frame : Cert.quiescent_PostRIdeal := fun m ρ _ =>
  (θ_run Cert.PostRIdeal.defs _ _).mono (fun r h => ⟨fun c => (h c).2.2, Idealize.ShloMosaic.sem_eq_zero_of_no_sems (by decide) r.2⟩) (Cert.PostRIdeal.Value.run m ρ)

/-- The input projection reference runs, leaves its arguments as they were and declares no semaphore. -/
theorem proj_ref_frame : Cert.quiescent_ProjRIdeal := fun m ρ _ =>
  (θ_run Cert.ProjRIdeal.defs _ _).mono (fun r h => ⟨fun c => (h c).2.2, Idealize.ShloMosaic.sem_eq_zero_of_no_sems (by decide) r.2⟩) (Cert.ProjRIdeal.Value.run m ρ)

/-- The sample mixer's reference runs, leaves its arguments as they were and declares no semaphore. -/
theorem sam_ref_frame : Cert.quiescent_MixSRIdeal := fun m ρ _ =>
  (θ_run Cert.MixSRIdeal.defs _ _).mono (fun r h => ⟨fun c => (h c).2.2, Idealize.ShloMosaic.sem_eq_zero_of_no_sems (by decide) r.2⟩) (Cert.MixSRIdeal.Value.run m ρ)

/-- Everything claimed. -/
theorem claim : Cert.Claim := ⟨
  Cert.AttnP.Gen.facts, Cert.AttnPIdeal.Gen.facts, Cert.AttnRIdeal.Gen.facts,
  Cert.KvP.Gen.facts, Cert.KvPIdeal.Gen.facts, Cert.KvRIdeal.Gen.facts,
  Cert.FfnP.Gen.facts, Cert.FfnPIdeal.Gen.facts, Cert.FfnRIdeal.Gen.facts,
  Cert.PostP.Gen.facts, Cert.PostPIdeal.Gen.facts, Cert.PostRIdeal.Gen.facts,
  Cert.ProjP.Gen.facts, Cert.ProjPIdeal.Gen.facts, Cert.ProjRIdeal.Gen.facts,
  Cert.MixSP.Gen.facts, Cert.MixSPIdeal.Gen.facts, Cert.MixSRIdeal.Gen.facts,
  fun m ρ _ => Cert.AttnP.Gen.frame m ρ, fun m ρ _ => Cert.AttnPIdeal.Gen.frame m ρ, attn_ref_frame,
  fun m ρ _ => Cert.KvP.Gen.frame m ρ, fun m ρ _ => Cert.KvPIdeal.Gen.frame m ρ, kv_ref_frame,
  fun m ρ _ => Cert.FfnP.Gen.frame m ρ, fun m ρ _ => Cert.FfnPIdeal.Gen.frame m ρ, ffn_ref_frame,
  fun m ρ _ => Cert.PostP.Gen.frame m ρ, fun m ρ _ => Cert.PostPIdeal.Gen.frame m ρ, post_ref_frame,
  fun m ρ _ => Cert.ProjP.Gen.frame m ρ, fun m ρ _ => Cert.ProjPIdeal.Gen.frame m ρ, proj_ref_frame,
  fun m ρ _ => Cert.MixSP.Gen.frame m ρ, fun m ρ _ => Cert.MixSPIdeal.Gen.frame m ρ, sam_ref_frame,
  trivial, Cert.AttnEqual.algebraic,
  trivial, Cert.KvEqual.algebraic,
  trivial, Cert.FfnEqual.algebraic,
  trivial, Cert.PostEqual.algebraic,
  trivial, Cert.ProjEqual.algebraic,
  trivial, Cert.SamEqual.algebraic⟩

end Cert.Proof

end
